-- ==== Defs.lean ====
def Pre_Experts [hPre_tiles_in_range : Cert.Pre_tiles_in_range.Facts] (m : (ℓ : Loc Cert.Experts.nD Cert.Experts.τ Cert.Experts.sig) → Buf (Elt Bits) ℓ) : Prop :=
  ∀ c : Dev Cert.Experts.nD,
    (Cert.Pre_tiles_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_tiles_in_range : Cert.Pre_tiles_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiles_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsIdeal_routed [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_routed [hPre_routed : Cert.Pre_routed.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_PrepW (m : (ℓ : Loc Cert.PrepW.nD Cert.PrepW.τ Cert.PrepW.sig) → Buf (Elt Bits) ℓ) : Prop :=
  True

def Pre_PrepWIdeal (m : (ℓ : Loc Cert.PrepWIdeal.nD Cert.PrepWIdeal.τ Cert.PrepWIdeal.sig) → Buf (Elt Ideal) ℓ) : Prop :=
  True

def Pre_PrepWRefIdeal (m : (ℓ : Loc Cert.PrepWRefIdeal.nD Cert.PrepWRefIdeal.τ Cert.PrepWRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_HyIn (m : (ℓ : Loc Cert.HyIn.nD Cert.HyIn.τ Cert.HyIn.sig) → Buf (Elt Bits) ℓ) : Prop :=
  True

def Pre_HyInIdeal (m : (ℓ : Loc Cert.HyInIdeal.nD Cert.HyInIdeal.τ Cert.HyInIdeal.sig) → Buf (Elt Ideal) ℓ) : Prop :=
  True

def Pre_HyInRefIdeal (m : (ℓ : Loc Cert.HyInRefIdeal.nD Cert.HyInRefIdeal.τ Cert.HyInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnIdeal_finite [hPre_finite : Cert.Pre_finite.Facts] (m : (ℓ : Loc Cert.AdalnIdeal.nD Cert.AdalnIdeal.τ Cert.AdalnIdeal.sig) → Buf (Elt Ideal) ℓ) : Prop :=
  ∀ c : Dev Cert.AdalnIdeal.nD,
    (Cert.Pre_finite.fn (F := Ideal) (m ((c.tc : Thread Cert.AdalnIdeal.nD Cert.AdalnIdeal.τ).loc Cert.AdalnIdeal.main_arg0)) (m ((c.tc : Thread Cert.AdalnIdeal.nD Cert.AdalnIdeal.τ).loc Cert.AdalnIdeal.main_arg1)) (m ((c.tc : Thread Cert.AdalnIdeal.nD Cert.AdalnIdeal.τ).loc Cert.AdalnIdeal.main_arg2)) (m ((c.tc : Thread Cert.AdalnIdeal.nD Cert.AdalnIdeal.τ).loc Cert.AdalnIdeal.main_arg3))) = (fun _ => 1#1)

def Pre_AdalnRefIdeal (m : (ℓ : Loc Cert.AdalnRefIdeal.nD Cert.AdalnRefIdeal.τ Cert.AdalnRefIdeal.sig) → Buf (Elt Ideal) ℓ) : Prop :=
  True

def Pre_AdalnRefIdeal_finite [hPre_finite : Cert.Pre_finite.Facts] (m : (ℓ : Loc Cert.AdalnRefIdeal.nD Cert.AdalnRefIdeal.τ Cert.AdalnRefIdeal.sig) → Buf (Elt Ideal) ℓ) : Prop :=
  ∀ c : Dev Cert.AdalnRefIdeal.nD,
    (Cert.Pre_finite.fn (F := Ideal) (m ((c.tc : Thread Cert.AdalnRefIdeal.nD Cert.AdalnRefIdeal.τ).loc Cert.AdalnRefIdeal.main_arg0)) (m ((c.tc : Thread Cert.AdalnRefIdeal.nD Cert.AdalnRefIdeal.τ).loc Cert.AdalnRefIdeal.main_arg1)) (m ((c.tc : Thread Cert.AdalnRefIdeal.nD Cert.AdalnRefIdeal.τ).loc Cert.AdalnRefIdeal.main_arg2)) (m ((c.tc : Thread Cert.AdalnRefIdeal.nD Cert.AdalnRefIdeal.τ).loc Cert.AdalnRefIdeal.main_arg3))) = (fun _ => 1#1)

def Pre_AttnC (m : (ℓ : Loc Cert.AttnC.nD Cert.AttnC.τ Cert.AttnC.sig) → Buf (Elt Bits) ℓ) : Prop :=
  True

def Pre_AttnCIdeal (m : (ℓ : Loc Cert.AttnCIdeal.nD Cert.AttnCIdeal.τ Cert.AttnCIdeal.sig) → Buf (Elt Ideal) ℓ) : Prop :=
  True

def Pre_AttnCIdeal_finite_attnc [hPre_finite_attnc : Cert.Pre_finite_attnc.Facts] (m : (ℓ : Loc Cert.AttnCIdeal.nD Cert.AttnCIdeal.τ Cert.AttnCIdeal.sig) → Buf (Elt Ideal) ℓ) : Prop :=
  ∀ c : Dev Cert.AttnCIdeal.nD,
    (Cert.Pre_finite_attnc.fn (F := Ideal) (m ((c.tc : Thread Cert.AttnCIdeal.nD Cert.AttnCIdeal.τ).loc Cert.AttnCIdeal.main_arg0)) (m ((c.tc : Thread Cert.AttnCIdeal.nD Cert.AttnCIdeal.τ).loc Cert.AttnCIdeal.main_arg1)) (m ((c.tc : Thread Cert.AttnCIdeal.nD Cert.AttnCIdeal.τ).loc Cert.AttnCIdeal.main_arg2))) = (fun _ => 1#1)

def Pre_AttnCRefIdeal (m : (ℓ : Loc Cert.AttnCRefIdeal.nD Cert.AttnCRefIdeal.τ Cert.AttnCRefIdeal.sig) → Buf (Elt Ideal) ℓ) : Prop :=
  True

def Pre_AttnCRefIdeal_finite_attnc [hPre_finite_attnc : Cert.Pre_finite_attnc.Facts] (m : (ℓ : Loc Cert.AttnCRefIdeal.nD Cert.AttnCRefIdeal.τ Cert.AttnCRefIdeal.sig) → Buf (Elt Ideal) ℓ) : Prop :=
  ∀ c : Dev Cert.AttnCRefIdeal.nD,
    (Cert.Pre_finite_attnc.fn (F := Ideal) (m ((c.tc : Thread Cert.AttnCRefIdeal.nD Cert.AttnCRefIdeal.τ).loc Cert.AttnCRefIdeal.main_arg0)) (m ((c.tc : Thread Cert.AttnCRefIdeal.nD Cert.AttnCRefIdeal.τ).loc Cert.AttnCRefIdeal.main_arg1)) (m ((c.tc : Thread Cert.AttnCRefIdeal.nD Cert.AttnCRefIdeal.τ).loc Cert.AttnCRefIdeal.main_arg2))) = (fun _ => 1#1)

def quiescent_Experts [hExperts : Cert.Experts.Facts] [hPre_tiles_in_range : Cert.Pre_tiles_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tiles_in_range : Cert.Pre_tiles_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsIdeal_pre_routed [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_routed m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_routed [hExpertsRefIdeal : Cert.ExpertsRefIdeal.Facts] [hPre_routed : Cert.Pre_routed.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_routed m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def quiescent_PrepW [hPrepW : Cert.PrepW.Facts] : Prop :=
  ∀ (m : (ℓ : Loc Cert.PrepW.nD Cert.PrepW.τ Cert.PrepW.sig) → Buf (Elt Bits) ℓ) (g : Dev Cert.PrepW.nD → PrngReg), Pre_PrepW m →
    θ_run (Cert.PrepW.defs (F := Bits)) (onTc (τ := Cert.PrepW.τ) (Cert.PrepW.main (F := Bits))) ⟨m, fun _ => 0, g⟩ (fun r => (∀ c : Dev Cert.PrepW.nD,
      r.2.mem ((c.tc : Thread Cert.PrepW.nD Cert.PrepW.τ).loc Cert.PrepW.main_arg0) = m ((c.tc : Thread Cert.PrepW.nD Cert.PrepW.τ).loc Cert.PrepW.main_arg0))
      ∧ r.2.sem = fun _ => 0)

def quiescent_PrepWIdeal [hPrepWIdeal : Cert.PrepWIdeal.Facts] : Prop :=
  ∀ (m : (ℓ : Loc Cert.PrepWIdeal.nD Cert.PrepWIdeal.τ Cert.PrepWIdeal.sig) → Buf (Elt Ideal) ℓ) (g : Dev Cert.PrepWIdeal.nD → PrngReg), Pre_PrepWIdeal m →
    θ_run (Cert.PrepWIdeal.defs (F := Ideal)) (onTc (τ := Cert.PrepWIdeal.τ) (Cert.PrepWIdeal.main (F := Ideal))) ⟨m, fun _ => 0, g⟩ (fun r => (∀ c : Dev Cert.PrepWIdeal.nD,
      r.2.mem ((c.tc : Thread Cert.PrepWIdeal.nD Cert.PrepWIdeal.τ).loc Cert.PrepWIdeal.main_arg0) = m ((c.tc : Thread Cert.PrepWIdeal.nD Cert.PrepWIdeal.τ).loc Cert.PrepWIdeal.main_arg0))
      ∧ r.2.sem = fun _ => 0)

def quiescent_PrepWRefIdeal [hPrepWRefIdeal : Cert.PrepWRefIdeal.Facts] : Prop :=
  ∀ (m : (ℓ : Loc Cert.PrepWRefIdeal.nD Cert.PrepWRefIdeal.τ Cert.PrepWRefIdeal.sig) → Buf (Elt Ideal) ℓ) (g : Dev Cert.PrepWRefIdeal.nD → PrngReg), Pre_PrepWRefIdeal m →
    θ_run (Cert.PrepWRefIdeal.defs (F := Ideal)) (onTc (τ := Cert.PrepWRefIdeal.τ) (Cert.PrepWRefIdeal.main (F := Ideal))) ⟨m, fun _ => 0, g⟩ (fun r => (∀ c : Dev Cert.PrepWRefIdeal.nD,
      r.2.mem ((c.tc : Thread Cert.PrepWRefIdeal.nD Cert.PrepWRefIdeal.τ).loc Cert.PrepWRefIdeal.main_arg0) = m ((c.tc : Thread Cert.PrepWRefIdeal.nD Cert.PrepWRefIdeal.τ).loc Cert.PrepWRefIdeal.main_arg0))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_HyIn [hHyIn : Cert.HyIn.Facts] : Prop :=
  ∀ (m : (ℓ : Loc Cert.HyIn.nD Cert.HyIn.τ Cert.HyIn.sig) → Buf (Elt Bits) ℓ) (g : Dev Cert.HyIn.nD → PrngReg), Pre_HyIn m →
    θ_run (Cert.HyIn.defs (F := Bits)) (onTc (τ := Cert.HyIn.τ) (Cert.HyIn.main (F := Bits))) ⟨m, fun _ => 0, g⟩ (fun r => (∀ c : Dev Cert.HyIn.nD,
      r.2.mem ((c.tc : Thread Cert.HyIn.nD Cert.HyIn.τ).loc Cert.HyIn.main_arg0) = m ((c.tc : Thread Cert.HyIn.nD Cert.HyIn.τ).loc Cert.HyIn.main_arg0)
      ∧ r.2.mem ((c.tc : Thread Cert.HyIn.nD Cert.HyIn.τ).loc Cert.HyIn.main_arg1) = m ((c.tc : Thread Cert.HyIn.nD Cert.HyIn.τ).loc Cert.HyIn.main_arg1)
      ∧ r.2.mem ((c.tc : Thread Cert.HyIn.nD Cert.HyIn.τ).loc Cert.HyIn.main_arg2) = m ((c.tc : Thread Cert.HyIn.nD Cert.HyIn.τ).loc Cert.HyIn.main_arg2)
      ∧ r.2.mem ((c.tc : Thread Cert.HyIn.nD Cert.HyIn.τ).loc Cert.HyIn.main_arg3) = m ((c.tc : Thread Cert.HyIn.nD Cert.HyIn.τ).loc Cert.HyIn.main_arg3)
      ∧ r.2.mem ((c.tc : Thread Cert.HyIn.nD Cert.HyIn.τ).loc Cert.HyIn.main_arg4) = m ((c.tc : Thread Cert.HyIn.nD Cert.HyIn.τ).loc Cert.HyIn.main_arg4))
      ∧ r.2.sem = fun _ => 0)

def quiescent_HyInIdeal [hHyInIdeal : Cert.HyInIdeal.Facts] : Prop :=
  ∀ (m : (ℓ : Loc Cert.HyInIdeal.nD Cert.HyInIdeal.τ Cert.HyInIdeal.sig) → Buf (Elt Ideal) ℓ) (g : Dev Cert.HyInIdeal.nD → PrngReg), Pre_HyInIdeal m →
    θ_run (Cert.HyInIdeal.defs (F := Ideal)) (onTc (τ := Cert.HyInIdeal.τ) (Cert.HyInIdeal.main (F := Ideal))) ⟨m, fun _ => 0, g⟩ (fun r => (∀ c : Dev Cert.HyInIdeal.nD,
      r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
      ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
      ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
      ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3)
      ∧ r.2.mem ((c.tc : Thread Cert.HyInIdeal.nD Cert.HyInIdeal.τ).loc Cert.HyInIdeal.main_arg4) = m ((c.tc : Thread Cert.HyInIdeal.nD Cert.HyInIdeal.τ).loc Cert.HyInIdeal.main_arg4))
      ∧ r.2.sem = fun _ => 0)

def quiescent_HyInRefIdeal [hHyInRefIdeal : Cert.HyInRefIdeal.Facts] : Prop :=
  ∀ (m : (ℓ : Loc Cert.HyInRefIdeal.nD Cert.HyInRefIdeal.τ Cert.HyInRefIdeal.sig) → Buf (Elt Ideal) ℓ) (g : Dev Cert.HyInRefIdeal.nD → PrngReg), Pre_HyInRefIdeal m →
    θ_run (Cert.HyInRefIdeal.defs (F := Ideal)) (onTc (τ := Cert.HyInRefIdeal.τ) (Cert.HyInRefIdeal.main (F := Ideal))) ⟨m, fun _ => 0, g⟩ (fun r => (∀ c : Dev Cert.HyInRefIdeal.nD,
      r.2.mem ((c.tc : Thread Cert.HyInRefIdeal.nD Cert.HyInRefIdeal.τ).loc Cert.HyInRefIdeal.main_arg0) = m ((c.tc : Thread Cert.HyInRefIdeal.nD Cert.HyInRefIdeal.τ).loc Cert.HyInRefIdeal.main_arg0)
      ∧ r.2.mem ((c.tc : Thread Cert.HyInRefIdeal.nD Cert.HyInRefIdeal.τ).loc Cert.HyInRefIdeal.main_arg1) = m ((c.tc : Thread Cert.HyInRefIdeal.nD Cert.HyInRefIdeal.τ).loc Cert.HyInRefIdeal.main_arg1)
      ∧ r.2.mem ((c.tc : Thread Cert.HyInRefIdeal.nD Cert.HyInRefIdeal.τ).loc Cert.HyInRefIdeal.main_arg2) = m ((c.tc : Thread Cert.HyInRefIdeal.nD Cert.HyInRefIdeal.τ).loc Cert.HyInRefIdeal.main_arg2)
      ∧ r.2.mem ((c.tc : Thread Cert.HyInRefIdeal.nD Cert.HyInRefIdeal.τ).loc Cert.HyInRefIdeal.main_arg3) = m ((c.tc : Thread Cert.HyInRefIdeal.nD Cert.HyInRefIdeal.τ).loc Cert.HyInRefIdeal.main_arg3)
      ∧ r.2.mem ((c.tc : Thread Cert.HyInRefIdeal.nD Cert.HyInRefIdeal.τ).loc Cert.HyInRefIdeal.main_arg4) = m ((c.tc : Thread Cert.HyInRefIdeal.nD Cert.HyInRefIdeal.τ).loc Cert.HyInRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2)
      ∧ r.2.mem ((c.tc : Thread Cert.Adaln.nD Cert.Adaln.τ).loc Cert.Adaln.main_arg3) = m ((c.tc : Thread Cert.Adaln.nD Cert.Adaln.τ).loc Cert.Adaln.main_arg3))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
      ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3))
      ∧ r.2.sem = fun _ => 0)

def quiescent_AdalnIdeal_pre_finite [hAdalnIdeal : Cert.AdalnIdeal.Facts] [hPre_finite : Cert.Pre_finite.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal_finite m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
      ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2)
      ∧ r.2.mem ((c.tc : Thread Cert.AdalnRefIdeal.nD Cert.AdalnRefIdeal.τ).loc Cert.AdalnRefIdeal.main_arg3) = m ((c.tc : Thread Cert.AdalnRefIdeal.nD Cert.AdalnRefIdeal.τ).loc Cert.AdalnRefIdeal.main_arg3))
      ∧ r.2.sem = fun _ => 0)

def quiescent_AdalnRefIdeal_pre_finite [hAdalnRefIdeal : Cert.AdalnRefIdeal.Facts] [hPre_finite : Cert.Pre_finite.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal_finite m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2)
      ∧ r.2.mem ((c.tc : Thread Cert.AdalnRefIdeal.nD Cert.AdalnRefIdeal.τ).loc Cert.AdalnRefIdeal.main_arg3) = m ((c.tc : Thread Cert.AdalnRefIdeal.nD Cert.AdalnRefIdeal.τ).loc Cert.AdalnRefIdeal.main_arg3))
      ∧ r.2.sem = fun _ => 0)

def quiescent_AttnC [hAttnC : Cert.AttnC.Facts] : Prop :=
  ∀ (m : (ℓ : Loc Cert.AttnC.nD Cert.AttnC.τ Cert.AttnC.sig) → Buf (Elt Bits) ℓ) (g : Dev Cert.AttnC.nD → PrngReg), Pre_AttnC m →
    θ_run (Cert.AttnC.defs (F := Bits)) (onTc (τ := Cert.AttnC.τ) (Cert.AttnC.main (F := Bits))) ⟨m, fun _ => 0, g⟩ (fun r => (∀ c : Dev Cert.AttnC.nD,
      r.2.mem ((c.tc : Thread Cert.AttnC.nD Cert.AttnC.τ).loc Cert.AttnC.main_arg0) = m ((c.tc : Thread Cert.AttnC.nD Cert.AttnC.τ).loc Cert.AttnC.main_arg0)
      ∧ r.2.mem ((c.tc : Thread Cert.AttnC.nD Cert.AttnC.τ).loc Cert.AttnC.main_arg1) = m ((c.tc : Thread Cert.AttnC.nD Cert.AttnC.τ).loc Cert.AttnC.main_arg1)
      ∧ r.2.mem ((c.tc : Thread Cert.AttnC.nD Cert.AttnC.τ).loc Cert.AttnC.main_arg2) = m ((c.tc : Thread Cert.AttnC.nD Cert.AttnC.τ).loc Cert.AttnC.main_arg2))
      ∧ r.2.sem = fun _ => 0)

def quiescent_AttnCIdeal [hAttnCIdeal : Cert.AttnCIdeal.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
      ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1)
      ∧ r.2.mem ((c.tc : Thread Cert.AttnCIdeal.nD Cert.AttnCIdeal.τ).loc Cert.AttnCIdeal.main_arg2) = m ((c.tc : Thread Cert.AttnCIdeal.nD Cert.AttnCIdeal.τ).loc Cert.AttnCIdeal.main_arg2))
      ∧ r.2.sem = fun _ => 0)

def quiescent_AttnCIdeal_pre_finite_attnc [hAttnCIdeal : Cert.AttnCIdeal.Facts] [hPre_finite_attnc : Cert.Pre_finite_attnc.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal_finite_attnc m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
      ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1)
      ∧ r.2.mem ((c.tc : Thread Cert.AttnCIdeal.nD Cert.AttnCIdeal.τ).loc Cert.AttnCIdeal.main_arg2) = m ((c.tc : Thread Cert.AttnCIdeal.nD Cert.AttnCIdeal.τ).loc Cert.AttnCIdeal.main_arg2))
      ∧ r.2.sem = fun _ => 0)

def quiescent_AttnCRefIdeal [hAttnCRefIdeal : Cert.AttnCRefIdeal.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0)
      ∧ r.2.mem ((c.tc : Thread Cert.AttnCRefIdeal.nD Cert.AttnCRefIdeal.τ).loc Cert.AttnCRefIdeal.main_arg1) = m ((c.tc : Thread Cert.AttnCRefIdeal.nD Cert.AttnCRefIdeal.τ).loc Cert.AttnCRefIdeal.main_arg1)
      ∧ r.2.mem ((c.tc : Thread Cert.AttnCRefIdeal.nD Cert.AttnCRefIdeal.τ).loc Cert.AttnCRefIdeal.main_arg2) = m ((c.tc : Thread Cert.AttnCRefIdeal.nD Cert.AttnCRefIdeal.τ).loc Cert.AttnCRefIdeal.main_arg2))
      ∧ r.2.sem = fun _ => 0)

def quiescent_AttnCRefIdeal_pre_finite_attnc [hAttnCRefIdeal : Cert.AttnCRefIdeal.Facts] [hPre_finite_attnc : Cert.Pre_finite_attnc.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal_finite_attnc m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0)
      ∧ r.2.mem ((c.tc : Thread Cert.AttnCRefIdeal.nD Cert.AttnCRefIdeal.τ).loc Cert.AttnCRefIdeal.main_arg1) = m ((c.tc : Thread Cert.AttnCRefIdeal.nD Cert.AttnCRefIdeal.τ).loc Cert.AttnCRefIdeal.main_arg1)
      ∧ r.2.mem ((c.tc : Thread Cert.AttnCRefIdeal.nD Cert.AttnCRefIdeal.τ).loc Cert.AttnCRefIdeal.main_arg2) = m ((c.tc : Thread Cert.AttnCRefIdeal.nD Cert.AttnCRefIdeal.τ).loc Cert.AttnCRefIdeal.main_arg2))
      ∧ r.2.sem = fun _ => 0)

def preserves_Experts_ExpertsIdeal : Prop :=
  True

def algebraic_ExpertsIdeal_ExpertsRefIdeal_pre_routed [hExpertsIdeal : Cert.ExpertsIdeal.Facts] [hExpertsRefIdeal : Cert.ExpertsRefIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_routed m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v34) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v6)) (v1 : (c : Dev Cert.NormIdeal.nD) → Buf (Elt Ideal) ((c.tc : Thread Cert.NormIdeal.nD Cert.NormIdeal.τ).loc Cert.NormIdeal.main_v8)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v6) = v0 c
          ∧ r.2.mem ((c.tc : Thread Cert.NormIdeal.nD Cert.NormIdeal.τ).loc Cert.NormIdeal.main_v8) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_v25) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Prep_PrepIdeal : Prop :=
  IdealRules.named_const.Statement Cert.PrepIdeal.κ "inv_root" .f32 0x3DB504F3#32 (((Real.sqrt 128)⁻¹ : ℝ) : EReal)

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v2_0)) (v1 : (c : Dev Cert.PrepIdeal.nD) → Buf (Elt Ideal) ((c.tc : Thread Cert.PrepIdeal.nD Cert.PrepIdeal.τ).loc Cert.PrepIdeal.main_v2_1)) (v2 : (c : Dev Cert.PrepIdeal.nD) → Buf (Elt Ideal) ((c.tc : Thread Cert.PrepIdeal.nD Cert.PrepIdeal.τ).loc Cert.PrepIdeal.main_v2_2)) (v3 : (c : Dev Cert.PrepIdeal.nD) → Buf (Elt Ideal) ((c.tc : Thread Cert.PrepIdeal.nD Cert.PrepIdeal.τ).loc Cert.PrepIdeal.main_v3)) (v4 : (c : Dev Cert.PrepIdeal.nD) → Buf (Elt Ideal) ((c.tc : Thread Cert.PrepIdeal.nD Cert.PrepIdeal.τ).loc Cert.PrepIdeal.main_v4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v2_0) = v0 c
          ∧ r.2.mem ((c.tc : Thread Cert.PrepIdeal.nD Cert.PrepIdeal.τ).loc Cert.PrepIdeal.main_v2_1) = v1 c
          ∧ r.2.mem ((c.tc : Thread Cert.PrepIdeal.nD Cert.PrepIdeal.τ).loc Cert.PrepIdeal.main_v2_2) = v2 c
          ∧ r.2.mem ((c.tc : Thread Cert.PrepIdeal.nD Cert.PrepIdeal.τ).loc Cert.PrepIdeal.main_v3) = v3 c
          ∧ r.2.mem ((c.tc : Thread Cert.PrepIdeal.nD Cert.PrepIdeal.τ).loc Cert.PrepIdeal.main_v4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v38) = v0 c
          ∧ r.2.mem ((c.tc : Thread Cert.PrepRefIdeal.nD Cert.PrepRefIdeal.τ).loc Cert.PrepRefIdeal.main_v40) = v1 c
          ∧ r.2.mem ((c.tc : Thread Cert.PrepRefIdeal.nD Cert.PrepRefIdeal.τ).loc Cert.PrepRefIdeal.main_v42) = v2 c
          ∧ r.2.mem ((c.tc : Thread Cert.PrepRefIdeal.nD Cert.PrepRefIdeal.τ).loc Cert.PrepRefIdeal.main_v33) = v3 c
          ∧ r.2.mem ((c.tc : Thread Cert.PrepRefIdeal.nD Cert.PrepRefIdeal.τ).loc Cert.PrepRefIdeal.main_v7) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2))

def preserves_PrepW_PrepWIdeal : Prop :=
  IdealRules.named_const.Statement Cert.PrepWIdeal.κ "inv_root" .f32 0x3DB504F3#32 (((Real.sqrt 128)⁻¹ : ℝ) : EReal)

def algebraic_PrepWIdeal_PrepWRefIdeal [hPrepWIdeal : Cert.PrepWIdeal.Facts] [hPrepWRefIdeal : Cert.PrepWRefIdeal.Facts] : Prop :=
  ∀ (m : (ℓ : Loc Cert.PrepWIdeal.nD Cert.PrepWIdeal.τ Cert.PrepWIdeal.sig) → Buf (Elt Ideal) ℓ) (g : Dev Cert.PrepWIdeal.nD → PrngReg)
    (m' : (ℓ : Loc Cert.PrepWRefIdeal.nD Cert.PrepWRefIdeal.τ Cert.PrepWRefIdeal.sig) → Buf (Elt Ideal) ℓ) (g' : Dev Cert.PrepWRefIdeal.nD → PrngReg), Pre_PrepWIdeal m →
    (∀ c : Dev Cert.PrepWIdeal.nD,
      m' ((c.tc : Thread Cert.PrepWRefIdeal.nD Cert.PrepWRefIdeal.τ).loc Cert.PrepWRefIdeal.main_arg0) = m ((c.tc : Thread Cert.PrepWIdeal.nD Cert.PrepWIdeal.τ).loc Cert.PrepWIdeal.main_arg0)) →
    ∃ (v0 : (c : Dev Cert.PrepWIdeal.nD) → Buf (Elt Ideal) ((c.tc : Thread Cert.PrepWIdeal.nD Cert.PrepWIdeal.τ).loc Cert.PrepWIdeal.main_v3_0)) (v1 : (c : Dev Cert.PrepWIdeal.nD) → Buf (Elt Ideal) ((c.tc : Thread Cert.PrepWIdeal.nD Cert.PrepWIdeal.τ).loc Cert.PrepWIdeal.main_v3_1)) (v2 : (c : Dev Cert.PrepWIdeal.nD) → Buf (Elt Ideal) ((c.tc : Thread Cert.PrepWIdeal.nD Cert.PrepWIdeal.τ).loc Cert.PrepWIdeal.main_v3_2)) (v3 : (c : Dev Cert.PrepWIdeal.nD) → Buf (Elt Ideal) ((c.tc : Thread Cert.PrepWIdeal.nD Cert.PrepWIdeal.τ).loc Cert.PrepWIdeal.main_v4)) (v4 : (c : Dev Cert.PrepWIdeal.nD) → Buf (Elt Ideal) ((c.tc : Thread Cert.PrepWIdeal.nD Cert.PrepWIdeal.τ).loc Cert.PrepWIdeal.main_v5)),
      θ_run (Cert.PrepWIdeal.defs (F := Ideal)) (onTc (τ := Cert.PrepWIdeal.τ) (Cert.PrepWIdeal.main (F := Ideal))) ⟨m, fun _ => 0, g⟩ (fun r => ∀ c : Dev Cert.PrepWIdeal.nD,
          r.2.mem ((c.tc : Thread Cert.PrepWIdeal.nD Cert.PrepWIdeal.τ).loc Cert.PrepWIdeal.main_v3_0) = v0 c
          ∧ r.2.mem ((c.tc : Thread Cert.PrepWIdeal.nD Cert.PrepWIdeal.τ).loc Cert.PrepWIdeal.main_v3_1) = v1 c
          ∧ r.2.mem ((c.tc : Thread Cert.PrepWIdeal.nD Cert.PrepWIdeal.τ).loc Cert.PrepWIdeal.main_v3_2) = v2 c
          ∧ r.2.mem ((c.tc : Thread Cert.PrepWIdeal.nD Cert.PrepWIdeal.τ).loc Cert.PrepWIdeal.main_v4) = v3 c
          ∧ r.2.mem ((c.tc : Thread Cert.PrepWIdeal.nD Cert.PrepWIdeal.τ).loc Cert.PrepWIdeal.main_v5) = v4 c
          ∧ r.2.mem ((c.tc : Thread Cert.PrepWIdeal.nD Cert.PrepWIdeal.τ).loc Cert.PrepWIdeal.main_arg0) = m ((c.tc : Thread Cert.PrepWIdeal.nD Cert.PrepWIdeal.τ).loc Cert.PrepWIdeal.main_arg0))
      ∧ θ_run (Cert.PrepWRefIdeal.defs (F := Ideal)) (onTc (τ := Cert.PrepWRefIdeal.τ) (Cert.PrepWRefIdeal.main (F := Ideal))) ⟨m', fun _ => 0, g'⟩ (fun r => ∀ c : Dev Cert.PrepWRefIdeal.nD,
          r.2.mem ((c.tc : Thread Cert.PrepWRefIdeal.nD Cert.PrepWRefIdeal.τ).loc Cert.PrepWRefIdeal.main_v12) = v0 c
          ∧ r.2.mem ((c.tc : Thread Cert.PrepWRefIdeal.nD Cert.PrepWRefIdeal.τ).loc Cert.PrepWRefIdeal.main_v14) = v1 c
          ∧ r.2.mem ((c.tc : Thread Cert.PrepWRefIdeal.nD Cert.PrepWRefIdeal.τ).loc Cert.PrepWRefIdeal.main_v16) = v2 c
          ∧ r.2.mem ((c.tc : Thread Cert.PrepWRefIdeal.nD Cert.PrepWRefIdeal.τ).loc Cert.PrepWRefIdeal.main_v6) = v3 c
          ∧ r.2.mem ((c.tc : Thread Cert.PrepWRefIdeal.nD Cert.PrepWRefIdeal.τ).loc Cert.PrepWRefIdeal.main_v7) = v4 c
          ∧ r.2.mem ((c.tc : Thread Cert.PrepWRefIdeal.nD Cert.PrepWRefIdeal.τ).loc Cert.PrepWRefIdeal.main_arg0) = m' ((c.tc : Thread Cert.PrepWRefIdeal.nD Cert.PrepWRefIdeal.τ).loc Cert.PrepWRefIdeal.main_arg0))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v56) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_HyIn_HyInIdeal : Prop :=
  True

def algebraic_HyInIdeal_HyInRefIdeal [hHyInIdeal : Cert.HyInIdeal.Facts] [hHyInRefIdeal : Cert.HyInRefIdeal.Facts] : Prop :=
  ∀ (m : (ℓ : Loc Cert.HyInIdeal.nD Cert.HyInIdeal.τ Cert.HyInIdeal.sig) → Buf (Elt Ideal) ℓ) (g : Dev Cert.HyInIdeal.nD → PrngReg)
    (m' : (ℓ : Loc Cert.HyInRefIdeal.nD Cert.HyInRefIdeal.τ Cert.HyInRefIdeal.sig) → Buf (Elt Ideal) ℓ) (g' : Dev Cert.HyInRefIdeal.nD → PrngReg), Pre_HyInIdeal m →
    (∀ c : Dev Cert.HyInIdeal.nD,
      m' ((c.tc : Thread Cert.HyInRefIdeal.nD Cert.HyInRefIdeal.τ).loc Cert.HyInRefIdeal.main_arg0) = m ((c.tc : Thread Cert.HyInIdeal.nD Cert.HyInIdeal.τ).loc Cert.HyInIdeal.main_arg0)
      ∧ m' ((c.tc : Thread Cert.HyInRefIdeal.nD Cert.HyInRefIdeal.τ).loc Cert.HyInRefIdeal.main_arg1) = m ((c.tc : Thread Cert.HyInIdeal.nD Cert.HyInIdeal.τ).loc Cert.HyInIdeal.main_arg1)
      ∧ m' ((c.tc : Thread Cert.HyInRefIdeal.nD Cert.HyInRefIdeal.τ).loc Cert.HyInRefIdeal.main_arg2) = m ((c.tc : Thread Cert.HyInIdeal.nD Cert.HyInIdeal.τ).loc Cert.HyInIdeal.main_arg2)
      ∧ m' ((c.tc : Thread Cert.HyInRefIdeal.nD Cert.HyInRefIdeal.τ).loc Cert.HyInRefIdeal.main_arg3) = m ((c.tc : Thread Cert.HyInIdeal.nD Cert.HyInIdeal.τ).loc Cert.HyInIdeal.main_arg3)
      ∧ m' ((c.tc : Thread Cert.HyInRefIdeal.nD Cert.HyInRefIdeal.τ).loc Cert.HyInRefIdeal.main_arg4) = m ((c.tc : Thread Cert.HyInIdeal.nD Cert.HyInIdeal.τ).loc Cert.HyInIdeal.main_arg4)) →
    ∃ (v0 : (c : Dev Cert.HyInIdeal.nD) → Buf (Elt Ideal) ((c.tc : Thread Cert.HyInIdeal.nD Cert.HyInIdeal.τ).loc Cert.HyInIdeal.main_v3)),
      θ_run (Cert.HyInIdeal.defs (F := Ideal)) (onTc (τ := Cert.HyInIdeal.τ) (Cert.HyInIdeal.main (F := Ideal))) ⟨m, fun _ => 0, g⟩ (fun r => ∀ c : Dev Cert.HyInIdeal.nD,
          r.2.mem ((c.tc : Thread Cert.HyInIdeal.nD Cert.HyInIdeal.τ).loc Cert.HyInIdeal.main_v3) = v0 c
          ∧ r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
          ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
          ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
          ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3)
          ∧ r.2.mem ((c.tc : Thread Cert.HyInIdeal.nD Cert.HyInIdeal.τ).loc Cert.HyInIdeal.main_arg4) = m ((c.tc : Thread Cert.HyInIdeal.nD Cert.HyInIdeal.τ).loc Cert.HyInIdeal.main_arg4))
      ∧ θ_run (Cert.HyInRefIdeal.defs (F := Ideal)) (onTc (τ := Cert.HyInRefIdeal.τ) (Cert.HyInRefIdeal.main (F := Ideal))) ⟨m', fun _ => 0, g'⟩ (fun r => ∀ c : Dev Cert.HyInRefIdeal.nD,
          r.2.mem ((c.tc : Thread Cert.HyInRefIdeal.nD Cert.HyInRefIdeal.τ).loc Cert.HyInRefIdeal.main_v63) = v0 c
          ∧ r.2.mem ((c.tc : Thread Cert.HyInRefIdeal.nD Cert.HyInRefIdeal.τ).loc Cert.HyInRefIdeal.main_arg0) = m' ((c.tc : Thread Cert.HyInRefIdeal.nD Cert.HyInRefIdeal.τ).loc Cert.HyInRefIdeal.main_arg0)
          ∧ r.2.mem ((c.tc : Thread Cert.HyInRefIdeal.nD Cert.HyInRefIdeal.τ).loc Cert.HyInRefIdeal.main_arg1) = m' ((c.tc : Thread Cert.HyInRefIdeal.nD Cert.HyInRefIdeal.τ).loc Cert.HyInRefIdeal.main_arg1)
          ∧ r.2.mem ((c.tc : Thread Cert.HyInRefIdeal.nD Cert.HyInRefIdeal.τ).loc Cert.HyInRefIdeal.main_arg2) = m' ((c.tc : Thread Cert.HyInRefIdeal.nD Cert.HyInRefIdeal.τ).loc Cert.HyInRefIdeal.main_arg2)
          ∧ r.2.mem ((c.tc : Thread Cert.HyInRefIdeal.nD Cert.HyInRefIdeal.τ).loc Cert.HyInRefIdeal.main_arg3) = m' ((c.tc : Thread Cert.HyInRefIdeal.nD Cert.HyInRefIdeal.τ).loc Cert.HyInRefIdeal.main_arg3)
          ∧ r.2.mem ((c.tc : Thread Cert.HyInRefIdeal.nD Cert.HyInRefIdeal.τ).loc Cert.HyInRefIdeal.main_arg4) = m' ((c.tc : Thread Cert.HyInRefIdeal.nD Cert.HyInRefIdeal.τ).loc Cert.HyInRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v4)) (v1 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_v6) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v20) = v0 c
          ∧ r.2.mem ((c.tc : Thread Cert.OutRefIdeal.nD Cert.OutRefIdeal.τ).loc Cert.OutRefIdeal.main_v27) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Adaln_AdalnIdeal : Prop :=
  True

def algebraic_AdalnIdeal_AdalnRefIdeal_pre_finite [hAdalnIdeal : Cert.AdalnIdeal.Facts] [hAdalnRefIdeal : Cert.AdalnRefIdeal.Facts] [hPre_finite : Cert.Pre_finite.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal_finite m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)
      ∧ m' ((c.tc : Thread Cert.AdalnRefIdeal.nD Cert.AdalnRefIdeal.τ).loc Cert.AdalnRefIdeal.main_arg3) = m ((c.tc : Thread Cert.AdalnIdeal.nD Cert.AdalnIdeal.τ).loc Cert.AdalnIdeal.main_arg3)) →
    ∃ (v0 : (c : Dev Cert.AdalnIdeal.nD) → Buf (Elt Ideal) ((c.tc : Thread Cert.AdalnIdeal.nD Cert.AdalnIdeal.τ).loc Cert.AdalnIdeal.main_v5)) (v1 : (c : Dev Cert.AdalnIdeal.nD) → Buf (Elt Ideal) ((c.tc : Thread Cert.AdalnIdeal.nD Cert.AdalnIdeal.τ).loc Cert.AdalnIdeal.main_v6)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v5) = v0 c
          ∧ r.2.mem ((c.tc : Thread Cert.AdalnIdeal.nD Cert.AdalnIdeal.τ).loc Cert.AdalnIdeal.main_v6) = v1 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
          ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v5) = v0 c
          ∧ r.2.mem ((c.tc : Thread Cert.AdalnRefIdeal.nD Cert.AdalnRefIdeal.τ).loc Cert.AdalnRefIdeal.main_v11) = v1 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2)
          ∧ r.2.mem ((c.tc : Thread Cert.AdalnRefIdeal.nD Cert.AdalnRefIdeal.τ).loc Cert.AdalnRefIdeal.main_arg3) = m' ((c.tc : Thread Cert.AdalnRefIdeal.nD Cert.AdalnRefIdeal.τ).loc Cert.AdalnRefIdeal.main_arg3))

def preserves_AttnC_AttnCIdeal : Prop :=
  True

def algebraic_AttnCIdeal_AttnCRefIdeal_pre_finite_attnc [hAttnCIdeal : Cert.AttnCIdeal.Facts] [hAttnCRefIdeal : Cert.AttnCRefIdeal.Facts] [hPre_finite_attnc : Cert.Pre_finite_attnc.Facts] : Prop :=
  ∀ (m : (ℓ : Loc Cert.AttnCIdeal.nD Cert.AttnCIdeal.τ Cert.AttnCIdeal.sig) → Buf (Elt Ideal) ℓ) (g : Dev Cert.AttnCIdeal.nD → PrngReg)
    (m' : (ℓ : Loc Cert.AttnCRefIdeal.nD Cert.AttnCRefIdeal.τ Cert.AttnCRefIdeal.sig) → Buf (Elt Ideal) ℓ) (g' : Dev Cert.AttnCRefIdeal.nD → PrngReg), Pre_AttnCIdeal_finite_attnc m →
    (∀ c : Dev Cert.AttnCIdeal.nD,
      m' ((c.tc : Thread Cert.AttnCRefIdeal.nD Cert.AttnCRefIdeal.τ).loc Cert.AttnCRefIdeal.main_arg0) = m ((c.tc : Thread Cert.AttnCIdeal.nD Cert.AttnCIdeal.τ).loc Cert.AttnCIdeal.main_arg0)
      ∧ m' ((c.tc : Thread Cert.AttnCRefIdeal.nD Cert.AttnCRefIdeal.τ).loc Cert.AttnCRefIdeal.main_arg1) = m ((c.tc : Thread Cert.AttnCIdeal.nD Cert.AttnCIdeal.τ).loc Cert.AttnCIdeal.main_arg1)
      ∧ m' ((c.tc : Thread Cert.AttnCRefIdeal.nD Cert.AttnCRefIdeal.τ).loc Cert.AttnCRefIdeal.main_arg2) = m ((c.tc : Thread Cert.AttnCIdeal.nD Cert.AttnCIdeal.τ).loc Cert.AttnCIdeal.main_arg2)) →
    ∃ (v0 : (c : Dev Cert.AttnCIdeal.nD) → Buf (Elt Ideal) ((c.tc : Thread Cert.AttnCIdeal.nD Cert.AttnCIdeal.τ).loc Cert.AttnCIdeal.main_v0)),
      θ_run (Cert.AttnCIdeal.defs (F := Ideal)) (onTc (τ := Cert.AttnCIdeal.τ) (Cert.AttnCIdeal.main (F := Ideal))) ⟨m, fun _ => 0, g⟩ (fun r => ∀ c : Dev Cert.AttnCIdeal.nD,
          r.2.mem ((c.tc : Thread Cert.AttnCIdeal.nD Cert.AttnCIdeal.τ).loc Cert.AttnCIdeal.main_v0) = v0 c
          ∧ r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
          ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1)
          ∧ r.2.mem ((c.tc : Thread Cert.AttnCIdeal.nD Cert.AttnCIdeal.τ).loc Cert.AttnCIdeal.main_arg2) = m ((c.tc : Thread Cert.AttnCIdeal.nD Cert.AttnCIdeal.τ).loc Cert.AttnCIdeal.main_arg2))
      ∧ θ_run (Cert.AttnCRefIdeal.defs (F := Ideal)) (onTc (τ := Cert.AttnCRefIdeal.τ) (Cert.AttnCRefIdeal.main (F := Ideal))) ⟨m', fun _ => 0, g'⟩ (fun r => ∀ c : Dev Cert.AttnCRefIdeal.nD,
          r.2.mem ((c.tc : Thread Cert.AttnCRefIdeal.nD Cert.AttnCRefIdeal.τ).loc Cert.AttnCRefIdeal.main_v22) = v0 c
          ∧ r.2.mem ((c.tc : Thread Cert.AttnCRefIdeal.nD Cert.AttnCRefIdeal.τ).loc Cert.AttnCRefIdeal.main_arg0) = m' ((c.tc : Thread Cert.AttnCRefIdeal.nD Cert.AttnCRefIdeal.τ).loc Cert.AttnCRefIdeal.main_arg0)
          ∧ r.2.mem ((c.tc : Thread Cert.AttnCRefIdeal.nD Cert.AttnCRefIdeal.τ).loc Cert.AttnCRefIdeal.main_arg1) = m' ((c.tc : Thread Cert.AttnCRefIdeal.nD Cert.AttnCRefIdeal.τ).loc Cert.AttnCRefIdeal.main_arg1)
          ∧ r.2.mem ((c.tc : Thread Cert.AttnCRefIdeal.nD Cert.AttnCRefIdeal.τ).loc Cert.AttnCRefIdeal.main_arg2) = m' ((c.tc : Thread Cert.AttnCRefIdeal.nD Cert.AttnCRefIdeal.τ).loc Cert.AttnCRefIdeal.main_arg2))

def Claim : Prop :=
  ∃ (hExperts : Cert.Experts.Facts) (hExpertsIdeal : Cert.ExpertsIdeal.Facts) (hExpertsRefIdeal : Cert.ExpertsRefIdeal.Facts) (hNorm : Cert.Norm.Facts) (hNormIdeal : Cert.NormIdeal.Facts) (hNormRefIdeal : Cert.NormRefIdeal.Facts) (hPrep : Cert.Prep.Facts) (hPrepIdeal : Cert.PrepIdeal.Facts) (hPrepRefIdeal : Cert.PrepRefIdeal.Facts) (hPrepW : Cert.PrepW.Facts) (hPrepWIdeal : Cert.PrepWIdeal.Facts) (hPrepWRefIdeal : Cert.PrepWRefIdeal.Facts) (hQkv : Cert.Qkv.Facts) (hQkvIdeal : Cert.QkvIdeal.Facts) (hQkvRefIdeal : Cert.QkvRefIdeal.Facts) (hHyIn : Cert.HyIn.Facts) (hHyInIdeal : Cert.HyInIdeal.Facts) (hHyInRefIdeal : Cert.HyInRefIdeal.Facts) (hOut : Cert.Out.Facts) (hOutIdeal : Cert.OutIdeal.Facts) (hOutRefIdeal : Cert.OutRefIdeal.Facts) (hAdaln : Cert.Adaln.Facts) (hAdalnIdeal : Cert.AdalnIdeal.Facts) (hAdalnRefIdeal : Cert.AdalnRefIdeal.Facts) (hAttnC : Cert.AttnC.Facts) (hAttnCIdeal : Cert.AttnCIdeal.Facts) (hAttnCRefIdeal : Cert.AttnCRefIdeal.Facts) (hPre_tiles_in_range : Cert.Pre_tiles_in_range.Facts) (hPre_routed : Cert.Pre_routed.Facts) (hPre_finite : Cert.Pre_finite.Facts) (hPre_finite_attnc : Cert.Pre_finite_attnc.Facts),
    quiescent_Experts (hExperts := hExperts) (hPre_tiles_in_range := hPre_tiles_in_range)
    ∧ quiescent_ExpertsIdeal (hExpertsIdeal := hExpertsIdeal) (hPre_tiles_in_range := hPre_tiles_in_range)
    ∧ quiescent_ExpertsIdeal_pre_routed (hExpertsIdeal := hExpertsIdeal) (hPre_routed := hPre_routed)
    ∧ quiescent_ExpertsRefIdeal (hExpertsRefIdeal := hExpertsRefIdeal)
    ∧ quiescent_ExpertsRefIdeal_pre_routed (hExpertsRefIdeal := hExpertsRefIdeal) (hPre_routed := hPre_routed)
    ∧ quiescent_Norm (hNorm := hNorm)
    ∧ quiescent_NormIdeal (hNormIdeal := hNormIdeal)
    ∧ quiescent_NormRefIdeal (hNormRefIdeal := hNormRefIdeal)
    ∧ quiescent_Prep (hPrep := hPrep)
    ∧ quiescent_PrepIdeal (hPrepIdeal := hPrepIdeal)
    ∧ quiescent_PrepRefIdeal (hPrepRefIdeal := hPrepRefIdeal)
    ∧ quiescent_PrepW (hPrepW := hPrepW)
    ∧ quiescent_PrepWIdeal (hPrepWIdeal := hPrepWIdeal)
    ∧ quiescent_PrepWRefIdeal (hPrepWRefIdeal := hPrepWRefIdeal)
    ∧ quiescent_Qkv (hQkv := hQkv)
    ∧ quiescent_QkvIdeal (hQkvIdeal := hQkvIdeal)
    ∧ quiescent_QkvRefIdeal (hQkvRefIdeal := hQkvRefIdeal)
    ∧ quiescent_HyIn (hHyIn := hHyIn)
    ∧ quiescent_HyInIdeal (hHyInIdeal := hHyInIdeal)
    ∧ quiescent_HyInRefIdeal (hHyInRefIdeal := hHyInRefIdeal)
    ∧ quiescent_Out (hOut := hOut)
    ∧ quiescent_OutIdeal (hOutIdeal := hOutIdeal)
    ∧ quiescent_OutRefIdeal (hOutRefIdeal := hOutRefIdeal)
    ∧ quiescent_Adaln (hAdaln := hAdaln)
    ∧ quiescent_AdalnIdeal (hAdalnIdeal := hAdalnIdeal)
    ∧ quiescent_AdalnIdeal_pre_finite (hAdalnIdeal := hAdalnIdeal) (hPre_finite := hPre_finite)
    ∧ quiescent_AdalnRefIdeal (hAdalnRefIdeal := hAdalnRefIdeal)
    ∧ quiescent_AdalnRefIdeal_pre_finite (hAdalnRefIdeal := hAdalnRefIdeal) (hPre_finite := hPre_finite)
    ∧ quiescent_AttnC (hAttnC := hAttnC)
    ∧ quiescent_AttnCIdeal (hAttnCIdeal := hAttnCIdeal)
    ∧ quiescent_AttnCIdeal_pre_finite_attnc (hAttnCIdeal := hAttnCIdeal) (hPre_finite_attnc := hPre_finite_attnc)
    ∧ quiescent_AttnCRefIdeal (hAttnCRefIdeal := hAttnCRefIdeal)
    ∧ quiescent_AttnCRefIdeal_pre_finite_attnc (hAttnCRefIdeal := hAttnCRefIdeal) (hPre_finite_attnc := hPre_finite_attnc)
    ∧ preserves_Experts_ExpertsIdeal
    ∧ algebraic_ExpertsIdeal_ExpertsRefIdeal_pre_routed (hExpertsIdeal := hExpertsIdeal) (hExpertsRefIdeal := hExpertsRefIdeal) (hPre_routed := hPre_routed)
    ∧ preserves_Norm_NormIdeal
    ∧ algebraic_NormIdeal_NormRefIdeal (hNormIdeal := hNormIdeal) (hNormRefIdeal := hNormRefIdeal)
    ∧ preserves_Prep_PrepIdeal
    ∧ algebraic_PrepIdeal_PrepRefIdeal (hPrepIdeal := hPrepIdeal) (hPrepRefIdeal := hPrepRefIdeal)
    ∧ preserves_PrepW_PrepWIdeal
    ∧ algebraic_PrepWIdeal_PrepWRefIdeal (hPrepWIdeal := hPrepWIdeal) (hPrepWRefIdeal := hPrepWRefIdeal)
    ∧ preserves_Qkv_QkvIdeal
    ∧ algebraic_QkvIdeal_QkvRefIdeal (hQkvIdeal := hQkvIdeal) (hQkvRefIdeal := hQkvRefIdeal)
    ∧ preserves_HyIn_HyInIdeal
    ∧ algebraic_HyInIdeal_HyInRefIdeal (hHyInIdeal := hHyInIdeal) (hHyInRefIdeal := hHyInRefIdeal)
    ∧ preserves_Out_OutIdeal
    ∧ algebraic_OutIdeal_OutRefIdeal (hOutIdeal := hOutIdeal) (hOutRefIdeal := hOutRefIdeal)
    ∧ preserves_Adaln_AdalnIdeal
    ∧ algebraic_AdalnIdeal_AdalnRefIdeal_pre_finite (hAdalnIdeal := hAdalnIdeal) (hAdalnRefIdeal := hAdalnRefIdeal) (hPre_finite := hPre_finite)
    ∧ preserves_AttnC_AttnCIdeal
    ∧ algebraic_AttnCIdeal_AttnCRefIdeal_pre_finite_attnc (hAttnCIdeal := hAttnCIdeal) (hAttnCRefIdeal := hAttnCRefIdeal) (hPre_finite_attnc := hPre_finite_attnc)
-- ==== Pre_finite.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S4x2048x12288 : S_.BroadcastsInDim S4x2048x12288 (![] : Fin 0 → Fin S4x2048x12288.rank)
  reducesTo_S4x2048x12288_S_d0_1_2 : S4x2048x12288.ReducesTo [0, 1, 2] S_

variable [Facts]

def fn {F : FTy → Type} [FloatOps F] (main_arg0 : FVec F S4x2048 .f32) (main_arg1 : FVec F S2048 .f32) (main_arg2 : FVec F S4x2048x12288 .f32) (main_arg3 : FVec F S4x12288 .f32) : IVec S_ 1 :=
  let main_v0 : FVec F S4x2048 .f32 := Host.absf main_arg0
  let main_cst : FVec F S_ .f32 := constant S_ .f32 0x7F800000#32
  let main_v1 : FVec F S4x2048 .f32 := broadcastInDim S4x2048 ![] bcast_S_S4x2048 main_cst
  let main_v2 : IVec S4x2048 1 := cmpf .olt main_v0 main_v1
  let main_c : IVec S_ 1 := constantI S_ 1 1#1
  let main_v3 : IVec S_ 1 := (fun x v => Host.reduce IntOp.andi x v reducesTo_S4x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4x2048x12288 .f32 := Host.absf main_arg2
  let main_cst_2 : FVec F S_ .f32 := constant S_ .f32 0x7F800000#32
  let main_v10 : FVec F S4x2048x12288 .f32 := broadcastInDim S4x2048x12288 ![] bcast_S_S4x2048x12288 main_cst_2
  let main_v11 : IVec S4x2048x12288 1 := cmpf .olt main_v9 main_v10
  let main_c_3 : IVec S_ 1 := constantI S_ 1 1#1
  let main_v12 : IVec S_ 1 := (fun x v => Host.reduce IntOp.andi x v reducesTo_S4x2048x12288_S_d0_1_2 h_S_) main_v11 main_c_3
  let main_v13 : IVec S_ 1 := andi main_v8 main_v12
  main_v13
-- ==== Pre_finite_attnc.lean ====
abbrev S8192x2048 : Shape := ⟨2, ![8192, 2048]⟩
abbrev S8192x512 : Shape := ⟨2, ![8192, 512]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x2048 .bf16) (main_arg1 : FVec F S8192x512 .bf16) (main_arg2 : FVec F S8192x512 .bf16) : IVec S_ 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .bf16 := Host.absf main_arg1
  let main_cst_0 : FVec F S_ .bf16 := constant S_ .bf16 0x7F80#16
  let main_v5 : FVec F S8192x512 .bf16 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Pre_routed.lean ====
abbrev S120 : Shape := ⟨1, ![120]⟩
abbrev S30720x2176 : Shape := ⟨2, ![30720, 2176]⟩
abbrev S16x2048x512 : Shape := ⟨3, ![16, 2048, 512]⟩
abbrev S16x512x2048 : Shape := ⟨3, ![16, 512, 2048]⟩
abbrev S30720x2 : Shape := ⟨2, ![30720, 2]⟩
abbrev S_ : Shape := ⟨0, ![]⟩
abbrev S30720 : Shape := ⟨1, ![30720]⟩
abbrev S120x1 : Shape := ⟨2, ![120, 1]⟩
abbrev S120x256 : Shape := ⟨2, ![120, 256]⟩
abbrev S30720x1 : Shape := ⟨2, ![30720, 1]⟩

class Facts : Prop where
  slices_S30720x2176_S30720x2_0_2048 : S30720x2176.Slices ![0, 2048] S30720x2
  bcast_S_S120 : S_.BroadcastsInDim S120 (![] : Fin 0 → Fin S120.rank)
  reducesTo_S120_S_d0 : S120.ReducesTo [0] S_
  h_S_ : 0 < S_.numel
  bcast_S_S30720 : S_.BroadcastsInDim S30720 (![] : Fin 0 → Fin S30720.rank)
  bcast_S120_S120x1_0 : S120.BroadcastsInDim S120x1 (![0] : Fin 1 → Fin S120x1.rank)
  bcast_S120x1_S120x256_0_1 : S120x1.BroadcastsInDim S120x256 (![0, 1] : Fin 2 → Fin S120x256.rank)
  shapeCasts_S120x256_S30720 : S120x256.ShapeCasts S30720
  bcast_S30720_S30720x1_0 : S30720.BroadcastsInDim S30720x1 (![0] : Fin 1 → Fin S30720x1.rank)
  bcast_S_S30720x2 : S_.BroadcastsInDim S30720x2 (![] : Fin 0 → Fin S30720x2.rank)
  bcast_S30720x1_S30720x2_0_1 : S30720x1.BroadcastsInDim S30720x2 (![0, 1] : Fin 2 → Fin S30720x2.rank)
  reducesTo_S30720x2_S_d0_1 : S30720x2.ReducesTo [0, 1] S_

variable [Facts]

def fn_part2 {F : FTy → Type} [FloatOps F] (main_v19 : IVec S_ 1) (main_v33 : IVec S30720x2 1) (main_v34 : IVec S30720x2 1) : IVec S_ 1 :=
  let main_v35 : IVec S30720x2 1 := ori main_v34 main_v33
  let main_c_11 : IVec S_ 1 := constantI S_ 1 1#1
  let main_v36 : IVec S_ 1 := (fun x v => Host.reduce IntOp.andi x v reducesTo_S30720x2_S_d0_1 h_S_) main_v35 main_c_11
  let main_v37 : IVec S_ 1 := andi main_v19 main_v36
  main_v37

def fn_part1 {F : FTy → Type} [FloatOps F] (main_arg2 : IVec S120 32) (main_v0 : FVec F S30720x2 .f32) (main_v15 : IVec S_ 1) : IVec S_ 1 :=
  let main_c_7 : IVec S_ 32 := constantI S_ 32 0#32
  let main_v16 : IVec S120 32 := broadcastInDim S120 ![] bcast_S_S120 main_c_7
  let main_v17 : IVec S120 1 := cmpi .sge main_arg2 main_v16
  let main_c_8 : IVec S_ 1 := constantI S_ 1 1#1
  let main_v18 : IVec S_ 1 := (fun x v => Host.reduce IntOp.andi x v reducesTo_S120_S_d0 h_S_) main_v17 main_c_8
  let main_v19 : IVec S_ 1 := andi main_v15 main_v18
  let main_v20 : IVec S30720 32 := iotaInDim S30720 32 0
  let main_c_9 : IVec S_ 32 := constantI S_ 32 256#32
  let main_v21 : IVec S30720 32 := broadcastInDim S30720 ![] bcast_S_S30720 main_c_9
  let main_v22 : IVec S30720 32 := Host.remsi main_v20 main_v21
  let main_v23 : IVec S120x1 32 := broadcastInDim S120x1 ![0] bcast_S120_S120x1_0 main_arg2
  let main_v24 : IVec S120x256 32 := broadcastInDim S120x256 ![0, 1] bcast_S120x1_S120x256_0_1 main_v23
  let main_v25 : IVec S30720 32 := shapeCast S30720 main_v24 shapeCasts_S120x256_S30720
  let main_v26 : IVec S30720 1 := cmpi .slt main_v22 main_v25
  let main_v27 : IVec S30720x1 1 := broadcastInDim S30720x1 ![0] bcast_S30720_S30720x1_0 main_v26
  let main_v28 : IVec S30720x1 1 := noti main_v27
  let main_cst : FVec F S_ .f32 := constant S_ .f32 0x00000000#32
  let main_v29 : FVec F S30720x2 .f32 := broadcastInDim S30720x2 ![] bcast_S_S30720x2 main_cst
  let main_v30 : IVec S30720x2 1 := cmpf .oge main_v0 main_v29
  let main_cst_10 : FVec F S_ .f32 := constant S_ .f32 0x7F800000#32
  let main_v31 : FVec F S30720x2 .f32 := broadcastInDim S30720x2 ![] bcast_S_S30720x2 main_cst_10
  let main_v32 : IVec S30720x2 1 := cmpf .olt main_v0 main_v31
  let main_v33 : IVec S30720x2 1 := andi main_v30 main_v32
  let main_v34 : IVec S30720x2 1 := broadcastInDim S30720x2 ![0, 1] bcast_S30720x1_S30720x2_0_1 main_v28
  fn_part2 (F := F) main_v19 main_v33 main_v34

def fn {F : FTy → Type} [FloatOps F] (main_arg0 : IVec S120 32) (main_arg1 : IVec S120 32) (main_arg2 : IVec S120 32) (main_arg3 : FVec F S30720x2176 .f32) (main_arg4 : FVec F S16x2048x512 .f32) (main_arg5 : FVec F S16x2048x512 .f32) (main_arg6 : FVec F S16x512x2048 .f32) : IVec S_ 1 :=
  let main_v0 : FVec F S30720x2 .f32 := (extractStridedSlice S30720x2 ![0, 2048] · slices_S30720x2176_S30720x2_0_2048) main_arg3
  let main_c : IVec S_ 32 := constantI S_ 32 0#32
  let main_v1 : IVec S120 32 := broadcastInDim S120 ![] bcast_S_S120 main_c
  let main_v2 : IVec S120 1 := cmpi .sge main_arg0 main_v1
  let main_c_0 : IVec S_ 1 := constantI S_ 1 1#1
  let main_v3 : IVec S_ 1 := (fun x v => Host.reduce IntOp.andi x v reducesTo_S120_S_d0 h_S_) main_v2 main_c_0
  let main_c_1 : IVec S_ 32 := constantI S_ 32 16#32
  let main_v4 : IVec S120 32 := broadcastInDim S120 ![] bcast_S_S120 main_c_1
  let main_v5 : IVec S120 1 := cmpi .slt main_arg0 main_v4
  let main_c_2 : IVec S_ 1 := constantI S_ 1 1#1
  let main_v6 : IVec S_ 1 := (fun x v => Host.reduce IntOp.andi x v reducesTo_S120_S_d0 h_S_) main_v5 main_c_2
  let main_v7 : IVec S_ 1 := andi main_v3 main_v6
  let main_c_3 : IVec S_ 32 := constantI S_ 32 0#32
  let main_v8 : IVec S120 32 := broadcastInDim S120 ![] bcast_S_S120 main_c_3
  let main_v9 : IVec S120 1 := cmpi .sge main_arg1 main_v8
  let main_c_4 : IVec S_ 1 := constantI S_ 1 1#1
  let main_v10 : IVec S_ 1 := (fun x v => Host.reduce IntOp.andi x v reducesTo_S120_S_d0 h_S_) main_v9 main_c_4
  let main_v11 : IVec S_ 1 := andi main_v7 main_v10
  let main_c_5 : IVec S_ 32 := constantI S_ 32 16#32
  let main_v12 : IVec S120 32 := broadcastInDim S120 ![] bcast_S_S120 main_c_5
  let main_v13 : IVec S120 1 := cmpi .slt main_arg1 main_v12
  let main_c_6 : IVec S_ 1 := constantI S_ 1 1#1
  let main_v14 : IVec S_ 1 := (fun x v => Host.reduce IntOp.andi x v reducesTo_S120_S_d0 h_S_) main_v13 main_c_6
  let main_v15 : IVec S_ 1 := andi main_v11 main_v14
  fn_part1 (F := F) main_arg2 main_v0 main_v15
-- ==== Pre_tiles_in_range.lean ====
abbrev S120 : Shape := ⟨1, ![120]⟩
abbrev S30720x2176 : Shape := ⟨2, ![30720, 2176]⟩
abbrev S16x2048x512 : Shape := ⟨3, ![16, 2048, 512]⟩
abbrev S16x512x2048 : Shape := ⟨3, ![16, 512, 2048]⟩
abbrev S_ : Shape := ⟨0, ![]⟩

class Facts : Prop where
  bcast_S_S120 : S_.BroadcastsInDim S120 (![] : Fin 0 → Fin S120.rank)
  reducesTo_S120_S_d0 : S120.ReducesTo [0] S_
  h_S_ : 0 < S_.numel

variable [Facts]

def fn {F : FTy → Type} [FloatOps F] (main_arg0 : IVec S120 32) (main_arg1 : IVec S120 32) (main_arg2 : IVec S120 32) (main_arg3 : FVec F S30720x2176 .f32) (main_arg4 : FVec F S16x2048x512 .f32) (main_arg5 : FVec F S16x2048x512 .f32) (main_arg6 : FVec F S16x512x2048 .f32) : IVec S_ 1 :=
  let main_c : IVec S_ 32 := constantI S_ 32 0#32
  let main_v0 : IVec S120 32 := broadcastInDim S120 ![] bcast_S_S120 main_c
  let main_v1 : IVec S120 1 := cmpi .sge main_arg0 main_v0
  let main_c_0 : IVec S_ 1 := constantI S_ 1 1#1
  let main_v2 : IVec S_ 1 := (fun x v => Host.reduce IntOp.andi x v reducesTo_S120_S_d0 h_S_) main_v1 main_c_0
  let main_c_1 : IVec S_ 32 := constantI S_ 32 16#32
  let main_v3 : IVec S120 32 := broadcastInDim S120 ![] bcast_S_S120 main_c_1
  let main_v4 : IVec S120 1 := cmpi .slt main_arg0 main_v3
  let main_c_2 : IVec S_ 1 := constantI S_ 1 1#1
  let main_v5 : IVec S_ 1 := (fun x v => Host.reduce IntOp.andi x v reducesTo_S120_S_d0 h_S_) main_v4 main_c_2
  let main_v6 : IVec S_ 1 := andi main_v2 main_v5
  let main_c_3 : IVec S_ 32 := constantI S_ 32 0#32
  let main_v7 : IVec S120 32 := broadcastInDim S120 ![] bcast_S_S120 main_c_3
  let main_v8 : IVec S120 1 := cmpi .sge main_arg1 main_v7
  let main_c_4 : IVec S_ 1 := constantI S_ 1 1#1
  let main_v9 : IVec S_ 1 := (fun x v => Host.reduce IntOp.andi x v reducesTo_S120_S_d0 h_S_) main_v8 main_c_4
  let main_v10 : IVec S_ 1 := andi main_v6 main_v9
  let main_c_5 : IVec S_ 32 := constantI S_ 32 16#32
  let main_v11 : IVec S120 32 := broadcastInDim S120 ![] bcast_S_S120 main_c_5
  let main_v12 : IVec S120 1 := cmpi .slt main_arg1 main_v11
  let main_c_6 : IVec S_ 1 := constantI S_ 1 1#1
  let main_v13 : IVec S_ 1 := (fun x v => Host.reduce IntOp.andi x v reducesTo_S120_S_d0 h_S_) main_v12 main_c_6
  let main_v14 : IVec S_ 1 := andi main_v10 main_v13
  main_v14
-- ==== Experts.lean ====
abbrev S120 : Shape := ⟨1, ![120]⟩
abbrev S30720x2176 : Shape := ⟨2, ![30720, 2176]⟩
abbrev S16x2048x512 : Shape := ⟨3, ![16, 2048, 512]⟩
abbrev S16x512x2048 : Shape := ⟨3, ![16, 512, 2048]⟩
abbrev S30720x2048 : Shape := ⟨2, ![30720, 2048]⟩
abbrev S256x2176 : Shape := ⟨2, ![256, 2176]⟩
abbrev S1x2048x512 : Shape := ⟨3, ![1, 2048, 512]⟩
abbrev S1 : Shape := ⟨1, ![1]⟩
abbrev S1x512x2048 : Shape := ⟨3, ![1, 512, 2048]⟩
abbrev S256x2048 : Shape := ⟨2, ![256, 2048]⟩
abbrev S256x1 : Shape := ⟨2, ![256, 1]⟩
abbrev S256x128 : Shape := ⟨2, ![256, 128]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 8
  | .vmem => 16
  | .smem => 3
  | _ => 0

abbrev bufTy : (tb : Table) → Fin (tcTables nBuf tb) → BufTy
  | .hbm, ⟨0, _⟩ => ⟨S30720x2176, .f32⟩
  | .hbm, ⟨1, _⟩ => ⟨S16x2048x512, .f32⟩
  | .hbm, ⟨2, _⟩ => ⟨S16x2048x512, .f32⟩
  | .hbm, ⟨3, _⟩ => ⟨S16x512x2048, .f32⟩
  | .hbm, ⟨4, _⟩ => ⟨S16x2048x512, .bf16⟩
  | .hbm, ⟨5, _⟩ => ⟨S16x2048x512, .bf16⟩
  | .hbm, ⟨6, _⟩ => ⟨S16x512x2048, .bf16⟩
  | .hbm, ⟨7, _⟩ => ⟨S30720x2048, .f32⟩
  | .local _ .vmem, ⟨0, _⟩ => ⟨S256x2176, .f32⟩
  | .local _ .vmem, ⟨1, _⟩ => ⟨S256x2176, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x512x2048, .bf16⟩
  | .local _ .vmem, ⟨13, _⟩ => ⟨S1x512x2048, .bf16⟩
  | .local _ .vmem, ⟨14, _⟩ => ⟨S256x2048, .f32⟩
  | .local _ .vmem, ⟨15, _⟩ => ⟨S256x2048, .f32⟩
  | .local _ .smem, ⟨0, _⟩ => ⟨S120, .i32⟩
  | .local _ .smem, ⟨1, _⟩ => ⟨S120, .i32⟩
  | .local _ .smem, ⟨2, _⟩ => ⟨S120, .i32⟩
  | _, _ => ⟨S30720x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![120], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .eq v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S120.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S120) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S120.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S120) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S120.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S120) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S120.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S120) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S120.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S120) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S120.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S120) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S120 : Shape := ⟨1, ![120]⟩
abbrev S30720x2176 : Shape := ⟨2, ![30720, 2176]⟩
abbrev S16x2048x512 : Shape := ⟨3, ![16, 2048, 512]⟩
abbrev S16x512x2048 : Shape := ⟨3, ![16, 512, 2048]⟩
abbrev S30720x2048 : Shape := ⟨2, ![30720, 2048]⟩
abbrev S120x1 : Shape := ⟨2, ![120, 1]⟩
abbrev S120x256 : Shape := ⟨2, ![120, 256]⟩
abbrev S30720 : Shape := ⟨1, ![30720]⟩
abbrev S30720x1 : Shape := ⟨2, ![30720, 1]⟩
abbrev S30720x2 : Shape := ⟨2, ![30720, 2]⟩
abbrev S_ : Shape := ⟨0, ![]⟩
abbrev S30720x2x1 : Shape := ⟨3, ![30720, 2, 1]⟩
abbrev S1x1x16 : Shape := ⟨3, ![1, 1, 16]⟩
abbrev S30720x2x16 : Shape := ⟨3, ![30720, 2, 16]⟩
abbrev S30720x16 : Shape := ⟨2, ![30720, 16]⟩
abbrev S30720x16x512 : Shape := ⟨3, ![30720, 16, 512]⟩
abbrev S30720x16x1 : Shape := ⟨3, ![30720, 16, 1]⟩
abbrev S16x2048x30720 : Shape := ⟨3, ![16, 2048, 30720]⟩
abbrev S30720x16x2048 : Shape := ⟨3, ![30720, 16, 2048]⟩

abbrev nBuf : Space → Nat
  | .hbm => 62
  | .vmem => 0
  | .smem => 0
  | _ => 0

abbrev bufTy : (tb : Table) → Fin (tcTables nBuf tb) → BufTy
  | .hbm, ⟨0, _⟩ => ⟨S120, .i32⟩
  | .hbm, ⟨1, _⟩ => ⟨S120, .i32⟩
  | .hbm, ⟨2, _⟩ => ⟨S120, .i32⟩
  | .hbm, ⟨3, _⟩ => ⟨S30720x2176, .f32⟩
  | .hbm, ⟨4, _⟩ => ⟨S16x2048x512, .f32⟩
  | .hbm, ⟨5, _⟩ => ⟨S16x2048x512, .f32⟩
  | .hbm, ⟨6, _⟩ => ⟨S16x512x2048, .f32⟩
  | .hbm, ⟨7, _⟩ => ⟨S30720x2048, .f32⟩
  | .hbm, ⟨8, _⟩ => ⟨S120x1, .i32⟩
  | .hbm, ⟨9, _⟩ => ⟨S120x256, .i32⟩
  | .hbm, ⟨10, _⟩ => ⟨S30720, .i32⟩
  | .hbm, ⟨11, _⟩ => ⟨S120x1, .i32⟩
  | .hbm, ⟨12, _⟩ => ⟨S120x256, .i32⟩
  | .hbm, ⟨13, _⟩ => ⟨S30720, .i32⟩
  | .hbm, ⟨14, _⟩ => ⟨S30720x1, .i32⟩
  | .hbm, ⟨15, _⟩ => ⟨S30720x1, .i32⟩
  | .hbm, ⟨16, _⟩ => ⟨S30720x2, .i32⟩
  | .hbm, ⟨17, _⟩ => ⟨S30720, .i32⟩
  | .hbm, ⟨18, _⟩ => ⟨S_, .i32⟩
  | .hbm, ⟨19, _⟩ => ⟨S30720, .i32⟩
  | .hbm, ⟨20, _⟩ => ⟨S30720, .i32⟩
  | .hbm, ⟨21, _⟩ => ⟨S120x1, .i32⟩
  | .hbm, ⟨22, _⟩ => ⟨S120x256, .i32⟩
  | .hbm, ⟨23, _⟩ => ⟨S30720, .i32⟩
  | .hbm, ⟨24, _⟩ => ⟨S30720, .i1⟩
  | .hbm, ⟨25, _⟩ => ⟨S30720x1, .i1⟩
  | .hbm, ⟨26, _⟩ => ⟨S30720x2, .f32⟩
  | .hbm, ⟨27, _⟩ => ⟨S_, .f32⟩
  | .hbm, ⟨28, _⟩ => ⟨S_, .f32⟩
  | .hbm, ⟨29, _⟩ => ⟨S30720x2, .i1⟩
  | .hbm, ⟨30, _⟩ => ⟨S30720x2, .f32⟩
  | .hbm, ⟨31, _⟩ => ⟨S30720x2, .f32⟩
  | .hbm, ⟨32, _⟩ => ⟨S30720x2x1, .i32⟩
  | .hbm, ⟨33, _⟩ => ⟨S1x1x16, .i32⟩
  | .hbm, ⟨34, _⟩ => ⟨S30720x2x16, .i32⟩
  | .hbm, ⟨35, _⟩ => ⟨S30720x2x16, .i32⟩
  | .hbm, ⟨36, _⟩ => ⟨S30720x2x16, .i1⟩
  | .hbm, ⟨37, _⟩ => ⟨S30720x2x16, .f32⟩
  | .hbm, ⟨38, _⟩ => ⟨S30720x2x1, .f32⟩
  | .hbm, ⟨39, _⟩ => ⟨S30720x2x16, .f32⟩
  | .hbm, ⟨40, _⟩ => ⟨S30720x2x16, .f32⟩
  | .hbm, ⟨41, _⟩ => ⟨S_, .f32⟩
  | .hbm, ⟨42, _⟩ => ⟨S30720x16, .f32⟩
  | .hbm, ⟨43, _⟩ => ⟨S30720x16x512, .f32⟩
  | .hbm, ⟨44, _⟩ => ⟨S30720x16x512, .f32⟩
  | .hbm, ⟨45, _⟩ => ⟨S30720x16x512, .f32⟩
  | .hbm, ⟨46, _⟩ => ⟨S_, .f32⟩
  | .hbm, ⟨47, _⟩ => ⟨S30720x16x512, .f32⟩
  | .hbm, ⟨48, _⟩ => ⟨S30720x16x512, .f32⟩
  | .hbm, ⟨49, _⟩ => ⟨S_, .f32⟩
  | .hbm, ⟨50, _⟩ => ⟨S30720x16x512, .f32⟩
  | .hbm, ⟨51, _⟩ => ⟨S30720x16x512, .f32⟩
  | .hbm, ⟨52, _⟩ => ⟨S30720x16x512, .f32⟩
  | .hbm, ⟨53, _⟩ => ⟨S30720x16x512, .f32⟩
  | .hbm, ⟨54, _⟩ => ⟨S30720x16x512, .f32⟩
  | .hbm, ⟨55, _⟩ => ⟨S30720x16x1, .f32⟩
  | .hbm, ⟨56, _⟩ => ⟨S16x2048x30720, .f32⟩
  | .hbm, ⟨57, _⟩ => ⟨S30720x16x2048, .f32⟩
  | .hbm, ⟨58, _⟩ => ⟨S30720x16x2048, .f32⟩
  | .hbm, ⟨59, _⟩ => ⟨S30720x16x2048, .f32⟩
  | .hbm, ⟨60, _⟩ => ⟨S_, .f32⟩
  | .hbm, ⟨61, _⟩ => ⟨S30720x2048, .f32⟩
  | _, _ => ⟨S120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_1 : Ref sig .tc := ⟨.hbm, 60, rfl⟩
abbrev main_v34 : Ref sig .tc := ⟨.hbm, 61, rfl⟩

abbrev nD : Nat := 1
abbrev τ : Topo := Topo.v7x

variable {F : FTy → Type} [FloatOps F]
-- ==== Norm.lean ====
abbrev S32x256x2048 : Shape := ⟨3, ![32, 256, 2048]⟩
abbrev S4x4096x2048 : Shape := ⟨3, ![4, 4096, 2048]⟩
abbrev S2048 : Shape := ⟨1, ![2048]⟩
abbrev S8192x2048 : Shape := ⟨2, ![8192, 2048]⟩
abbrev S16384x2048 : Shape := ⟨2, ![16384, 2048]⟩
abbrev S24576x2048 : Shape := ⟨2, ![24576, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 5
  | .smem => 0
  | _ => 0

abbrev bufTy : (tb : Table) → Fin (tcTables nBuf tb) → BufTy
  | .hbm, ⟨0, _⟩ => ⟨S32x256x2048, .f32⟩
  | .hbm, ⟨1, _⟩ => ⟨S4x4096x2048, .f32⟩
  | .hbm, ⟨2, _⟩ => ⟨S2048, .f32⟩
  | .hbm, ⟨3, _⟩ => ⟨S8192x2048, .f32⟩
  | .hbm, ⟨4, _⟩ => ⟨S16384x2048, .f32⟩
  | .hbm, ⟨5, _⟩ => ⟨S24576x2048, .f32⟩
  | .hbm, ⟨6, _⟩ => ⟨S1x2048, .f32⟩
  | .hbm, ⟨7, _⟩ => ⟨S24576x2048, .f32⟩
  | .hbm, ⟨8, _⟩ => ⟨S8192x2048, .f32⟩
  | .hbm, ⟨9, _⟩ => ⟨S32x256x2048, .f32⟩
  | .hbm, ⟨10, _⟩ => ⟨S16384x2048, .f32⟩
  | .hbm, ⟨11, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S32x256x2048 : Shape := ⟨3, ![32, 256, 2048]⟩
abbrev S4x4096x2048 : Shape := ⟨3, ![4, 4096, 2048]⟩
abbrev S2048 : Shape := ⟨1, ![2048]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S4x4096 : Shape := ⟨2, ![4, 4096]⟩
abbrev S4x4096x1 : Shape := ⟨3, ![4, 4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S4x4096x2048, .f32⟩
  | .hbm, ⟨2, _⟩ => ⟨S2048, .f32⟩
  | .hbm, ⟨3, _⟩ => ⟨S32x256x2048, .f32⟩
  | .hbm, ⟨4, _⟩ => ⟨S_, .f32⟩
  | .hbm, ⟨5, _⟩ => ⟨S32x256, .f32⟩
  | .hbm, ⟨6, _⟩ => ⟨S32x256x1, .f32⟩
  | .hbm, ⟨7, _⟩ => ⟨S_, .f32⟩
  | .hbm, ⟨8, _⟩ => ⟨S32x256x1, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S32x256x1, .f32⟩
  | .hbm, ⟨14, _⟩ => ⟨S32x256x2048, .f32⟩
  | .hbm, ⟨15, _⟩ => ⟨S32x256x2048, .f32⟩
  | .hbm, ⟨16, _⟩ => ⟨S1x1x2048, .f32⟩
  | .hbm, ⟨17, _⟩ => ⟨S32x256x2048, .f32⟩
  | .hbm, ⟨18, _⟩ => ⟨S32x256x2048, .f32⟩
  | .hbm, ⟨19, _⟩ => ⟨S4x4096x2048, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1, .f32⟩
  | .hbm, ⟨30, _⟩ => ⟨S4x4096x2048, .f32⟩
  | .hbm, ⟨31, _⟩ => ⟨S4x4096x2048, .f32⟩
  | .hbm, ⟨32, _⟩ => ⟨S1x1x2048, .f32⟩
  | .hbm, ⟨33, _⟩ => ⟨S4x4096x2048, .f32⟩
  | .hbm, ⟨34, _⟩ => ⟨S4x4096x2048, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Prep.lean ====
abbrev S24576x3072 : Shape := ⟨2, ![24576, 3072]⟩
abbrev S128 : Shape := ⟨1, ![128]⟩
abbrev S1x128 : Shape := ⟨2, ![1, 128]⟩
abbrev S8192x2048 : Shape := ⟨2, ![8192, 2048]⟩
abbrev S8192x512 : Shape := ⟨2, ![8192, 512]⟩
abbrev S256x3072 : Shape := ⟨2, ![256, 3072]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S32x256x4x128 : Shape := ⟨4, ![32, 256, 4, 128]⟩

abbrev nBuf : Space → Nat
  | .hbm => 12
  | .vmem => 14
  | .smem => 0
  | _ => 0

abbrev bufTy : (tb : Table) → Fin (tcTables nBuf tb) → BufTy
  | .hbm, ⟨0, _⟩ => ⟨S24576x3072, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S8192x2048, .bf16⟩
  | .hbm, ⟨6, _⟩ => ⟨S8192x512, .bf16⟩
  | .hbm, ⟨7, _⟩ => ⟨S8192x512, .bf16⟩
  | .hbm, ⟨8, _⟩ => ⟨S8192x512, .f32⟩
  | .hbm, ⟨9, _⟩ => ⟨S8192x512, .f32⟩
  | .hbm, ⟨10, _⟩ => ⟨S32x256x4x128, .f32⟩
  | .hbm, ⟨11, _⟩ => ⟨S32x256x4x128, .f32⟩
  | .local _ .vmem, ⟨0, _⟩ => ⟨S256x3072, .f32⟩
  | .local _ .vmem, ⟨1, _⟩ => ⟨S256x3072, .f32⟩
  | .local _ .vmem, ⟨2, _⟩ => ⟨S1x128, .f32⟩
  | .local _ .vmem, ⟨3, _⟩ => ⟨S1x128, .f32⟩
  | .local _ .vmem, ⟨4, _⟩ => ⟨S256x2048, .bf16⟩
  | .local _ .vmem, ⟨5, _⟩ => ⟨S256x2048, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S24576x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PrepIdeal.lean ====
variable {F : FTy → Type} [FloatOps F] [Named F]
def κ : String → Option EReal := fun
  | "inv_root" => some (((Real.sqrt 128)⁻¹ : ℝ) : EReal)
  | _ => none
-- ==== PrepRefIdeal.lean ====
abbrev S24576x3072 : Shape := ⟨2, ![24576, 3072]⟩
abbrev S128 : Shape := ⟨1, ![128]⟩
abbrev S8192x3072 : Shape := ⟨2, ![8192, 3072]⟩
abbrev S32x256x3072 : Shape := ⟨3, ![32, 256, 3072]⟩
abbrev S32x256x2048 : Shape := ⟨3, ![32, 256, 2048]⟩
abbrev S32x256x512 : Shape := ⟨3, ![32, 256, 512]⟩
abbrev S32x256x16x128 : Shape := ⟨4, ![32, 256, 16, 128]⟩
abbrev S32x256x4x128 : Shape := ⟨4, ![32, 256, 4, 128]⟩
abbrev S_ : Shape := ⟨0, ![]⟩
abbrev S32x256x16 : Shape := ⟨3, ![32, 256, 16]⟩
abbrev S32x256x16x1 : Shape := ⟨4, ![32, 256, 16, 1]⟩
abbrev S1x1x1x128 : Shape := ⟨4, ![1, 1, 1, 128]⟩
abbrev S32x256x4 : Shape := ⟨3, ![32, 256, 4]⟩
abbrev S32x256x4x1 : Shape := ⟨4, ![32, 256, 4, 1]⟩
abbrev S8192x2048 : Shape := ⟨2, ![8192, 2048]⟩
abbrev S8192x512 : Shape := ⟨2, ![8192, 512]⟩

abbrev nBuf : Space → Nat
  | .hbm => 53
  | .vmem => 0
  | .smem => 0
  | _ => 0

abbrev bufTy : (tb : Table) → Fin (tcTables nBuf tb) → BufTy
  | .hbm, ⟨0, _⟩ => ⟨S24576x3072, .f32⟩
  | .hbm, ⟨1, _⟩ => ⟨S128, .f32⟩
  | .hbm, ⟨2, _⟩ => ⟨S128, .f32⟩
  | .hbm, ⟨3, _⟩ => ⟨S8192x3072, .f32⟩
  | .hbm, ⟨4, _⟩ => ⟨S32x256x3072, .f32⟩
  | .hbm, ⟨5, _⟩ => ⟨S32x256x2048, .f32⟩
  | .hbm, ⟨6, _⟩ => ⟨S32x256x512, .f32⟩
  | .hbm, ⟨7, _⟩ => ⟨S32x256x512, .f32⟩
  | .hbm, ⟨8, _⟩ => ⟨S32x256x16x128, .f32⟩
  | .hbm, ⟨9, _⟩ => ⟨S32x256x4x128, .f32⟩
  | .hbm, ⟨10, _⟩ => ⟨S32x256x4x128, .f32⟩
  | .hbm, ⟨11, _⟩ => ⟨S32x256x16x128, .f32⟩
  | .hbm, ⟨12, _⟩ => ⟨S_, .f32⟩
  | .hbm, ⟨13, _⟩ => ⟨S32x256x16, .f32⟩
  | .hbm, ⟨14, _⟩ => ⟨S32x256x16x1, .f32⟩
  | .hbm, ⟨15, _⟩ => ⟨S_, .f32⟩
  | .hbm, ⟨16, _⟩ => ⟨S32x256x16x1, .f32⟩
  | .hbm, ⟨17, _⟩ => ⟨S32x256x16x1, .f32⟩
  | .hbm, ⟨18, _⟩ => ⟨S_, .f32⟩
  | .hbm, ⟨19, _⟩ => ⟨S32x256x16x1, .f32⟩
  | .hbm, ⟨20, _⟩ => ⟨S32x256x16x1, .f32⟩
  | .hbm, ⟨21, _⟩ => ⟨S32x256x16x1, .f32⟩
  | .hbm, ⟨22, _⟩ => ⟨S32x256x16x128, .f32⟩
  | .hbm, ⟨23, _⟩ => ⟨S32x256x16x128, .f32⟩
  | .hbm, ⟨24, _⟩ => ⟨S1x1x1x128, .f32⟩
  | .hbm, ⟨25, _⟩ => ⟨S32x256x16x128, .f32⟩
  | .hbm, ⟨26, _⟩ => ⟨S32x256x16x128, .f32⟩
  | .hbm, ⟨27, _⟩ => ⟨S32x256x4x128, .f32⟩
  | .hbm, ⟨28, _⟩ => ⟨S_, .f32⟩
  | .hbm, ⟨29, _⟩ => ⟨S32x256x4, .f32⟩
  | .hbm, ⟨30, _⟩ => ⟨S32x256x4x1, .f32⟩
  | .hbm, ⟨31, _⟩ => ⟨S_, .f32⟩
  | .hbm, ⟨32, _⟩ => ⟨S32x256x4x1, .f32⟩
  | .hbm, ⟨33, _⟩ => ⟨S32x256x4x1, .f32⟩
  | .hbm, ⟨34, _⟩ => ⟨S_, .f32⟩
  | .hbm, ⟨35, _⟩ => ⟨S32x256x4x1, .f32⟩
  | .hbm, ⟨36, _⟩ => ⟨S32x256x4x1, .f32⟩
  | .hbm, ⟨37, _⟩ => ⟨S32x256x4x1, .f32⟩
  | .hbm, ⟨38, _⟩ => ⟨S32x256x4x128, .f32⟩
  | .hbm, ⟨39, _⟩ => ⟨S32x256x4x128, .f32⟩
  | .hbm, ⟨40, _⟩ => ⟨S1x1x1x128, .f32⟩
  | .hbm, ⟨41, _⟩ => ⟨S32x256x4x128, .f32⟩
  | .hbm, ⟨42, _⟩ => ⟨S32x256x4x128, .f32⟩
  | .hbm, ⟨43, _⟩ => ⟨S_, .f32⟩
  | .hbm, ⟨44, _⟩ => ⟨S_, .f32⟩
  | .hbm, ⟨45, _⟩ => ⟨S32x256x16x128, .f32⟩
  | .hbm, ⟨46, _⟩ => ⟨S32x256x16x128, .f32⟩
  | .hbm, ⟨47, _⟩ => ⟨S8192x2048, .f32⟩
  | .hbm, ⟨48, _⟩ => ⟨S8192x2048, .bf16⟩
  | .hbm, ⟨49, _⟩ => ⟨S8192x512, .f32⟩
  | .hbm, ⟨50, _⟩ => ⟨S8192x512, .bf16⟩
  | .hbm, ⟨51, _⟩ => ⟨S8192x512, .f32⟩
  | .hbm, ⟨52, _⟩ => ⟨S8192x512, .bf16⟩
  | _, _ => ⟨S24576x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== PrepW.lean ====
abbrev S24576x3072 : Shape := ⟨2, ![24576, 3072]⟩
abbrev S_ : Shape := ⟨0, ![]⟩
abbrev S128 : Shape := ⟨1, ![128]⟩
abbrev S1x128 : Shape := ⟨2, ![1, 128]⟩
abbrev S8192x2048 : Shape := ⟨2, ![8192, 2048]⟩
abbrev S8192x512 : Shape := ⟨2, ![8192, 512]⟩
abbrev S256x3072 : Shape := ⟨2, ![256, 3072]⟩
abbrev S256x2048 : Shape := ⟨2, ![256, 2048]⟩
abbrev S256x512 : Shape := ⟨2, ![256, 512]⟩
abbrev S256x128 : Shape := ⟨2, ![256, 128]⟩
abbrev S32x256x4x128 : Shape := ⟨4, ![32, 256, 4, 128]⟩

abbrev nBuf : Space → Nat
  | .hbm => 12
  | .vmem => 14
  | .smem => 0
  | _ => 0

abbrev bufTy : (tb : Table) → Fin (tcTables nBuf tb) → BufTy
  | .hbm, ⟨0, _⟩ => ⟨S24576x3072, .f32⟩
  | .hbm, ⟨1, _⟩ => ⟨S_, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S8192x2048, .bf16⟩
  | .hbm, ⟨6, _⟩ => ⟨S8192x512, .bf16⟩
  | .hbm, ⟨7, _⟩ => ⟨S8192x512, .bf16⟩
  | .hbm, ⟨8, _⟩ => ⟨S8192x512, .f32⟩
  | .hbm, ⟨9, _⟩ => ⟨S8192x512, .f32⟩
  | .hbm, ⟨10, _⟩ => ⟨S32x256x4x128, .f32⟩
  | .hbm, ⟨11, _⟩ => ⟨S32x256x4x128, .f32⟩
  | .local _ .vmem, ⟨0, _⟩ => ⟨S256x3072, .f32⟩
  | .local _ .vmem, ⟨1, _⟩ => ⟨S256x3072, .f32⟩
  | .local _ .vmem, ⟨2, _⟩ => ⟨S1x128, .f32⟩
  | .local _ .vmem, ⟨3, _⟩ => ⟨S1x128, .f32⟩
  | .local _ .vmem, ⟨4, _⟩ => ⟨S256x2048, .bf16⟩
  | .local _ .vmem, ⟨5, _⟩ => ⟨S256x2048, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S24576x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PrepWIdeal.lean ====
variable {F : FTy → Type} [FloatOps F] [Named F]
def κ : String → Option EReal := fun
  | "inv_root" => some (((Real.sqrt 128)⁻¹ : ℝ) : EReal)
  | _ => none
-- ==== PrepWRefIdeal.lean ====
abbrev S24576x3072 : Shape := ⟨2, ![24576, 3072]⟩
abbrev S8192x3072 : Shape := ⟨2, ![8192, 3072]⟩
abbrev S32x256x3072 : Shape := ⟨3, ![32, 256, 3072]⟩
abbrev S32x256x2048 : Shape := ⟨3, ![32, 256, 2048]⟩
abbrev S32x256x512 : Shape := ⟨3, ![32, 256, 512]⟩
abbrev S32x256x16x128 : Shape := ⟨4, ![32, 256, 16, 128]⟩
abbrev S32x256x4x128 : Shape := ⟨4, ![32, 256, 4, 128]⟩
abbrev S_ : Shape := ⟨0, ![]⟩
abbrev S8192x2048 : Shape := ⟨2, ![8192, 2048]⟩
abbrev S8192x512 : Shape := ⟨2, ![8192, 512]⟩

abbrev nBuf : Space → Nat
  | .hbm => 19
  | .vmem => 0
  | .smem => 0
  | _ => 0

abbrev bufTy : (tb : Table) → Fin (tcTables nBuf tb) → BufTy
  | .hbm, ⟨0, _⟩ => ⟨S24576x3072, .f32⟩
  | .hbm, ⟨1, _⟩ => ⟨S8192x3072, .f32⟩
  | .hbm, ⟨2, _⟩ => ⟨S32x256x3072, .f32⟩
  | .hbm, ⟨3, _⟩ => ⟨S32x256x2048, .f32⟩
  | .hbm, ⟨4, _⟩ => ⟨S32x256x512, .f32⟩
  | .hbm, ⟨5, _⟩ => ⟨S32x256x512, .f32⟩
  | .hbm, ⟨6, _⟩ => ⟨S32x256x16x128, .f32⟩
  | .hbm, ⟨7, _⟩ => ⟨S32x256x4x128, .f32⟩
  | .hbm, ⟨8, _⟩ => ⟨S32x256x4x128, .f32⟩
  | .hbm, ⟨9, _⟩ => ⟨S_, .f32⟩
  | .hbm, ⟨10, _⟩ => ⟨S_, .f32⟩
  | .hbm, ⟨11, _⟩ => ⟨S32x256x16x128, .f32⟩
  | .hbm, ⟨12, _⟩ => ⟨S32x256x16x128, .f32⟩
  | .hbm, ⟨13, _⟩ => ⟨S8192x2048, .f32⟩
  | .hbm, ⟨14, _⟩ => ⟨S8192x2048, .bf16⟩
  | .hbm, ⟨15, _⟩ => ⟨S8192x512, .f32⟩
  | .hbm, ⟨16, _⟩ => ⟨S8192x512, .bf16⟩
  | .hbm, ⟨17, _⟩ => ⟨S8192x512, .f32⟩
  | .hbm, ⟨18, _⟩ => ⟨S8192x512, .bf16⟩
  | _, _ => ⟨S24576x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]
-- ==== Qkv.lean ====
abbrev S24576x2048 : Shape := ⟨2, ![24576, 2048]⟩
abbrev S2048 : Shape := ⟨1, ![2048]⟩
abbrev S8x6x1x2048 : Shape := ⟨4, ![8, 6, 1, 2048]⟩
abbrev S2048x3072 : Shape := ⟨2, ![2048, 3072]⟩
abbrev S_ : Shape := ⟨0, ![]⟩
abbrev S1x3072 : Shape := ⟨2, ![1, 3072]⟩
abbrev S1x2048 : Shape := ⟨2, ![1, 2048]⟩
abbrev S24576x3072 : Shape := ⟨2, ![24576, 3072]⟩
abbrev S1024x2048 : Shape := ⟨2, ![1024, 2048]⟩
abbrev S1x1x1x2048 : Shape := ⟨4, ![1, 1, 1, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S8x6x1x2048, .f32⟩
  | .hbm, ⟨3, _⟩ => ⟨S2048x3072, .f32⟩
  | .hbm, ⟨4, _⟩ => ⟨S_, .f32⟩
  | .hbm, ⟨5, _⟩ => ⟨S1x3072, .f32⟩
  | .hbm, ⟨6, _⟩ => ⟨S1x2048, .f32⟩
  | .hbm, ⟨7, _⟩ => ⟨S2048x3072, .bf16⟩
  | .hbm, ⟨8, _⟩ => ⟨S24576x3072, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![24, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  let c0_i32_10 : BitVec 32 := 0#32
  ![v21.toNat, c0_i32_7.toNat, c0_i32_8.toNat, c0_i32_9.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c1_i32_7 : BitVec 32 := 1#32
  let c0_i32_8 : BitVec 32 := 0#32
  let c0_i32_9 : BitVec 32 := 0#32
  let c0_i32_10 : BitVec 32 := 0#32
  ![v21.toNat, c1_i32_7.toNat, c0_i32_8.toNat, c0_i32_9.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QkvRefIdeal.lean ====
abbrev S24576x2048 : Shape := ⟨2, ![24576, 2048]⟩
abbrev S2048 : Shape := ⟨1, ![2048]⟩
abbrev S8x6x1x2048 : Shape := ⟨4, ![8, 6, 1, 2048]⟩
abbrev S2048x3072 : Shape := ⟨2, ![2048, 3072]⟩
abbrev S8192x2048 : Shape := ⟨2, ![8192, 2048]⟩
abbrev S32x256x2048 : Shape := ⟨3, ![32, 256, 2048]⟩
abbrev S16384x2048 : Shape := ⟨2, ![16384, 2048]⟩
abbrev S4x4096x2048 : Shape := ⟨3, ![4, 4096, 2048]⟩
abbrev S1x1x1x2048 : Shape := ⟨4, ![1, 1, 1, 2048]⟩
abbrev S1x2048 : Shape := ⟨2, ![1, 2048]⟩
abbrev S4x1x1x2048 : Shape := ⟨4, ![4, 1, 1, 2048]⟩
abbrev S4x1x2048 : Shape := ⟨3, ![4, 1, 2048]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S4x4096 : Shape := ⟨2, ![4, 4096]⟩
abbrev S4x4096x1 : Shape := ⟨3, ![4, 4096, 1]⟩
abbrev S32x256x3072 : Shape := ⟨3, ![32, 256, 3072]⟩
abbrev S4x4096x3072 : Shape := ⟨3, ![4, 4096, 3072]⟩
abbrev S8192x3072 : Shape := ⟨2, ![8192, 3072]⟩
abbrev S16384x3072 : Shape := ⟨2, ![16384, 3072]⟩
abbrev S24576x3072 : Shape := ⟨2, ![24576, 3072]⟩

abbrev nBuf : Space → Nat
  | .hbm => 69
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S8x6x1x2048, .f32⟩
  | .hbm, ⟨3, _⟩ => ⟨S2048x3072, .f32⟩
  | .hbm, ⟨4, _⟩ => ⟨S8192x2048, .f32⟩
  | .hbm, ⟨5, _⟩ => ⟨S32x256x2048, .f32⟩
  | .hbm, ⟨6, _⟩ => ⟨S16384x2048, .f32⟩
  | .hbm, ⟨7, _⟩ => ⟨S4x4096x2048, .f32⟩
  | .hbm, ⟨8, _⟩ => ⟨S1x1x1x2048, .f32⟩
  | .hbm, ⟨9, _⟩ => ⟨S1x2048, .f32⟩
  | .hbm, ⟨10, _⟩ => ⟨S4x1x1x2048, .f32⟩
  | .hbm, ⟨11, _⟩ => ⟨S4x1x2048, .f32⟩
  | .hbm, ⟨12, _⟩ => ⟨S1x1x1x2048, .f32⟩
  | .hbm, ⟨13, _⟩ => ⟨S1x2048, .f32⟩
  | .hbm, ⟨14, _⟩ => ⟨S4x1x1x2048, .f32⟩
  | .hbm, ⟨15, _⟩ => ⟨S4x1x2048, .f32⟩
  | .hbm, ⟨16, _⟩ => ⟨S32x256x2048, .f32⟩
  | .hbm, ⟨17, _⟩ => ⟨S_, .f32⟩
  | .hbm, ⟨18, _⟩ => ⟨S32x256, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S_, .f32⟩
  | .hbm, ⟨24, _⟩ => ⟨S32x256x1, .f32⟩
  | .hbm, ⟨25, _⟩ => ⟨S32x256x1, .f32⟩
  | .hbm, ⟨26, _⟩ => ⟨S32x256x1, .f32⟩
  | .hbm, ⟨27, _⟩ => ⟨S32x256x2048, .f32⟩
  | .hbm, ⟨28, _⟩ => ⟨S32x256x2048, .f32⟩
  | .hbm, ⟨29, _⟩ => ⟨S1x1x2048, .f32⟩
  | .hbm, ⟨30, _⟩ => ⟨S32x256x2048, .f32⟩
  | .hbm, ⟨31, _⟩ => ⟨S32x256x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S1x1x2048, .f32⟩
  | .hbm, ⟨36, _⟩ => ⟨S32x256x2048, .f32⟩
  | .hbm, ⟨37, _⟩ => ⟨S32x256x2048, .f32⟩
  | .hbm, ⟨38, _⟩ => ⟨S1x1x2048, .f32⟩
  | .hbm, ⟨39, _⟩ => ⟨S32x256x2048, .f32⟩
  | .hbm, ⟨40, _⟩ => ⟨S32x256x2048, .f32⟩
  | .hbm, ⟨41, _⟩ => ⟨S4x4096x2048, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1, .f32⟩
  | .hbm, ⟨52, _⟩ => ⟨S4x4096x2048, .f32⟩
  | .hbm, ⟨53, _⟩ => ⟨S4x4096x2048, .f32⟩
  | .hbm, ⟨54, _⟩ => ⟨S1x1x2048, .f32⟩
  | .hbm, ⟨55, _⟩ => ⟨S4x4096x2048, .f32⟩
  | .hbm, ⟨56, _⟩ => ⟨S4x4096x2048, .f32⟩
  | .hbm, ⟨57, _⟩ => ⟨S_, .f32⟩
  | .hbm, ⟨58, _⟩ => ⟨S4x1x2048, .f32⟩
  | .hbm, ⟨59, _⟩ => ⟨S4x1x2048, .f32⟩
  | .hbm, ⟨60, _⟩ => ⟨S4x4096x2048, .f32⟩
  | .hbm, ⟨61, _⟩ => ⟨S4x4096x2048, .f32⟩
  | .hbm, ⟨62, _⟩ => ⟨S4x4096x2048, .f32⟩
  | .hbm, ⟨63, _⟩ => ⟨S4x4096x2048, .f32⟩
  | .hbm, ⟨64, _⟩ => ⟨S32x256x3072, .f32⟩
  | .hbm, ⟨65, _⟩ => ⟨S4x4096x3072, .f32⟩
  | .hbm, ⟨66, _⟩ => ⟨S8192x3072, .f32⟩
  | .hbm, ⟨67, _⟩ => ⟨S16384x3072, .f32⟩
  | .hbm, ⟨68, _⟩ => ⟨S24576x3072, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== HyIn.lean ====
abbrev S24576x2048 : Shape := ⟨2, ![24576, 2048]⟩
abbrev S2048 : Shape := ⟨1, ![2048]⟩
abbrev S8x6x1x2048 : Shape := ⟨4, ![8, 6, 1, 2048]⟩
abbrev S2048x6144 : Shape := ⟨2, ![2048, 6144]⟩
abbrev S6144 : Shape := ⟨1, ![6144]⟩
abbrev S1x2048 : Shape := ⟨2, ![1, 2048]⟩
abbrev S1x6144 : Shape := ⟨2, ![1, 6144]⟩
abbrev S24576x6144 : Shape := ⟨2, ![24576, 6144]⟩
abbrev S1024x2048 : Shape := ⟨2, ![1024, 2048]⟩
abbrev S1x1x1x2048 : Shape := ⟨4, ![1, 1, 1, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S8x6x1x2048, .f32⟩
  | .hbm, ⟨3, _⟩ => ⟨S2048x6144, .f32⟩
  | .hbm, ⟨4, _⟩ => ⟨S6144, .f32⟩
  | .hbm, ⟨5, _⟩ => ⟨S1x2048, .f32⟩
  | .hbm, ⟨6, _⟩ => ⟨S2048x6144, .bf16⟩
  | .hbm, ⟨7, _⟩ => ⟨S1x6144, .f32⟩
  | .hbm, ⟨8, _⟩ => ⟨S24576x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![24, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  let c0_i32_10 : BitVec 32 := 0#32
  ![v21.toNat, c0_i32_7.toNat, c0_i32_8.toNat, c0_i32_9.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c1_i32_7 : BitVec 32 := 1#32
  let c0_i32_8 : BitVec 32 := 0#32
  let c0_i32_9 : BitVec 32 := 0#32
  let c0_i32_10 : BitVec 32 := 0#32
  ![v21.toNat, c1_i32_7.toNat, c0_i32_8.toNat, c0_i32_9.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== HyInRefIdeal.lean ====
abbrev S24576x2048 : Shape := ⟨2, ![24576, 2048]⟩
abbrev S2048 : Shape := ⟨1, ![2048]⟩
abbrev S8x6x1x2048 : Shape := ⟨4, ![8, 6, 1, 2048]⟩
abbrev S2048x6144 : Shape := ⟨2, ![2048, 6144]⟩
abbrev S6144 : Shape := ⟨1, ![6144]⟩
abbrev S8192x2048 : Shape := ⟨2, ![8192, 2048]⟩
abbrev S32x256x2048 : Shape := ⟨3, ![32, 256, 2048]⟩
abbrev S16384x2048 : Shape := ⟨2, ![16384, 2048]⟩
abbrev S4x4096x2048 : Shape := ⟨3, ![4, 4096, 2048]⟩
abbrev S1x1x1x2048 : Shape := ⟨4, ![1, 1, 1, 2048]⟩
abbrev S1x2048 : Shape := ⟨2, ![1, 2048]⟩
abbrev S4x1x1x2048 : Shape := ⟨4, ![4, 1, 1, 2048]⟩
abbrev S4x1x2048 : Shape := ⟨3, ![4, 1, 2048]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S4x4096 : Shape := ⟨2, ![4, 4096]⟩
abbrev S4x4096x1 : Shape := ⟨3, ![4, 4096, 1]⟩
abbrev S32x256x6144 : Shape := ⟨3, ![32, 256, 6144]⟩
abbrev S1x1x6144 : Shape := ⟨3, ![1, 1, 6144]⟩
abbrev S4x4096x6144 : Shape := ⟨3, ![4, 4096, 6144]⟩
abbrev S8192x6144 : Shape := ⟨2, ![8192, 6144]⟩
abbrev S16384x6144 : Shape := ⟨2, ![16384, 6144]⟩
abbrev S24576x6144 : Shape := ⟨2, ![24576, 6144]⟩

abbrev nBuf : Space → Nat
  | .hbm => 77
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S8x6x1x2048, .f32⟩
  | .hbm, ⟨3, _⟩ => ⟨S2048x6144, .f32⟩
  | .hbm, ⟨4, _⟩ => ⟨S6144, .f32⟩
  | .hbm, ⟨5, _⟩ => ⟨S8192x2048, .f32⟩
  | .hbm, ⟨6, _⟩ => ⟨S32x256x2048, .f32⟩
  | .hbm, ⟨7, _⟩ => ⟨S16384x2048, .f32⟩
  | .hbm, ⟨8, _⟩ => ⟨S4x4096x2048, .f32⟩
  | .hbm, ⟨9, _⟩ => ⟨S1x1x1x2048, .f32⟩
  | .hbm, ⟨10, _⟩ => ⟨S1x2048, .f32⟩
  | .hbm, ⟨11, _⟩ => ⟨S4x1x1x2048, .f32⟩
  | .hbm, ⟨12, _⟩ => ⟨S4x1x2048, .f32⟩
  | .hbm, ⟨13, _⟩ => ⟨S1x1x1x2048, .f32⟩
  | .hbm, ⟨14, _⟩ => ⟨S1x2048, .f32⟩
  | .hbm, ⟨15, _⟩ => ⟨S4x1x1x2048, .f32⟩
  | .hbm, ⟨16, _⟩ => ⟨S4x1x2048, .f32⟩
  | .hbm, ⟨17, _⟩ => ⟨S32x256x2048, .f32⟩
  | .hbm, ⟨18, _⟩ => ⟨S_, .f32⟩
  | .hbm, ⟨19, _⟩ => ⟨S32x256, .f32⟩
  | .hbm, ⟨20, _⟩ => ⟨S32x256x1, .f32⟩
  | .hbm, ⟨21, _⟩ => ⟨S_, .f32⟩
  | .hbm, ⟨22, _⟩ => ⟨S32x256x1, .f32⟩
  | .hbm, ⟨23, _⟩ => ⟨S32x256x1, .f32⟩
  | .hbm, ⟨24, _⟩ => ⟨S_, .f32⟩
  | .hbm, ⟨25, _⟩ => ⟨S32x256x1, .f32⟩
  | .hbm, ⟨26, _⟩ => ⟨S32x256x1, .f32⟩
  | .hbm, ⟨27, _⟩ => ⟨S32x256x1, .f32⟩
  | .hbm, ⟨28, _⟩ => ⟨S32x256x2048, .f32⟩
  | .hbm, ⟨29, _⟩ => ⟨S32x256x2048, .f32⟩
  | .hbm, ⟨30, _⟩ => ⟨S1x1x2048, .f32⟩
  | .hbm, ⟨31, _⟩ => ⟨S32x256x2048, .f32⟩
  | .hbm, ⟨32, _⟩ => ⟨S32x256x2048, .f32⟩
  | .hbm, ⟨33, _⟩ => ⟨S_, .f32⟩
  | .hbm, ⟨34, _⟩ => ⟨S1x2048, .f32⟩
  | .hbm, ⟨35, _⟩ => ⟨S1x2048, .f32⟩
  | .hbm, ⟨36, _⟩ => ⟨S1x1x2048, .f32⟩
  | .hbm, ⟨37, _⟩ => ⟨S32x256x2048, .f32⟩
  | .hbm, ⟨38, _⟩ => ⟨S32x256x2048, .f32⟩
  | .hbm, ⟨39, _⟩ => ⟨S1x1x2048, .f32⟩
  | .hbm, ⟨40, _⟩ => ⟨S32x256x2048, .f32⟩
  | .hbm, ⟨41, _⟩ => ⟨S32x256x2048, .f32⟩
  | .hbm, ⟨42, _⟩ => ⟨S4x4096x2048, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x1, .f32⟩
  | .hbm, ⟨53, _⟩ => ⟨S4x4096x2048, .f32⟩
  | .hbm, ⟨54, _⟩ => ⟨S4x4096x2048, .f32⟩
  | .hbm, ⟨55, _⟩ => ⟨S1x1x2048, .f32⟩
  | .hbm, ⟨56, _⟩ => ⟨S4x4096x2048, .f32⟩
  | .hbm, ⟨57, _⟩ => ⟨S4x4096x2048, .f32⟩
  | .hbm, ⟨58, _⟩ => ⟨S_, .f32⟩
  | .hbm, ⟨59, _⟩ => ⟨S4x1x2048, .f32⟩
  | .hbm, ⟨60, _⟩ => ⟨S4x1x2048, .f32⟩
  | .hbm, ⟨61, _⟩ => ⟨S4x4096x2048, .f32⟩
  | .hbm, ⟨62, _⟩ => ⟨S4x4096x2048, .f32⟩
  | .hbm, ⟨63, _⟩ => ⟨S4x4096x2048, .f32⟩
  | .hbm, ⟨64, _⟩ => ⟨S4x4096x2048, .f32⟩
  | .hbm, ⟨65, _⟩ => ⟨S32x256x6144, .f32⟩
  | .hbm, ⟨66, _⟩ => ⟨S1x1x6144, .f32⟩
  | .hbm, ⟨67, _⟩ => ⟨S32x256x6144, .f32⟩
  | .hbm, ⟨68, _⟩ => ⟨S32x256x6144, .f32⟩
  | .hbm, ⟨69, _⟩ => ⟨S4x4096x6144, .f32⟩
  | .hbm, ⟨70, _⟩ => ⟨S1x1x6144, .f32⟩
  | .hbm, ⟨71, _⟩ => ⟨S4x4096x6144, .f32⟩
  | .hbm, ⟨72, _⟩ => ⟨S4x4096x6144, .f32⟩
  | .hbm, ⟨73, _⟩ => ⟨S8192x6144, .f32⟩
  | .hbm, ⟨74, _⟩ => ⟨S16384x6144, .f32⟩
  | .hbm, ⟨75, _⟩ => ⟨S24576x6144, .f32⟩
  | .hbm, ⟨76, _⟩ => ⟨S24576x6144, .bf16⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩

abbrev nD : Nat := 1
abbrev τ : Topo := Topo.v7x

variable {F : FTy → Type} [FloatOps F]
-- ==== Out.lean ====
abbrev S24576x2048 : Shape := ⟨2, ![24576, 2048]⟩
abbrev S2048x2048 : Shape := ⟨2, ![2048, 2048]⟩
abbrev S2048 : Shape := ⟨1, ![2048]⟩
abbrev S8x6x1x2048 : Shape := ⟨4, ![8, 6, 1, 2048]⟩
abbrev S1x2048 : Shape := ⟨2, ![1, 2048]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1x1x1x1024 : Shape := ⟨4, ![1, 1, 1, 1024]⟩
abbrev S8192x2048 : Shape := ⟨2, ![8192, 2048]⟩
abbrev S32x256x2048 : Shape := ⟨3, ![32, 256, 2048]⟩
abbrev S16384x2048 : Shape := ⟨2, ![16384, 2048]⟩
abbrev S4x4096x2048 : Shape := ⟨3, ![4, 4096, 2048]⟩

abbrev nBuf : Space → Nat
  | .hbm => 12
  | .vmem => 12
  | .smem => 0
  | _ => 0

abbrev bufTy : (tb : Table) → Fin (tcTables nBuf tb) → BufTy
  | .hbm, ⟨0, _⟩ => ⟨S24576x2048, .bf16⟩
  | .hbm, ⟨1, _⟩ => ⟨S2048x2048, .f32⟩
  | .hbm, ⟨2, _⟩ => ⟨S2048, .f32⟩
  | .hbm, ⟨3, _⟩ => ⟨S24576x2048, .f32⟩
  | .hbm, ⟨4, _⟩ => ⟨S8x6x1x2048, .f32⟩
  | .hbm, ⟨5, _⟩ => ⟨S2048x2048, .bf16⟩
  | .hbm, ⟨6, _⟩ => ⟨S1x2048, .f32⟩
  | .hbm, ⟨7, _⟩ => ⟨S24576x2048, .f32⟩
  | .hbm, ⟨8, _⟩ => ⟨S8192x2048, .f32⟩
  | .hbm, ⟨9, _⟩ => ⟨S32x256x2048, .f32⟩
  | .hbm, ⟨10, _⟩ => ⟨S16384x2048, .f32⟩
  | .hbm, ⟨11, _⟩ => ⟨S4x4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1024x1024, .f32⟩
  | .local _ .vmem, ⟨11, _⟩ => ⟨S1024x1024, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c2_i32 : BitVec 32 := 2#32
  let c0_i32_7 : BitVec 32 := 0#32
  let c0_i32_8 : BitVec 32 := 0#32
  ![v21.toNat, c2_i32.toNat, c0_i32_7.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S24576x2048 : Shape := ⟨2, ![24576, 2048]⟩
abbrev S2048x2048 : Shape := ⟨2, ![2048, 2048]⟩
abbrev S2048 : Shape := ⟨1, ![2048]⟩
abbrev S8x6x1x2048 : Shape := ⟨4, ![8, 6, 1, 2048]⟩
abbrev S8192x2048 : Shape := ⟨2, ![8192, 2048]⟩
abbrev S32x256x2048 : Shape := ⟨3, ![32, 256, 2048]⟩
abbrev S16384x2048 : Shape := ⟨2, ![16384, 2048]⟩
abbrev S4x4096x2048 : Shape := ⟨3, ![4, 4096, 2048]⟩
abbrev S1x1x1x2048 : Shape := ⟨4, ![1, 1, 1, 2048]⟩
abbrev S1x2048 : Shape := ⟨2, ![1, 2048]⟩
abbrev S4x1x1x2048 : Shape := ⟨4, ![4, 1, 1, 2048]⟩
abbrev S4x1x2048 : Shape := ⟨3, ![4, 1, 2048]⟩
abbrev S1x1x2048 : Shape := ⟨3, ![1, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x2048, .f32⟩
  | .hbm, ⟨2, _⟩ => ⟨S2048, .f32⟩
  | .hbm, ⟨3, _⟩ => ⟨S24576x2048, .f32⟩
  | .hbm, ⟨4, _⟩ => ⟨S8x6x1x2048, .f32⟩
  | .hbm, ⟨5, _⟩ => ⟨S24576x2048, .f32⟩
  | .hbm, ⟨6, _⟩ => ⟨S8192x2048, .f32⟩
  | .hbm, ⟨7, _⟩ => ⟨S32x256x2048, .f32⟩
  | .hbm, ⟨8, _⟩ => ⟨S16384x2048, .f32⟩
  | .hbm, ⟨9, _⟩ => ⟨S4x4096x2048, .f32⟩
  | .hbm, ⟨10, _⟩ => ⟨S8192x2048, .f32⟩
  | .hbm, ⟨11, _⟩ => ⟨S32x256x2048, .f32⟩
  | .hbm, ⟨12, _⟩ => ⟨S16384x2048, .f32⟩
  | .hbm, ⟨13, _⟩ => ⟨S4x4096x2048, .f32⟩
  | .hbm, ⟨14, _⟩ => ⟨S1x1x1x2048, .f32⟩
  | .hbm, ⟨15, _⟩ => ⟨S1x2048, .f32⟩
  | .hbm, ⟨16, _⟩ => ⟨S4x1x1x2048, .f32⟩
  | .hbm, ⟨17, _⟩ => ⟨S4x1x2048, .f32⟩
  | .hbm, ⟨18, _⟩ => ⟨S32x256x2048, .f32⟩
  | .hbm, ⟨19, _⟩ => ⟨S1x1x2048, .f32⟩
  | .hbm, ⟨20, _⟩ => ⟨S32x256x2048, .f32⟩
  | .hbm, ⟨21, _⟩ => ⟨S32x256x2048, .f32⟩
  | .hbm, ⟨22, _⟩ => ⟨S1x1x2048, .f32⟩
  | .hbm, ⟨23, _⟩ => ⟨S32x256x2048, .f32⟩
  | .hbm, ⟨24, _⟩ => ⟨S32x256x2048, .f32⟩
  | .hbm, ⟨25, _⟩ => ⟨S32x256x2048, .f32⟩
  | .hbm, ⟨26, _⟩ => ⟨S4x4096x2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Adaln.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩
abbrev S4x4x12288 : Shape := ⟨3, ![4, 4, 12288]⟩

abbrev nBuf : Space → Nat
  | .hbm => 12
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S4x1x12288, .f32⟩
  | .hbm, ⟨9, _⟩ => ⟨S4x8x12288, .f32⟩
  | .hbm, ⟨10, _⟩ => ⟨S4x1x12288, .f32⟩
  | .hbm, ⟨11, _⟩ => ⟨S4x4x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnRefIdeal.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S4x12288x1 : Shape := ⟨3, ![4, 12288, 1]⟩
abbrev S4x1x12288 : Shape := ⟨3, ![4, 1, 12288]⟩
abbrev S4x12288x4 : Shape := ⟨3, ![4, 12288, 4]⟩
abbrev S4x4x12288 : Shape := ⟨3, ![4, 4, 12288]⟩

abbrev nBuf : Space → Nat
  | .hbm => 32
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S4x12288x1, .f32⟩
  | .hbm, ⟨15, _⟩ => ⟨S4x1x12288, .f32⟩
  | .hbm, ⟨16, _⟩ => ⟨S4x1x12288, .f32⟩
  | .hbm, ⟨17, _⟩ => ⟨S4x1x12288, .f32⟩
  | .hbm, ⟨18, _⟩ => ⟨S4x2048, .f32⟩
  | .hbm, ⟨19, _⟩ => ⟨S4x2048, .f32⟩
  | .hbm, ⟨20, _⟩ => ⟨S_, .f32⟩
  | .hbm, ⟨21, _⟩ => ⟨S4x2048, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S4x2048, .f32⟩
  | .hbm, ⟨27, _⟩ => ⟨S4x12288x4, .f32⟩
  | .hbm, ⟨28, _⟩ => ⟨S4x4x12288, .f32⟩
  | .hbm, ⟨29, _⟩ => ⟨S4x1x12288, .f32⟩
  | .hbm, ⟨30, _⟩ => ⟨S4x4x12288, .f32⟩
  | .hbm, ⟨31, _⟩ => ⟨S4x4x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== AttnC.lean ====
abbrev S8192x2048 : Shape := ⟨2, ![8192, 2048]⟩
abbrev S8192x512 : Shape := ⟨2, ![8192, 512]⟩
abbrev S256x2048 : Shape := ⟨2, ![256, 2048]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 1, 1], ![false, false, false]⟩

def k0_cond3 (i : grid0.Coords) : BitVec 1 :=
  let arg2 : BitVec 32 := BitVec.ofNat 32 (i 2).val
  let c0_i32_2 : BitVec 32 := 0#32
  let v6 : BitVec 1 := Scalar.cmpi .eq arg2 c0_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.minsi arg2 c0_i32
  let v2 : BitVec 32 := Scalar.addi v0 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.minsi arg2 c0_i32
  let v2 : BitVec 32 := Scalar.addi v0 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnCRefIdeal.lean ====
abbrev S8192x2048 : Shape := ⟨2, ![8192, 2048]⟩
abbrev S8192x512 : Shape := ⟨2, ![8192, 512]⟩
abbrev S32x256x4x4x128 : Shape := ⟨5, ![32, 256, 4, 4, 128]⟩
abbrev S32x256x4x128 : Shape := ⟨4, ![32, 256, 4, 128]⟩
abbrev S32x4x256x256x4 : Shape := ⟨5, ![32, 4, 256, 256, 4]⟩
abbrev S32x4x4x256x256 : Shape := ⟨5, ![32, 4, 4, 256, 256]⟩
abbrev S_ : Shape := ⟨0, ![]⟩
abbrev S32x4x4x256 : Shape := ⟨4, ![32, 4, 4, 256]⟩
abbrev S32x4x4x256x1 : Shape := ⟨5, ![32, 4, 4, 256, 1]⟩
abbrev S32x4x128x4x256 : Shape := ⟨5, ![32, 4, 128, 4, 256]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S32x256x4x4x128, .bf16⟩
  | .hbm, ⟨4, _⟩ => ⟨S8192x512, .f32⟩
  | .hbm, ⟨5, _⟩ => ⟨S32x256x4x128, .f32⟩
  | .hbm, ⟨6, _⟩ => ⟨S8192x512, .f32⟩
  | .hbm, ⟨7, _⟩ => ⟨S32x256x4x128, .f32⟩
  | .hbm, ⟨8, _⟩ => ⟨S32x256x4x4x128, .f32⟩
  | .hbm, ⟨9, _⟩ => ⟨S32x4x256x256x4, .f32⟩
  | .hbm, ⟨10, _⟩ => ⟨S32x4x4x256x256, .f32⟩
  | .hbm, ⟨11, _⟩ => ⟨S_, .f32⟩
  | .hbm, ⟨12, _⟩ => ⟨S32x4x4x256, .f32⟩
  | .hbm, ⟨13, _⟩ => ⟨S_, .f32⟩
  | .hbm, ⟨14, _⟩ => ⟨S32x4x4x256, .f32⟩
  | .hbm, ⟨15, _⟩ => ⟨S32x4x4x256, .f32⟩
  | .hbm, ⟨16, _⟩ => ⟨S32x4x4x256x1, .f32⟩
  | .hbm, ⟨17, _⟩ => ⟨S32x4x4x256x256, .f32⟩
  | .hbm, ⟨18, _⟩ => ⟨S32x4x4x256x256, .f32⟩
  | .hbm, ⟨19, _⟩ => ⟨S32x4x4x256x256, .f32⟩
  | .hbm, ⟨20, _⟩ => ⟨S_, .f32⟩
  | .hbm, ⟨21, _⟩ => ⟨S32x4x4x256, .f32⟩
  | .hbm, ⟨22, _⟩ => ⟨S32x4x4x256x1, .f32⟩
  | .hbm, ⟨23, _⟩ => ⟨S32x4x4x256x256, .f32⟩
  | .hbm, ⟨24, _⟩ => ⟨S32x4x4x256x256, .f32⟩
  | .hbm, ⟨25, _⟩ => ⟨S32x4x128x4x256, .f32⟩
  | .hbm, ⟨26, _⟩ => ⟨S32x256x4x4x128, .f32⟩
  | .hbm, ⟨27, _⟩ => ⟨S8192x2048, .f32⟩
  | .hbm, ⟨28, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proof.Moe.Tables.lean ====
/-
What the preconditions say, entry by entry.
-/
module

public import proofs.«01_k».proof.Defs
public import Idealize.ShloMosaic.Lib.WordCmp
public import Idealize.ShloMosaic.Lib.ReduceAll
public import Idealize.ShloMosaic.Lib.Claim
public import Idealize.ShloMosaic.Lib.Pipeline.ValueKit

@[expose] public section

set_option maxRecDepth 16384

namespace Cert.Moe

open Idealize.ShloMosaic

/-- A word between 0 and 15, as signed numbers, is below 16 as a natural number. -/
theorem lt16 (x : BitVec 32) (h0 : IntOp.cmpi .sge x 0#32 = 1#1) (h1 : IntOp.cmpi .slt x 16#32 = 1#1) : x.toNat < 16 := by
  rw [WordCmp.cmpi_sge_zero] at h0
  have h0 : x.toNat < 2 ^ 31 := of_decide_eq_true ((WordCmp.ofBool_eq_one_iff _).mp h0)
  rw [WordCmp.cmpi_slt_of_lt h0 (by decide)] at h1
  exact of_decide_eq_true ((WordCmp.ofBool_eq_one_iff _).mp h1)

section
variable {F : FTy → Type} [FloatOps F]

/-- The first precondition: every entry of the two tables of experts is below 16. -/
theorem in_range [Cert.Pre_tiles_in_range.Facts] (ea eb nv : IVec Cert.Pre_tiles_in_range.S120 32) (x3 : FVec F Cert.Pre_tiles_in_range.S30720x2176 .f32)
    (x4 x5 : FVec F Cert.Pre_tiles_in_range.S16x2048x512 .f32) (x6 : FVec F Cert.Pre_tiles_in_range.S16x512x2048 .f32)
    (h : Cert.Pre_tiles_in_range.fn (F := F) ea eb nv x3 x4 x5 x6 = fun _ => 1#1) : (∀ x, (ea x).toNat < 16) ∧ ∀ x, (eb x).toNat < 16 := by
  have e := congrFun h (Shape.Idx.first Cert.Pre_tiles_in_range.Facts.h_S_)
  haveI : Subsingleton Cert.Pre_tiles_in_range.S_.Idx := ⟨fun a b => funext fun i => i.elim0⟩
  obtain ⟨e, e3⟩ := IntOp.andi_eq_one.mp e
  obtain ⟨e, e2⟩ := IntOp.andi_eq_one.mp e
  obtain ⟨e0, e1⟩ := IntOp.andi_eq_one.mp e
  exact ⟨fun x => lt16 _ (Host.reduce_andi_all _ _ _ _ _ e0 x) (Host.reduce_andi_all _ _ _ _ _ e1 x),
    fun x => lt16 _ (Host.reduce_andi_all _ _ _ _ _ e2 x) (Host.reduce_andi_all _ _ _ _ _ e3 x)⟩
end

/-- The second precondition: the experts are below 16, no tile's count of rows is negative, and a row
    within its tile's count has weights that are nonnegative and not infinite. -/
theorem routed [Cert.Pre_routed.Facts] (ea eb nv : IVec Cert.Pre_routed.S120 32) (x3 : FVec Ideal Cert.Pre_routed.S30720x2176 .f32)
    (x4 x5 : FVec Ideal Cert.Pre_routed.S16x2048x512 .f32) (x6 : FVec Ideal Cert.Pre_routed.S16x512x2048 .f32)
    (h : Cert.Pre_routed.fn (F := Ideal) ea eb nv x3 x4 x5 x6 = fun _ => 1#1) :
    (∀ x, (ea x).toNat < 16) ∧ (∀ x, (eb x).toNat < 16) ∧ (∀ x, IntOp.cmpi .sge (nv x) 0#32 = 1#1)
      ∧ ∀ (r : Fin 30720) (s : Fin 2), IntOp.cmpi .slt (IntOp.remsi .host (BitVec.ofNat 32 r.val) 256#32) (nv (ix1 ⟨r.val / 256, by omega⟩)) = 1#1
        → 0 ≤ x3 (ix2 r ⟨2048 + s.val, by omega⟩) ∧ x3 (ix2 r ⟨2048 + s.val, by omega⟩) ≠ ⊤ := by
  have e := congrFun h (Shape.Idx.first Cert.Pre_routed.Facts.h_S_)
  haveI : Subsingleton Cert.Pre_routed.S_.Idx := ⟨fun a b => funext fun i => i.elim0⟩
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  refine ⟨fun x => lt16 _ (Host.reduce_andi_all _ _ _ _ _ e0 x) (Host.reduce_andi_all _ _ _ _ _ e1 x),
    fun x => lt16 _ (Host.reduce_andi_all _ _ _ _ _ e2 x) (Host.reduce_andi_all _ _ _ _ _ e3 x),
    fun x => Host.reduce_andi_all _ _ _ _ _ e4 x, fun r s hv => ?_⟩
  have e5 := Host.reduce_andi_all _ _ _ _ _ e5 (ix2 r s)
  have e6 : IntOp.ori (~~~ IntOp.cmpi .slt (IntOp.remsi .host (BitVec.ofNat 32 r.val) 256#32) (nv (ix1 ⟨r.val / 256, by omega⟩)))
      (IntOp.andi (Ideal.cmp .oge (x3 (ix2 r ⟨2048 + s.val, by omega⟩)) 0) (Ideal.cmp .olt (x3 (ix2 r ⟨2048 + s.val, by omega⟩)) (Ideal.ofBits .f32 0x7F800000#32))) = 1#1 := by
    refine Eq.trans ?_ e5
    pointwise
  rw [hv, (by decide : ∀ p : BitVec 1, IntOp.ori (~~~1#1) p = p), show Ideal.ofBits .f32 0x7F800000#32 = (⊤ : EReal) by simp [Ideal.ofBits, Ideal.ieee]] at e6
  obtain ⟨ha, hb⟩ := IntOp.andi_eq_one.mp e6
  exact ⟨of_decide_eq_true ((WordCmp.ofBool_eq_one_iff _).mp ha), ne_of_lt (of_decide_eq_true ((WordCmp.ofBool_eq_one_iff _).mp hb))⟩

end Cert.Moe
-- ==== Proof.Moe.Ideal.Kit.lean ====
/-
The launch of the expert kernel ExpertsIdeal: what its region finds in memory, its blocks, and the frame read off a run.
-/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer of core `c` when the kernel's region is entered: the launch memory after the weights' casts. -/
abbrev V (c : Dev nD) (b : Ref sig .tc) : Buf (Elt F) ((c : Thread nD τ).loc b) := StableHlo.after hostOps0 (fun b => m (c, b)) b

/-- The casts allocate nothing. -/
theorem casts_fresh : (hostOps0 : List (HloOp τ sig (Elt F))).Forall fun op => op.fresh = ∅ := by
  simp only [List.Forall]; repeat' constructor

set_option maxHeartbeats 800000 in
/-- The program up to its region is the casts, which leave the memory at `V`. -/
theorem prefix_run (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub casts_fresh main_chain

/-- The casts do not write argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-- The casts do not write argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-- The casts do not write argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-- The casts do not write argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-- The casts do not write argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-- The casts do not write argument 5. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-- The casts do not write argument 6. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-- The three tables the kernel prefetches, as the region finds them. -/
def tbl : pre0.Contents (Elt F) := fun j => V m (0 : Dev nD) (pre0.ref j)

/-- There is one device, so the tables are those on every device. -/
theorem V_tbl (c : Dev nD) (j : Fin 3) : V m c (pre0.ref j) = tbl m j := by
  obtain rfl : c = 0 := Subsingleton.elim _ _; rfl

/-- The tables' side condition: every block they select lies inside its array. -/
abbrev Ok : Prop := ok0 (F := F) (tbl m)
/-- The tables as admissible contents, -/
abbrev adm (hO : Ok m) : (pcfg0 (F := F)).Adm := ⟨tbl m, hO⟩
/-- and the pipeline at them. -/
abbrev cfgM (hO : Ok m) : Pipeline.Cfg sig Λ₀ := cfg0 (adm m hO)

/-- Table 0 as the body is handed it. -/
abbrev tbM0 : Memref sig .tc .smem S120 .i32 := Memref.whole main_arg0
/-- It is a whole buffer. -/
abbrev htbM0 : tbM0.IsWhole := Memref.isWhole_whole _
/-- Table 1 as the body is handed it. -/
abbrev tbM1 : Memref sig .tc .smem S120 .i32 := Memref.whole main_arg1
/-- It is a whole buffer. -/
abbrev htbM1 : tbM1.IsWhole := Memref.isWhole_whole _
/-- Table 2 as the body is handed it. -/
abbrev tbM2 : Memref sig .tc .smem S120 .i32 := Memref.whole main_arg2
/-- It is a whole buffer. -/
abbrev htbM2 : tbM2.IsWhole := Memref.isWhole_whole _

/-- The contents of a table's buffer on core `c`. -/
abbrev TbBuf (c : Dev nD) {S : Shape} {e : EltTy} (M : Memref sig .tc .smem S e) : Type := Buf (Elt F) (M.view.loc (c : Thread nD τ))
/-- A table's buffer, half owned, at the contents `f`. -/
abbrev tbPt (c : Dev nD) {S : Shape} {e : EltTy} (M : Memref sig .tc .smem S e) (f : TbBuf (F := F) c M) : sProp 𝕄 :=
  M.view.loc (c : Thread nD τ) ↦{fullShare.right} f

/-- The tables' halves the region hands to the body, table by table. -/
theorem tables_eq (c : Dev nD) : (Pipeline.ΦT pre0 (tbl m) c : sProp 𝕄) = iprop(tbPt c tbM0 (tbl m 0) ∗ tbPt c tbM1 (tbl m 1) ∗ tbPt c tbM2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, for data that leave the block in place. -/
theorem holds0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for data that leave the block in place. -/
theorem holds1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for data that leave the block in place. -/
theorem holds2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for data that leave the block in place. -/
theorem holds3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for data that leave the block in place. -/
theorem holds4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for data that leave the block in place. -/
theorem holds5 (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for data that leave the block in place. -/
theorem holds6 (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The memory `r` holds the arguments as `m` does. -/
def Same (r : (ℓ : Loc nD τ sig) → Buf (Elt F) ℓ) : Prop := ∀ c : Dev nD,
      r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)
      ∧ r ((c.tc : Thread nD τ).loc main_arg4) = m ((c.tc : Thread nD τ).loc main_arg4)
      ∧ r ((c.tc : Thread nD τ).loc main_arg5) = m ((c.tc : Thread nD τ).loc main_arg5)
      ∧ r ((c.tc : Thread nD τ).loc main_arg6) = m ((c.tc : Thread nD τ).loc main_arg6)

/-- A run to the pipeline's final state leaves the arguments as they were. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => Same m r.2.mem) :=
  (θ_run defs _ _).mono (fun _ h c => ⟨
      ((h c).2 main_arg0 (by decide : main_arg0 ∈ Pipeline.restRefs sig spec0)).trans (V_arg0 m c),
      ((h c).2 main_arg1 (by decide : main_arg1 ∈ Pipeline.restRefs sig spec0)).trans (V_arg1 m c),
      ((h c).2 main_arg2 (by decide : main_arg2 ∈ Pipeline.restRefs sig spec0)).trans (V_arg2 m c),
      (Pipeline.RDat.FramePost.arr_in h c 0 rfl).trans ((hA c 0).trans (V_arg3 m c)),
      ((h c).2 main_arg4 (by decide : main_arg4 ∈ Pipeline.restRefs sig spec0)).trans (V_arg4 m c),
      ((h c).2 main_arg5 (by decide : main_arg5 ∈ Pipeline.restRefs sig spec0)).trans (V_arg5 m c),
      ((h c).2 main_arg6 (by decide : main_arg6 ∈ Pipeline.restRefs sig spec0)).trans (V_arg6 m c)⟩) h

/-- Window 0's staging buffer at point `t`, -/
abbrev stg0 (hO : Ok m) (t : Fin (cfgM m hO).N) : Memref sig .tc .vmem S256x2176 .f32 := spec0_0.stage ((cfgM m hO).slots t 0)
/-- a whole one. -/
abbrev hstg0 (hO : Ok m) (t : Fin (cfgM m hO).N) : (stg0 m hO t).IsWhole := hstage0_0 (((cfgM m hO).slots t 0).cast nbuf0_0)
/-- Window 1's staging buffer at point `t`, -/
abbrev stg1 (hO : Ok m) (t : Fin (cfgM m hO).N) : Memref sig .tc .vmem S1x2048x512 .bf16 := spec0_1.stage ((cfgM m hO).slots t 1)
/-- a whole one. -/
abbrev hstg1 (hO : Ok m) (t : Fin (cfgM m hO).N) : (stg1 m hO t).IsWhole := hstage0_1 (((cfgM m hO).slots t 1).cast nbuf0_1)
/-- Window 2's staging buffer at point `t`, -/
abbrev stg2 (hO : Ok m) (t : Fin (cfgM m hO).N) : Memref sig .tc .vmem S1x2048x512 .bf16 := spec0_2.stage ((cfgM m hO).slots t 2)
/-- a whole one. -/
abbrev hstg2 (hO : Ok m) (t : Fin (cfgM m hO).N) : (stg2 m hO t).IsWhole := hstage0_2 (((cfgM m hO).slots t 2).cast nbuf0_2)
/-- Window 3's staging buffer at point `t`, -/
abbrev stg3 (hO : Ok m) (t : Fin (cfgM m hO).N) : Memref sig .tc .vmem S1x512x2048 .bf16 := spec0_3.stage ((cfgM m hO).slots t 3)
/-- a whole one. -/
abbrev hstg3 (hO : Ok m) (t : Fin (cfgM m hO).N) : (stg3 m hO t).IsWhole := hstage0_3 (((cfgM m hO).slots t 3).cast nbuf0_3)
/-- Window 4's staging buffer at point `t`, -/
abbrev stg4 (hO : Ok m) (t : Fin (cfgM m hO).N) : Memref sig .tc .vmem S1x2048x512 .bf16 := spec0_4.stage ((cfgM m hO).slots t 4)
/-- a whole one. -/
abbrev hstg4 (hO : Ok m) (t : Fin (cfgM m hO).N) : (stg4 m hO t).IsWhole := hstage0_4 (((cfgM m hO).slots t 4).cast nbuf0_4)
/-- Window 5's staging buffer at point `t`, -/
abbrev stg5 (hO : Ok m) (t : Fin (cfgM m hO).N) : Memref sig .tc .vmem S1x2048x512 .bf16 := spec0_5.stage ((cfgM m hO).slots t 5)
/-- a whole one. -/
abbrev hstg5 (hO : Ok m) (t : Fin (cfgM m hO).N) : (stg5 m hO t).IsWhole := hstage0_5 (((cfgM m hO).slots t 5).cast nbuf0_5)
/-- Window 6's staging buffer at point `t`, -/
abbrev stg6 (hO : Ok m) (t : Fin (cfgM m hO).N) : Memref sig .tc .vmem S1x512x2048 .bf16 := spec0_6.stage ((cfgM m hO).slots t 6)
/-- a whole one. -/
abbrev hstg6 (hO : Ok m) (t : Fin (cfgM m hO).N) : (stg6 m hO t).IsWhole := hstage0_6 (((cfgM m hO).slots t 6).cast nbuf0_6)
/-- Window 7's staging buffer at point `t`, -/
abbrev stg7 (hO : Ok m) (t : Fin (cfgM m hO).N) : Memref sig .tc .vmem S256x2048 .f32 := spec0_7.stage ((cfgM m hO).slots t 7)
/-- a whole one. -/
abbrev hstg7 (hO : Ok m) (t : Fin (cfgM m hO).N) : (stg7 m hO t).IsWhole := hstage0_7 (((cfgM m hO).slots t 7).cast nbuf0_7)

/-- The output's block is written back at every point. -/
theorem flush7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The body as the pipeline calls it at point `t`. -/
abbrev bodyAt (hO : Ok m) (t : Fin (cfgM m hO).N) : Prog (TpuEff nD τ sig (Elt F) Λ₀ .tc) PUnit :=
  cc0_moe_experts (grid0.coords t) tbM0 htbM0 tbM1 htbM1 tbM2 htbM2 (stg0 m hO t) (hstg0 m hO t) (stg1 m hO t) (hstg1 m hO t) (stg2 m hO t) (hstg2 m hO t) (stg3 m hO t) (hstg3 m hO t) (stg4 m hO t) (hstg4 m hO t) (stg5 m hO t) (hstg5 m hO t) (stg6 m hO t) (hstg6 m hO t) (stg7 m hO t) (hstg7 m hO t)

/-- The body table's row for point `t` is that call. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.ExpertsIdeal.Moe

end
-- ==== Proof.Moe.Ideal.Frame.lean ====
/-
The frame of the expert kernel ExpertsIdeal: it runs to its end and leaves its arguments unchanged.
Of the output block nothing is said here.
-/
module

public import proofs.«01_k».proof.Proof.Moe.Ideal.Kit
public import Idealize.ShloMosaic.Lib.Claim

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

set_option maxHeartbeats 1000000 in
/-- The body runs on whole buffers, gives back its inputs as they were, and the output at some contents. -/
theorem runs (c : Dev nD) (i : grid0.Coords) (arg4 : Memref sig .tc .vmem S256x2176 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x512x2048 .bf16) (harg10 : arg10.IsWhole) (arg11 : Memref sig .tc .vmem S256x2048 .f32) (harg11 : arg11.IsWhole)
    (x0 : Vec F S256x2176 .f32) (x1 : Vec F S1x2048x512 .bf16) (x2 : Vec F S1x2048x512 .bf16) (x3 : Vec F S1x512x2048 .bf16) (x4 : Vec F S1x2048x512 .bf16) (x5 : Vec F S1x2048x512 .bf16) (x6 : Vec F S1x512x2048 .bf16) (xt0 : TbBuf (F := F) c tbM0) (xt1 : TbBuf (F := F) c tbM1) (xt2 : TbBuf (F := F) c tbM2) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ tbPt c tbM0 xt0 ∗ tbPt c tbM1 xt1 ∗ tbPt c tbM2 xt2
          ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ tbPt c tbM0 xt0 ∗ tbPt c tbM1 xt1 ∗ tbPt c tbM2 xt2) -∗ K ⟨⟩))
        ⊢ wp frame (wpE (defs₀ (F := F)) Variants.none c none) E (cc0_moe_experts i tbM0 htbM0 tbM1 htbM1 tbM2 htbM2 arg4 harg4 arg5 harg5 arg6 harg6 arg7 harg7 arg8 harg8 arg9 harg9 arg10 harg10 arg11 harg11) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _, _; isplitr; swap; · iexact H7
    ipureintro; rfl
  isplitl [HT0]; · iexact HT0
  isplitl [HT1]; · iexact HT1
  iexact HT2

variable (m : (ℓ : Loc nD τ sig) → Buf (Elt F) ℓ) (ρ : Dev nD → PrngReg)

/-- Only the output's window is left unnamed. -/
def unnamed7 : Fin 8 → Bool := fun w => w.val == 7

/-- The pipeline's proof data: after each point the inputs' buffers hold their blocks, and of the output nothing is said. -/
def dat (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
  Φ _ := iprop(Pipeline.ΦA spec0 c ∗ Pipeline.ΦT pre0 (tbl m) c)
  q w := Pipeline.shareOf spec0 w
  owed _ := 0

/-- Its arrays are those the region finds. -/
theorem dat_A (hO : Ok m) (c : Dev nD) (w : Fin (cfgM m hO).W) : (dat m hO 0 c).A w = V m c (Pipeline.arrRef spec0 w) := by
  dsimp only [dat]

theorem dat_after0 (hO : Ok m) (c : Dev nD) (t : Fin (cfgM m hO).N) : (dat m hO 0 c).after 0 t = iblk m hO c 0 t := by dsimp only [dat]; try rfl
theorem dat_after1 (hO : Ok m) (c : Dev nD) (t : Fin (cfgM m hO).N) : (dat m hO 0 c).after 1 t = iblk m hO c 1 t := by dsimp only [dat]; try rfl
theorem dat_after2 (hO : Ok m) (c : Dev nD) (t : Fin (cfgM m hO).N) : (dat m hO 0 c).after 2 t = iblk m hO c 2 t := by dsimp only [dat]; try rfl
theorem dat_after3 (hO : Ok m) (c : Dev nD) (t : Fin (cfgM m hO).N) : (dat m hO 0 c).after 3 t = iblk m hO c 3 t := by dsimp only [dat]; try rfl
theorem dat_after4 (hO : Ok m) (c : Dev nD) (t : Fin (cfgM m hO).N) : (dat m hO 0 c).after 4 t = iblk m hO c 4 t := by dsimp only [dat]; try rfl
theorem dat_after5 (hO : Ok m) (c : Dev nD) (t : Fin (cfgM m hO).N) : (dat m hO 0 c).after 5 t = iblk m hO c 5 t := by dsimp only [dat]; try rfl
theorem dat_after6 (hO : Ok m) (c : Dev nD) (t : Fin (cfgM m hO).N) : (dat m hO 0 c).after 6 t = iblk m hO c 6 t := by dsimp only [dat]; try rfl
theorem dat_before0 (hO : Ok m) (c : Dev nD) (t : Fin (cfgM m hO).N) (d) : (dat m hO 0 c).before 0 t d = iblk m hO c 0 t :=
  holds0 m hO (dat m hO 0 c) (dat_A m hO c 0) (dat_after0 m hO c) t d
theorem dat_before1 (hO : Ok m) (c : Dev nD) (t : Fin (cfgM m hO).N) (d) : (dat m hO 0 c).before 1 t d = iblk m hO c 1 t :=
  holds1 m hO (dat m hO 0 c) (dat_A m hO c 1) (dat_after1 m hO c) t d
theorem dat_before2 (hO : Ok m) (c : Dev nD) (t : Fin (cfgM m hO).N) (d) : (dat m hO 0 c).before 2 t d = iblk m hO c 2 t :=
  holds2 m hO (dat m hO 0 c) (dat_A m hO c 2) (dat_after2 m hO c) t d
theorem dat_before3 (hO : Ok m) (c : Dev nD) (t : Fin (cfgM m hO).N) (d) : (dat m hO 0 c).before 3 t d = iblk m hO c 3 t :=
  holds3 m hO (dat m hO 0 c) (dat_A m hO c 3) (dat_after3 m hO c) t d
theorem dat_before4 (hO : Ok m) (c : Dev nD) (t : Fin (cfgM m hO).N) (d) : (dat m hO 0 c).before 4 t d = iblk m hO c 4 t :=
  holds4 m hO (dat m hO 0 c) (dat_A m hO c 4) (dat_after4 m hO c) t d
theorem dat_before5 (hO : Ok m) (c : Dev nD) (t : Fin (cfgM m hO).N) (d) : (dat m hO 0 c).before 5 t d = iblk m hO c 5 t :=
  holds5 m hO (dat m hO 0 c) (dat_A m hO c 5) (dat_after5 m hO c) t d
theorem dat_before6 (hO : Ok m) (c : Dev nD) (t : Fin (cfgM m hO).N) (d) : (dat m hO 0 c).before 6 t d = iblk m hO c 6 t :=
  holds6 m hO (dat m hO 0 c) (dat_A m hO c 6) (dat_after6 m hO c) t d

/-- What the body is given at point `t`, window by window, -/
def datPre (hO : Ok m) (c : Dev nD) (t : Fin (cfgM m hO).N) : sProp 𝕄 :=
  iprop((dat m hO 0 c).Φ t.castSucc ∗ (dat m hO 0 c).owesAt () t.castSucc
    ∗ (∃ d, owns (c : Thread nD τ) (stg0 m hO t) fullShare ((dat m hO 0 c).before 0 t d))
    ∗ (∃ d, owns (c : Thread nD τ) (stg1 m hO t) fullShare ((dat m hO 0 c).before 1 t d))
    ∗ (∃ d, owns (c : Thread nD τ) (stg2 m hO t) fullShare ((dat m hO 0 c).before 2 t d))
    ∗ (∃ d, owns (c : Thread nD τ) (stg3 m hO t) fullShare ((dat m hO 0 c).before 3 t d))
    ∗ (∃ d, owns (c : Thread nD τ) (stg4 m hO t) fullShare ((dat m hO 0 c).before 4 t d))
    ∗ (∃ d, owns (c : Thread nD τ) (stg5 m hO t) fullShare ((dat m hO 0 c).before 5 t d))
    ∗ (∃ d, owns (c : Thread nD τ) (stg6 m hO t) fullShare ((dat m hO 0 c).before 6 t d))
    ∗ (∃ d, owns (c : Thread nD τ) (stg7 m hO t) fullShare d))

/-- and what it returns. -/
def datPost (hO : Ok m) (c : Dev nD) (t : Fin (cfgM m hO).N) : sProp 𝕄 :=
  iprop((dat m hO 0 c).Φ t.succ ∗ (dat m hO 0 c).owesAt () t.succ
    ∗ owns (c : Thread nD τ) (stg0 m hO t) fullShare ((dat m hO 0 c).after 0 t)
    ∗ owns (c : Thread nD τ) (stg1 m hO t) fullShare ((dat m hO 0 c).after 1 t)
    ∗ owns (c : Thread nD τ) (stg2 m hO t) fullShare ((dat m hO 0 c).after 2 t)
    ∗ owns (c : Thread nD τ) (stg3 m hO t) fullShare ((dat m hO 0 c).after 3 t)
    ∗ owns (c : Thread nD τ) (stg4 m hO t) fullShare ((dat m hO 0 c).after 4 t)
    ∗ owns (c : Thread nD τ) (stg5 m hO t) fullShare ((dat m hO 0 c).after 5 t)
    ∗ owns (c : Thread nD τ) (stg6 m hO t) fullShare ((dat m hO 0 c).after 6 t)
    ∗ (∃ d, owns (c : Thread nD τ) (stg7 m hO t) fullShare d))

set_option maxHeartbeats 800000 in
/-- The body at any point takes the one to the other. -/
theorem dat_body (hO : Ok m) (c : Dev nD) (t : Fin (cfgM m hO).N) :
    datPre m hO c t ⊢ wp frame (wpE (defs₀ (F := F)) Variants.none c none) Set.univ (bodyAt m hO t) (fun _ => datPost m hO c t) := by
  unfold datPre datPost bodyAt
  simp only [dat_before0, dat_before1, dat_before2, dat_before3, dat_before4, dat_before5, dat_before6]
  rw [show (dat m hO 0 c).Φ t.succ = (dat m hO 0 c).Φ t.castSucc from rfl,
    show (dat m hO 0 c).owesAt () t.succ = (dat m hO 0 c).owesAt () t.castSucc from rfl, dat_after0, dat_after1, dat_after2, dat_after3, dat_after4, dat_after5, dat_after6]
  rw [show (dat m hO 0 c).Φ t.castSucc = iprop(Pipeline.ΦA spec0 c ∗ Pipeline.ΦT pre0 (tbl m) c) from rfl, tables_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (runs c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (tbl m 2) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  isplitl [HT1]; · iexact HT1
  isplitl [HT2]; · iexact HT2
  iintro ⟨H0, H1, H2, H3, H4, H5, H6, H7, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The same, as the pipeline asks for it. -/
theorem dat_obligation (hO : Ok m) (c : Dev nD) : BodyObligation (dat (F := F) m hO 0 c) (defs₀ (F := F)) Variants.none () Set.univ unnamed7 := fun t => by
  rw [bigSep_W0, bigSep_W0, body_row m hO]
  exact triple_restated (dat_body m hO c t) rfl .rfl fun _ => .rfl

set_option backward.isDefEq.respectTransparency.types false in
/-- The program runs to the pipeline's final state, with every semaphore at zero. -/
theorem runs_main (hO : Ok m) : θ_run defs (onTc (τ := τ) (main (F := F))) (s₀ m ρ) (fun r => (Pipeline.RDat.FramePost ((Pipeline.pin pcfgs fun _ => adm m hO) 0) (fun c => (dat m hO 0 c).toRForget unnamed7) (V m)) r ∧ r.2.sem = fun _ => 0) :=
  Pipeline.θ_run_frameP_forget_shared (Q' := _) pcfgs (fun _ => adm m hO) (dat m hO) (0 : Fin 1) launch₀0 defs₀ Variants.none unnamed7 m ρ main
    (hbody := fun c => (dat_obligation m hO c).loose) (hq := fun _ _ _ => rfl)
    (howed := fun _ _ => rfl) (V := V m) (hmain := prefix_run m Variants.none) (hA := dat_A m hO) (hpf := V_tbl m) (hΦ := fun _ _ => rfl)

/-- The frame: the program ends, its arguments unchanged and its semaphores at zero, if the tables select blocks inside the arrays. -/
theorem frame_run (hO : Ok m) : θ_run defs (onTc (τ := τ) (main (F := F))) ⟨m, fun _ => 0, ρ⟩ (fun r => Same m r.2.mem ∧ r.2.sem = fun _ => 0) :=
  θ_run_and (frame_of m ρ hO (fun c => (dat m hO 0 c).toRForget unnamed7) (dat_A m hO) ((θ_run defs _ _).mono (fun _ h => h.1) (runs_main m ρ hO)))
    ((θ_run defs _ _).mono (fun _ h => h.2) (runs_main m ρ hO))

end Cert.ExpertsIdeal.Moe

end
-- ==== Proof.Moe.Ideal.Exact.lean ====
/-
The expert kernel's run with its output named: what each tile's body leaves in the output block.
-/
module

public import proofs.«01_k».proof.Proof.Moe.Ideal.Frame
public import Idealize.ShloMosaic.Lib.WholeRead
public import Idealize.ShloMosaic.Lib.VecWindow

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-- The word of the third table the body reads at a tile: the number of its valid rows. -/
def word (c : Dev nD) (i : grid0.Coords) (xt2 : TbBuf (F := F) c tbM2) : Elt F .i32 :=
  View.readAt (Elt F) tbM2.view (Rect.unit (s := S120) (k0_off1 i) S1.size (k0_off1_inb i)).toLoadRect xt2 (Shape.Idx.first (show 0 < S1.numel by decide))

/-- The activations' columns of a tile's rows, -/
def tokens (x0 : Vec F S256x2176 .f32) : Vec F S256x2048 .f32 :=
  fun x => x0 ((Rect.unit (s := S256x2176) ![0, 0] S256x2048.size inb_S256x2176_S256x2048_0_0).toLoadRect.idx x)
/-- and the columns that hold their routing weights. -/
def gates (x0 : Vec F S256x2176 .f32) : Vec F S256x128 .f32 :=
  fun x => x0 ((Rect.unit (s := S256x2176) ![0, 2048] S256x128.size inb_S256x2176_S256x128_0_2048).toLoadRect.idx x)

/-- The output block of a tile with `v` valid rows: zero if there are none, else the two experts' outputs added. -/
def block (v : BitVec 32) (x0 : Vec F S256x2176 .f32) (x1 : Vec F S1x2048x512 .bf16) (x2 : Vec F S1x2048x512 .bf16) (x3 : Vec F S1x512x2048 .bf16) (x4 : Vec F S1x2048x512 .bf16) (x5 : Vec F S1x2048x512 .bf16) (x6 : Vec F S1x512x2048 .bf16) : FVec F S256x2048 .f32 :=
  if k0_cond2 v = 1#1 then k0_pay2
  else k0_pay1 (k0_pay4 v (tokens x0)) (k0_pay6 v (tokens x0) (gates x0) x1 x2 x3) (k0_pay7 v (gates x0)) x4 x5 x6

set_option maxHeartbeats 1000000 in
/-- The body runs on whole buffers and leaves `block` in the output's, if the tile's word is zero or positive. -/
theorem leaves (c : Dev nD) (i : grid0.Coords) (arg4 : Memref sig .tc .vmem S256x2176 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x512x2048 .bf16) (harg10 : arg10.IsWhole) (arg11 : Memref sig .tc .vmem S256x2048 .f32) (harg11 : arg11.IsWhole)
    (x0 : Vec F S256x2176 .f32) (x1 : Vec F S1x2048x512 .bf16) (x2 : Vec F S1x2048x512 .bf16) (x3 : Vec F S1x512x2048 .bf16) (x4 : Vec F S1x2048x512 .bf16) (x5 : Vec F S1x2048x512 .bf16) (x6 : Vec F S1x512x2048 .bf16) (xt0 : TbBuf (F := F) c tbM0) (xt1 : TbBuf (F := F) c tbM1) (xt2 : TbBuf (F := F) c tbM2)
    (hv : k0_cond1 (word c i xt2) = 1#1 ∨ k0_cond2 (word c i xt2) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ tbPt c tbM0 xt0 ∗ tbPt c tbM1 xt1 ∗ tbPt c tbM2 xt2
          ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (block (word c i xt2) x0 x1 x2 x3 x4 x5 x6) ∗ tbPt c tbM0 xt0 ∗ tbPt c tbM1 xt1 ∗ tbPt c tbM2 xt2) -∗ K ⟨⟩))
        ⊢ wp frame (wpE (defs₀ (F := F)) Variants.none c none) E (cc0_moe_experts i tbM0 htbM0 tbM1 htbM1 tbM2 htbM2 arg4 harg4 arg5 harg5 arg6 harg6 arg7 harg7 arg8 harg8 arg9 harg9 arg10 harg10 arg11 harg11) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; swap; · iexact H7
    ipureintro
    have e1 : View.readAt (Elt F) arg5.view (Rect.unit (s := S1x2048x512) ![0, 0, 0] S1x2048x512.size inb_S1x2048x512_S1x2048x512_0_0_0).toLoadRect (harg5.unread x1) = x1 := (View.readAt_full _ _ _).trans (harg5.read_unread x1)
    have e2 : View.readAt (Elt F) arg6.view (Rect.unit (s := S1x2048x512) ![0, 0, 0] S1x2048x512.size inb_S1x2048x512_S1x2048x512_0_0_0).toLoadRect (harg6.unread x2) = x2 := (View.readAt_full _ _ _).trans (harg6.read_unread x2)
    have e3 : View.readAt (Elt F) arg7.view (Rect.unit (s := S1x512x2048) ![0, 0, 0] S1x512x2048.size inb_S1x512x2048_S1x512x2048_0_0_0).toLoadRect (harg7.unread x3) = x3 := (View.readAt_full _ _ _).trans (harg7.read_unread x3)
    have e4 : View.readAt (Elt F) arg8.view (Rect.unit (s := S1x2048x512) ![0, 0, 0] S1x2048x512.size inb_S1x2048x512_S1x2048x512_0_0_0).toLoadRect (harg8.unread x4) = x4 := (View.readAt_full _ _ _).trans (harg8.read_unread x4)
    have e5 : View.readAt (Elt F) arg9.view (Rect.unit (s := S1x2048x512) ![0, 0, 0] S1x2048x512.size inb_S1x2048x512_S1x2048x512_0_0_0).toLoadRect (harg9.unread x5) = x5 := (View.readAt_full _ _ _).trans (harg9.read_unread x5)
    have e6 : View.readAt (Elt F) arg10.view (Rect.unit (s := S1x512x2048) ![0, 0, 0] S1x512x2048.size inb_S1x512x2048_S1x512x2048_0_0_0).toLoadRect (harg10.unread x6) = x6 := (View.readAt_full _ _ _).trans (harg10.read_unread x6)
    have ex : View.readAt (Elt F) arg4.view (Rect.unit (s := S256x2176) ![0, 0] S256x2048.size inb_S256x2176_S256x2048_0_0).toLoadRect (harg4.unread x0) = tokens x0 := funext fun x => harg4.readAt_unread x0 _ x
    have ew : View.readAt (Elt F) arg4.view (Rect.unit (s := S256x2176) ![0, 2048] S256x128.size inb_S256x2176_S256x128_0_2048).toLoadRect (harg4.unread x0) = gates x0 := funext fun x => harg4.readAt_unread x0 _ x
    unfold block
    by_cases h2 : k0_cond2 (word c i xt2) = 1#1
    · rw [if_pos h2]
      refine (congrArg (View.read (Elt F) arg11.view) (dif_pos h2)).trans ?_
      exact View.read_writes_full _ _ _ _ _
    · rw [if_neg h2]
      refine (congrArg (View.read (Elt F) arg11.view) ((dif_neg h2).trans (dif_pos (hv.resolve_right h2)))).trans ?_
      refine (View.read_writes_full _ _ _ _ _).trans ?_
      show k0_pay1 (k0_pay4 (word c i xt2) (View.readAt (Elt F) arg4.view (Rect.unit (s := S256x2176) ![0, 0] S256x2048.size inb_S256x2176_S256x2048_0_0).toLoadRect (harg4.unread x0))) (k0_pay6 (word c i xt2) (View.readAt (Elt F) arg4.view (Rect.unit (s := S256x2176) ![0, 0] S256x2048.size inb_S256x2176_S256x2048_0_0).toLoadRect (harg4.unread x0)) (View.readAt (Elt F) arg4.view (Rect.unit (s := S256x2176) ![0, 2048] S256x128.size inb_S256x2176_S256x128_0_2048).toLoadRect (harg4.unread x0)) (View.readAt (Elt F) arg5.view (Rect.unit (s := S1x2048x512) ![0, 0, 0] S1x2048x512.size inb_S1x2048x512_S1x2048x512_0_0_0).toLoadRect (harg5.unread x1)) (View.readAt (Elt F) arg6.view (Rect.unit (s := S1x2048x512) ![0, 0, 0] S1x2048x512.size inb_S1x2048x512_S1x2048x512_0_0_0).toLoadRect (harg6.unread x2)) (View.readAt (Elt F) arg7.view (Rect.unit (s := S1x512x2048) ![0, 0, 0] S1x512x2048.size inb_S1x512x2048_S1x512x2048_0_0_0).toLoadRect (harg7.unread x3))) (k0_pay7 (word c i xt2) (View.readAt (Elt F) arg4.view (Rect.unit (s := S256x2176) ![0, 2048] S256x128.size inb_S256x2176_S256x128_0_2048).toLoadRect (harg4.unread x0))) (View.readAt (Elt F) arg8.view (Rect.unit (s := S1x2048x512) ![0, 0, 0] S1x2048x512.size inb_S1x2048x512_S1x2048x512_0_0_0).toLoadRect (harg8.unread x4)) (View.readAt (Elt F) arg9.view (Rect.unit (s := S1x2048x512) ![0, 0, 0] S1x2048x512.size inb_S1x2048x512_S1x2048x512_0_0_0).toLoadRect (harg9.unread x5)) (View.readAt (Elt F) arg10.view (Rect.unit (s := S1x512x2048) ![0, 0, 0] S1x512x2048.size inb_S1x512x2048_S1x512x2048_0_0_0).toLoadRect (harg10.unread x6)) = _
      rw [ex, ew, e1, e2, e3, e4, e5, e6]
  isplitl [HT0]; · iexact HT0
  isplitl [HT1]; · iexact HT1
  iexact HT2

variable (m : (ℓ : Loc nD τ sig) → Buf (Elt F) ℓ) (ρ : Dev nD → PrngReg)

/-- What the body leaves in the output's buffer at point `t`. -/
def outAt (hO : Ok m) (c : Dev nD) (t : Fin (cfgM m hO).N) : Vec F S256x2048 .f32 :=
  block (word c (grid0.coords t) (tbl m 2)) (iblk m hO c 0 t) (iblk m hO c 1 t) (iblk m hO c 2 t) (iblk m hO c 3 t) (iblk m hO c 4 t) (iblk m hO c 5 t) (iblk m hO c 6 t)

/-- Every word of the third table is zero or positive. -/
def Counts : Prop := ∀ (c : Dev nD) (i : grid0.Coords), k0_cond1 (word c i (tbl m 2)) = 1#1 ∨ k0_cond2 (word c i (tbl m 2)) = 1#1

/-- The pipeline's proof data: after each point the inputs' buffers hold their blocks and the output the block `outAt`. -/
def named (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c t
  Φ _ := iprop(Pipeline.ΦA spec0 c ∗ Pipeline.ΦT pre0 (tbl m) c)
  q w := Pipeline.shareOf spec0 w
  owed _ := 0

/-- Its arrays are those the region finds. -/
theorem named_A (hO : Ok m) (c : Dev nD) (w : Fin (cfgM m hO).W) : (named m hO 0 c).A w = V m c (Pipeline.arrRef spec0 w) := by
  dsimp only [named]

theorem named_after0 (hO : Ok m) (c : Dev nD) (t : Fin (cfgM m hO).N) : (named m hO 0 c).after 0 t = iblk m hO c 0 t := by dsimp only [named]; try rfl
theorem named_after1 (hO : Ok m) (c : Dev nD) (t : Fin (cfgM m hO).N) : (named m hO 0 c).after 1 t = iblk m hO c 1 t := by dsimp only [named]; try rfl
theorem named_after2 (hO : Ok m) (c : Dev nD) (t : Fin (cfgM m hO).N) : (named m hO 0 c).after 2 t = iblk m hO c 2 t := by dsimp only [named]; try rfl
theorem named_after3 (hO : Ok m) (c : Dev nD) (t : Fin (cfgM m hO).N) : (named m hO 0 c).after 3 t = iblk m hO c 3 t := by dsimp only [named]; try rfl
theorem named_after4 (hO : Ok m) (c : Dev nD) (t : Fin (cfgM m hO).N) : (named m hO 0 c).after 4 t = iblk m hO c 4 t := by dsimp only [named]; try rfl
theorem named_after5 (hO : Ok m) (c : Dev nD) (t : Fin (cfgM m hO).N) : (named m hO 0 c).after 5 t = iblk m hO c 5 t := by dsimp only [named]; try rfl
theorem named_after6 (hO : Ok m) (c : Dev nD) (t : Fin (cfgM m hO).N) : (named m hO 0 c).after 6 t = iblk m hO c 6 t := by dsimp only [named]; try rfl
theorem named_after7 (hO : Ok m) (c : Dev nD) (t : Fin (cfgM m hO).N) : (named m hO 0 c).after 7 t = outAt m hO c t := by dsimp only [named]; try rfl
theorem named_before0 (hO : Ok m) (c : Dev nD) (t : Fin (cfgM m hO).N) (d) : (named m hO 0 c).before 0 t d = iblk m hO c 0 t :=
  holds0 m hO (named m hO 0 c) (named_A m hO c 0) (named_after0 m hO c) t d
theorem named_before1 (hO : Ok m) (c : Dev nD) (t : Fin (cfgM m hO).N) (d) : (named m hO 0 c).before 1 t d = iblk m hO c 1 t :=
  holds1 m hO (named m hO 0 c) (named_A m hO c 1) (named_after1 m hO c) t d
theorem named_before2 (hO : Ok m) (c : Dev nD) (t : Fin (cfgM m hO).N) (d) : (named m hO 0 c).before 2 t d = iblk m hO c 2 t :=
  holds2 m hO (named m hO 0 c) (named_A m hO c 2) (named_after2 m hO c) t d
theorem named_before3 (hO : Ok m) (c : Dev nD) (t : Fin (cfgM m hO).N) (d) : (named m hO 0 c).before 3 t d = iblk m hO c 3 t :=
  holds3 m hO (named m hO 0 c) (named_A m hO c 3) (named_after3 m hO c) t d
theorem named_before4 (hO : Ok m) (c : Dev nD) (t : Fin (cfgM m hO).N) (d) : (named m hO 0 c).before 4 t d = iblk m hO c 4 t :=
  holds4 m hO (named m hO 0 c) (named_A m hO c 4) (named_after4 m hO c) t d
theorem named_before5 (hO : Ok m) (c : Dev nD) (t : Fin (cfgM m hO).N) (d) : (named m hO 0 c).before 5 t d = iblk m hO c 5 t :=
  holds5 m hO (named m hO 0 c) (named_A m hO c 5) (named_after5 m hO c) t d
theorem named_before6 (hO : Ok m) (c : Dev nD) (t : Fin (cfgM m hO).N) (d) : (named m hO 0 c).before 6 t d = iblk m hO c 6 t :=
  holds6 m hO (named m hO 0 c) (named_A m hO c 6) (named_after6 m hO c) t d

/-- What the body is given at point `t`, window by window, -/
def namedPre (hO : Ok m) (c : Dev nD) (t : Fin (cfgM m hO).N) : sProp 𝕄 :=
  iprop((named m hO 0 c).Φ t.castSucc ∗ (named m hO 0 c).owesAt () t.castSucc
    ∗ (∃ d, owns (c : Thread nD τ) (stg0 m hO t) fullShare ((named m hO 0 c).before 0 t d))
    ∗ (∃ d, owns (c : Thread nD τ) (stg1 m hO t) fullShare ((named m hO 0 c).before 1 t d))
    ∗ (∃ d, owns (c : Thread nD τ) (stg2 m hO t) fullShare ((named m hO 0 c).before 2 t d))
    ∗ (∃ d, owns (c : Thread nD τ) (stg3 m hO t) fullShare ((named m hO 0 c).before 3 t d))
    ∗ (∃ d, owns (c : Thread nD τ) (stg4 m hO t) fullShare ((named m hO 0 c).before 4 t d))
    ∗ (∃ d, owns (c : Thread nD τ) (stg5 m hO t) fullShare ((named m hO 0 c).before 5 t d))
    ∗ (∃ d, owns (c : Thread nD τ) (stg6 m hO t) fullShare ((named m hO 0 c).before 6 t d))
    ∗ (∃ d, owns (c : Thread nD τ) (stg7 m hO t) fullShare ((named m hO 0 c).before 7 t d)))

/-- and what it returns. -/
def namedPost (hO : Ok m) (c : Dev nD) (t : Fin (cfgM m hO).N) : sProp 𝕄 :=
  iprop((named m hO 0 c).Φ t.succ ∗ (named m hO 0 c).owesAt () t.succ
    ∗ owns (c : Thread nD τ) (stg0 m hO t) fullShare ((named m hO 0 c).after 0 t)
    ∗ owns (c : Thread nD τ) (stg1 m hO t) fullShare ((named m hO 0 c).after 1 t)
    ∗ owns (c : Thread nD τ) (stg2 m hO t) fullShare ((named m hO 0 c).after 2 t)
    ∗ owns (c : Thread nD τ) (stg3 m hO t) fullShare ((named m hO 0 c).after 3 t)
    ∗ owns (c : Thread nD τ) (stg4 m hO t) fullShare ((named m hO 0 c).after 4 t)
    ∗ owns (c : Thread nD τ) (stg5 m hO t) fullShare ((named m hO 0 c).after 5 t)
    ∗ owns (c : Thread nD τ) (stg6 m hO t) fullShare ((named m hO 0 c).after 6 t)
    ∗ owns (c : Thread nD τ) (stg7 m hO t) fullShare ((named m hO 0 c).after 7 t))

set_option maxHeartbeats 800000 in
/-- The body at any point takes the one to the other. -/
theorem named_body (hO : Ok m) (hN : Counts m) (c : Dev nD) (t : Fin (cfgM m hO).N) :
    namedPre m hO c t ⊢ wp frame (wpE (defs₀ (F := F)) Variants.none c none) Set.univ (bodyAt m hO t) (fun _ => namedPost m hO c t) := by
  unfold namedPre namedPost bodyAt
  simp only [named_before0, named_before1, named_before2, named_before3, named_before4, named_before5, named_before6]
  rw [show (named m hO 0 c).Φ t.succ = (named m hO 0 c).Φ t.castSucc from rfl,
    show (named m hO 0 c).owesAt () t.succ = (named m hO 0 c).owesAt () t.castSucc from rfl, named_after0, named_after1, named_after2, named_after3, named_after4, named_after5, named_after6, named_after7]
  rw [show (named m hO 0 c).Φ t.castSucc = iprop(Pipeline.ΦA spec0 c ∗ Pipeline.ΦT pre0 (tbl m) c) from rfl, tables_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (leaves c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (tbl m 2) (hN c _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  isplitl [HT1]; · iexact HT1
  isplitl [HT2]; · iexact HT2
  iintro ⟨H0, H1, H2, H3, H4, H5, H6, H7, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The output is written back at every point, so the pipeline asks for what the body leaves there. -/
theorem named_leaves7 (hO : Ok m) (c : Dev nD) (t : Fin (cfgM m hO).N) :
    (named m hO 0 c).leavesExact 7 t = owns (c : Thread nD τ) (stg7 m hO t) fullShare ((named m hO 0 c).after 7 t) := by
  unfold Dat.leavesExact
  rw [show ((cfgM m hO).win 7).flush t = true from flush7 (adm m hO) t]
  cases (cfgM m hO).idle 7 ((cfgM m hO).grid.coords t) <;> rfl

/-- The body's step, as the pipeline asks for it. -/
theorem named_obligation (hO : Ok m) (hN : Counts m) (c : Dev nD) : BodyObligation (named (F := F) m hO 0 c) (defs₀ (F := F)) Variants.none () Set.univ := fun t => by
  have h := named_body m hO hN c t
  unfold namedPost at h
  rw [← named_leaves7 m hO c t] at h
  rw [bigSep_W0, bigSep_W0, body_row m hO]
  exact triple_restated h rfl .rfl fun _ => .rfl

set_option backward.isDefEq.respectTransparency.types false in
/-- The program runs to the pipeline's final state, the output written block by block with `outAt`. -/
theorem named_main (hO : Ok m) (hN : Counts m) : θ_run defs (onTc (τ := τ) (main (F := F))) (s₀ m ρ) (fun r => (Pipeline.FramePost (Pipeline.pin pcfgs fun _ => adm m hO) (named m hO) 0 (V m)) r ∧ r.2.sem = fun _ => 0) :=
  Pipeline.θ_run_frameP_shared (Q' := _) pcfgs (fun _ => adm m hO) (named m hO) (0 : Fin 1) launch₀0 defs₀ Variants.none m ρ main
    (hbody := fun c => (named_obligation m hO hN c).loose) (hq := fun _ _ _ => rfl)
    (howed := fun _ _ => rfl) (V := V m) (hmain := prefix_run m Variants.none) (hA := named_A m hO) (hpf := V_tbl m)
    (hΦ := fun _ _ => rfl)

end Cert.ExpertsIdeal.Moe

end
-- ==== Proof.Moe.Sums.lean ====
/-
Mixtures of experts over the extended reals: a gate of one-hot weights picks the chosen experts'
outputs, and a finite nonnegative weight goes through a sum.
-/
module

public import Idealize.ShloMosaic.PureOps.Ideal.Laws
public import Idealize.ShloMosaic.Lib.ValueIdx

@[expose] public section

noncomputable section

namespace Cert.Moe

open Idealize.ShloMosaic

/-- One hidden unit of an expert: the gated product of a token's two projections. -/
def hid {n : ℕ} (x g u : Fin n → EReal) : EReal :=
  (∑ k, x k * g k) * Ideal.div 1 (1 + Ideal.exp (-(∑ k, x k * g k))) * ∑ k, x k * u k

/-- A finite nonnegative factor of every term is a factor of the sum. -/
theorem mul_sum {ι : Type} (s : Finset ι) (w : EReal) (h0 : 0 ≤ w) (ht : w ≠ ⊤) (f : ι → EReal) :
    ∑ x ∈ s, w * f x = w * ∑ x ∈ s, f x := by
  classical
  induction s using Finset.induction_on with
  | empty => simp
  | insert a s ha ih => rw [Finset.sum_insert ha, Finset.sum_insert ha, ih, EReal.left_distrib_of_nonneg_of_ne_top h0 ht]

/-- Weighting the hidden units is weighting the output. -/
theorem pull {ι : Type} [Fintype ι] (w : EReal) (h0 : 0 ≤ w) (ht : w ≠ ⊤) (h d : ι → EReal) :
    ∑ f, h f * w * d f = w * ∑ f, d f * h f := by
  rw [← mul_sum _ w h0 ht]
  refine Finset.sum_congr rfl fun f _ => ?_
  rw [mul_comm (h f) w, mul_assoc, mul_comm (h f)]

/-- The gate of two weighted one-hot rows picks the two experts' outputs, each times its weight. -/
theorem mix {n : ℕ} (a b : Fin n) (w0 w1 : EReal) (h0 : 0 ≤ w0) (h1 : 0 ≤ w1) (o : Fin n → EReal) :
    ∑ e, ((if a = e then (1 : EReal) else 0) * w0 + (if b = e then (1 : EReal) else 0) * w1) * o e = w0 * o a + w1 * o b := by
  have hh : ∀ e : Fin n, ((if a = e then (1 : EReal) else 0) * w0 + (if b = e then (1 : EReal) else 0) * w1) * o e
      = (if a = e then w0 * o e else 0) + if b = e then w1 * o e else 0 := fun e => by
    rw [EReal.right_distrib_of_nonneg (by split_ifs <;> simp [h0]) (by split_ifs <;> simp [h1])]
    congr 1 <;> split_ifs <;> simp
  rw [Finset.sum_congr rfl fun e _ => hh e, Finset.sum_add_distrib, Finset.sum_ite_eq, Finset.sum_ite_eq,
    if_pos (Finset.mem_univ _), if_pos (Finset.mem_univ _)]

end Cert.Moe
end
-- ==== Proof.Moe.Ideal.Pay.lean ====
/-
The body's payloads of the expert kernel over the extended reals, entry by entry.
-/
module

public import proofs.«01_k».proof.Proof.Moe.Ideal.Exact
public import proofs.«01_k».proof.Proof.Moe.Sums
public import Idealize.ShloMosaic.Lib.Pipeline.ValueKit

@[expose] public section

set_option maxRecDepth 16384

noncomputable section

namespace Cert.ExpertsIdeal.Moe

open Idealize.ShloMosaic Idealize.ShloMosaic.TcCoe
open Cert.ExpertsIdeal.Gen
open Cert.Moe (hid)

/-- Whether a row of the tile is among its first `v`. -/
def valid (v : BitVec 32) (i : Fin 256) : BitVec 1 := IntOp.cmpi .slt (BitVec.ofNat 32 i.val) v

/-- The tokens of a tile, its invalid rows set to zero. -/
theorem pay4_at (v : BitVec 32) (X : Vec Ideal S256x2048 .f32) (i : Fin 256) (k : Fin 2048) :
    k0_pay4 (F := Ideal) v X (ix2 i k) = Scalar.select (valid v i) (X (ix2 i k)) 0 := by
  pointwise [k0_pay4, k0_pay3, valid]

/-- The second weights of a tile's rows, the invalid rows' set to zero. -/
theorem pay7_at (v : BitVec 32) (W : Vec Ideal S256x128 .f32) (i : Fin 256) :
    k0_pay7 (F := Ideal) v W (ix2 i (0 : Fin 1)) = Scalar.select (valid v i) (W (ix2 i (1 : Fin 128))) 0 := by
  pointwise [k0_pay7, k0_pay5, k0_pay3, valid]

/-- The first expert's weighted outputs. -/
theorem pay6_at (v : BitVec 32) (X : Vec Ideal S256x2048 .f32) (W : Vec Ideal S256x128 .f32) (G U : Vec Ideal S1x2048x512 .bf16) (D : Vec Ideal S1x512x2048 .bf16) (i : Fin 256) (j : Fin 2048) :
    k0_pay6 (F := Ideal) v X W G U D (ix2 i j) = ∑ f : Fin 512, hid (fun k : Fin 2048 => k0_pay4 (F := Ideal) v X (ix2 i k)) (fun k => G (ix3 (0 : Fin 1) k f)) (fun k => U (ix3 (0 : Fin 1) k f))
      * Scalar.select (valid v i) (W (ix2 i (0 : Fin 128))) 0 * D (ix3 (0 : Fin 1) f j) := by
  pointwise [k0_pay6, k0_pay5, k0_pay3, valid, hid]
  simp only [zero_sub]

/-- The second expert's weighted outputs, added to what is there. -/
theorem pay1_at (X : Vec Ideal S256x2048 .bf16) (A : Vec Ideal S256x2048 .f32) (W : Vec Ideal S256x1 .f32) (G U : Vec Ideal S1x2048x512 .bf16) (D : Vec Ideal S1x512x2048 .bf16) (i : Fin 256) (j : Fin 2048) :
    k0_pay1 (F := Ideal) X A W G U D (ix2 i j) = A (ix2 i j) + ∑ f : Fin 512, hid (fun k : Fin 2048 => X (ix2 i k)) (fun k => G (ix3 (0 : Fin 1) k f)) (fun k => U (ix3 (0 : Fin 1) k f))
      * W (ix2 i (0 : Fin 1)) * D (ix3 (0 : Fin 1) f j) := by
  pointwise [k0_pay1, hid]
  simp only [zero_sub]

end Cert.ExpertsIdeal.Moe
end
-- ==== Proof.Moe.Ideal.Ok.lean ====
/-
The blocks the tables of ExpertsIdeal select lie inside their arrays when the tables' entries are below 16.
-/
module

public import proofs.«01_k».proof.Proof.Moe.Ideal.Kit
public import proofs.«01_k».proof.Proof.Moe.Tables

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-- A block of one expert's first or second weights is inside the array, and made of whole words. -/
theorem inside_in (n : ℕ) (hn : n < 16) : ∃ h : (∀ a, ((![n, 0, 0] : Fin 3 → ℕ) a + 1) * S1x2048x512.size a ≤ S16x2048x512.size a),
    EltTy.bits .bf16 = 32 ∨ (Rect.block (s := S16x2048x512) S1x2048x512.size ![n, 0, 0] h).WholeWords (EltTy.packing .bf16) := by
  refine ⟨fun a => ?_, .inr (.inr ⟨by decide, rfl, rfl, rfl⟩)⟩
  match a with
  | ⟨0, _⟩ => show (n + 1) * 1 ≤ 16; omega
  | ⟨1, _⟩ => show (0 + 1) * 2048 ≤ 2048; omega
  | ⟨2, _⟩ => show (0 + 1) * 512 ≤ 512; omega

/-- So is a block of one expert's last weights. -/
theorem inside_out (n : ℕ) (hn : n < 16) : ∃ h : (∀ a, ((![n, 0, 0] : Fin 3 → ℕ) a + 1) * S1x512x2048.size a ≤ S16x512x2048.size a),
    EltTy.bits .bf16 = 32 ∨ (Rect.block (s := S16x512x2048) S1x512x2048.size ![n, 0, 0] h).WholeWords (EltTy.packing .bf16) := by
  refine ⟨fun a => ?_, .inr (.inr ⟨by decide, rfl, rfl, rfl⟩)⟩
  match a with
  | ⟨0, _⟩ => show (n + 1) * 1 ≤ 16; omega
  | ⟨1, _⟩ => show (0 + 1) * 512 ≤ 512; omega
  | ⟨2, _⟩ => show (0 + 1) * 2048 ≤ 2048; omega

variable (m : (ℓ : Loc nD τ sig) → Buf (Elt F) ℓ)

/-- The tables' side condition, from the range of their entries. -/
theorem ok_of (ha : ∀ x : S120.Idx, ((show IVec S120 32 from m ((0 : Dev nD), main_arg0)) x).toNat < 16)
    (hb : ∀ x : S120.Idx, ((show IVec S120 32 from m ((0 : Dev nD), main_arg1)) x).toNat < 16) : Ok m := by
  have h0 : ∀ x : S120.Idx, ((show IVec S120 32 from tbl m 0) x).toNat < 16 := fun x =>
    (congrArg (fun f : IVec S120 32 => (f x).toNat) (V_arg0 m 0)).trans_lt (ha x)
  have h1 : ∀ x : S120.Idx, ((show IVec S120 32 from tbl m 1) x).toNat < 16 := fun x =>
    (congrArg (fun f : IVec S120 32 => (f x).toNat) (V_arg1 m 0)).trans_lt (hb x)
  exact ⟨fun i => inside_in _ (h0 _), fun i => inside_in _ (h0 _), fun i => inside_out _ (h0 _),
    fun i => inside_in _ (h1 _), fun i => inside_in _ (h1 _), fun i => inside_out _ (h1 _)⟩

end Cert.ExpertsIdeal.Moe

end
-- ==== Proof.Moe.Ideal.Blocks.lean ====
/-
The blocks the expert kernel's windows hold at a tile, in terms of the arguments.
-/
module

public import proofs.«01_k».proof.Proof.Moe.Ideal.Pay
public import proofs.«01_k».proof.Proof.Moe.Ideal.Ok

@[expose] public section

set_option maxRecDepth 16384

noncomputable section

namespace Cert.ExpertsIdeal.Moe

open Idealize.ShloMosaic Idealize.ShloMosaic.TcCoe
open Cert.ExpertsIdeal.Gen

variable (m : (ℓ : Loc nD τ sig) → Buf (Elt Ideal) ℓ) (hO : Ok m)

/-- The grid's only coordinate is the tile's number, -/
theorem coord : ∀ t : Fin grid0.N, (BitVec.ofNat 32 (grid0.coords t 0).val).toNat = t.val := by decide +kernel
/-- also as an index into a table. -/
theorem coord_index : ∀ t : Fin grid0.N, (Scalar.indexCast (BitVec.ofNat 32 (grid0.coords t 0).val)).toNat = t.val := by decide +kernel

/-- The entry of a table that a tile reads is the tile's own. -/
theorem entry (t : Fin grid0.N) (h : ∀ a, (![(Scalar.indexCast (BitVec.ofNat 32 (grid0.coords t 0).val)).toNat] : Fin 1 → ℕ) a + S1.size a ≤ S120.size a) (y : S1.Idx) :
    (Rect.unit (s := S120) ![(Scalar.indexCast (BitVec.ofNat 32 (grid0.coords t 0).val)).toNat] S1.size h).emb y = ix1 ⟨t.val, t.isLt⟩ := by
  refine funext fun a => Fin.ext ?_
  rw [Rect.emb_apply]
  have hy : (y 0).val < 1 := (y 0).isLt
  match a with
  | ⟨0, _⟩ =>
    show (Scalar.indexCast (BitVec.ofNat 32 (grid0.coords t 0).val)).toNat + 1 * (y 0).val = t.val
    rw [coord_index]; omega

/-- The word the body reads at a tile is the third table's entry. -/
theorem word_at (c : Dev nD) (t : Fin (cfgM m hO).N) (nv : IVec S120 32) : word (F := Ideal) c (grid0.coords t) nv = nv (ix1 ⟨t.val, t.isLt⟩) :=
  congrArg nv (entry t (k0_off1_inb (grid0.coords t)) _)

/-- The weights of argument 4 reach the kernel as they are: over the extended reals a cast changes nothing. -/
theorem V_v0 (c : Dev nD) (x : S16x2048x512.Idx) : V m c main_v0 x = m ((c : Thread nD τ).loc main_arg4) x := by
  entry_read
  pointwise

/-- The weights of argument 5 reach the kernel as they are: over the extended reals a cast changes nothing. -/
theorem V_v1 (c : Dev nD) (x : S16x2048x512.Idx) : V m c main_v1 x = m ((c : Thread nD τ).loc main_arg5) x := by
  entry_read
  pointwise

/-- The weights of argument 6 reach the kernel as they are: over the extended reals a cast changes nothing. -/
theorem V_v2 (c : Dev nD) (x : S16x512x2048.Idx) : V m c main_v2 x = m ((c : Thread nD τ).loc main_arg6) x := by
  entry_read
  pointwise

/-- Window 0 is at the tile's rows. -/
theorem at0 (t : Fin (cfgM m hO).N) : ((cfgM m hO).win 0).index t = ![t.val, 0] := by
  show cc0_transform_0 (grid0.coords t) = _
  unfold cc0_transform_0
  dsimp only
  rw [coord]
  rfl

/-- Window 7 is at the tile's rows. -/
theorem at7 (t : Fin (cfgM m hO).N) : ((cfgM m hO).win 7).index t = ![t.val, 0] := by
  show cc0_transform_7 (grid0.coords t) = _
  unfold cc0_transform_7
  dsimp only
  rw [coord]
  rfl

/-- Window 1 is at the expert that table 0 names for the tile. -/
theorem at1 (t : Fin (cfgM m hO).N) : ((cfgM m hO).win 1).index t = ![((show IVec S120 32 from m ((0 : Dev nD), main_arg0)) (ix1 ⟨t.val, t.isLt⟩)).toNat, 0, 0] := by
  have e : ((show IVec S120 32 from tbl m 0) ((Rect.unit (s := S120) ![(Scalar.indexCast (BitVec.ofNat 32 (grid0.coords t 0).val)).toNat] S1.size (k0_off1_inb (grid0.coords t))).emb (Shape.Idx.first (show 0 < S1.numel by decide))))
      = (show IVec S120 32 from m ((0 : Dev nD), main_arg0)) (ix1 ⟨t.val, t.isLt⟩) :=
    (congrFun (V_arg0 m 0) _).trans (congrArg (show IVec S120 32 from m ((0 : Dev nD), main_arg0)) (entry t (k0_off1_inb (grid0.coords t)) _))
  exact congrArg (fun v : BitVec 32 => (![v.toNat, 0, 0] : Fin 3 → ℕ)) e

/-- Window 2 is at the expert that table 0 names for the tile. -/
theorem at2 (t : Fin (cfgM m hO).N) : ((cfgM m hO).win 2).index t = ![((show IVec S120 32 from m ((0 : Dev nD), main_arg0)) (ix1 ⟨t.val, t.isLt⟩)).toNat, 0, 0] := by
  have e : ((show IVec S120 32 from tbl m 0) ((Rect.unit (s := S120) ![(Scalar.indexCast (BitVec.ofNat 32 (grid0.coords t 0).val)).toNat] S1.size (k0_off1_inb (grid0.coords t))).emb (Shape.Idx.first (show 0 < S1.numel by decide))))
      = (show IVec S120 32 from m ((0 : Dev nD), main_arg0)) (ix1 ⟨t.val, t.isLt⟩) :=
    (congrFun (V_arg0 m 0) _).trans (congrArg (show IVec S120 32 from m ((0 : Dev nD), main_arg0)) (entry t (k0_off1_inb (grid0.coords t)) _))
  exact congrArg (fun v : BitVec 32 => (![v.toNat, 0, 0] : Fin 3 → ℕ)) e

/-- Window 3 is at the expert that table 0 names for the tile. -/
theorem at3 (t : Fin (cfgM m hO).N) : ((cfgM m hO).win 3).index t = ![((show IVec S120 32 from m ((0 : Dev nD), main_arg0)) (ix1 ⟨t.val, t.isLt⟩)).toNat, 0, 0] := by
  have e : ((show IVec S120 32 from tbl m 0) ((Rect.unit (s := S120) ![(Scalar.indexCast (BitVec.ofNat 32 (grid0.coords t 0).val)).toNat] S1.size (k0_off1_inb (grid0.coords t))).emb (Shape.Idx.first (show 0 < S1.numel by decide))))
      = (show IVec S120 32 from m ((0 : Dev nD), main_arg0)) (ix1 ⟨t.val, t.isLt⟩) :=
    (congrFun (V_arg0 m 0) _).trans (congrArg (show IVec S120 32 from m ((0 : Dev nD), main_arg0)) (entry t (k0_off1_inb (grid0.coords t)) _))
  exact congrArg (fun v : BitVec 32 => (![v.toNat, 0, 0] : Fin 3 → ℕ)) e

/-- Window 4 is at the expert that table 1 names for the tile. -/
theorem at4 (t : Fin (cfgM m hO).N) : ((cfgM m hO).win 4).index t = ![((show IVec S120 32 from m ((0 : Dev nD), main_arg1)) (ix1 ⟨t.val, t.isLt⟩)).toNat, 0, 0] := by
  have e : ((show IVec S120 32 from tbl m 1) ((Rect.unit (s := S120) ![(Scalar.indexCast (BitVec.ofNat 32 (grid0.coords t 0).val)).toNat] S1.size (k0_off1_inb (grid0.coords t))).emb (Shape.Idx.first (show 0 < S1.numel by decide))))
      = (show IVec S120 32 from m ((0 : Dev nD), main_arg1)) (ix1 ⟨t.val, t.isLt⟩) :=
    (congrFun (V_arg1 m 0) _).trans (congrArg (show IVec S120 32 from m ((0 : Dev nD), main_arg1)) (entry t (k0_off1_inb (grid0.coords t)) _))
  exact congrArg (fun v : BitVec 32 => (![v.toNat, 0, 0] : Fin 3 → ℕ)) e

/-- Window 5 is at the expert that table 1 names for the tile. -/
theorem at5 (t : Fin (cfgM m hO).N) : ((cfgM m hO).win 5).index t = ![((show IVec S120 32 from m ((0 : Dev nD), main_arg1)) (ix1 ⟨t.val, t.isLt⟩)).toNat, 0, 0] := by
  have e : ((show IVec S120 32 from tbl m 1) ((Rect.unit (s := S120) ![(Scalar.indexCast (BitVec.ofNat 32 (grid0.coords t 0).val)).toNat] S1.size (k0_off1_inb (grid0.coords t))).emb (Shape.Idx.first (show 0 < S1.numel by decide))))
      = (show IVec S120 32 from m ((0 : Dev nD), main_arg1)) (ix1 ⟨t.val, t.isLt⟩) :=
    (congrFun (V_arg1 m 0) _).trans (congrArg (show IVec S120 32 from m ((0 : Dev nD), main_arg1)) (entry t (k0_off1_inb (grid0.coords t)) _))
  exact congrArg (fun v : BitVec 32 => (![v.toNat, 0, 0] : Fin 3 → ℕ)) e

/-- Window 6 is at the expert that table 1 names for the tile. -/
theorem at6 (t : Fin (cfgM m hO).N) : ((cfgM m hO).win 6).index t = ![((show IVec S120 32 from m ((0 : Dev nD), main_arg1)) (ix1 ⟨t.val, t.isLt⟩)).toNat, 0, 0] := by
  have e : ((show IVec S120 32 from tbl m 1) ((Rect.unit (s := S120) ![(Scalar.indexCast (BitVec.ofNat 32 (grid0.coords t 0).val)).toNat] S1.size (k0_off1_inb (grid0.coords t))).emb (Shape.Idx.first (show 0 < S1.numel by decide))))
      = (show IVec S120 32 from m ((0 : Dev nD), main_arg1)) (ix1 ⟨t.val, t.isLt⟩) :=
    (congrFun (V_arg1 m 0) _).trans (congrArg (show IVec S120 32 from m ((0 : Dev nD), main_arg1)) (entry t (k0_off1_inb (grid0.coords t)) _))
  exact congrArg (fun v : BitVec 32 => (![v.toNat, 0, 0] : Fin 3 → ℕ)) e

/-- An entry of the tile's rows. -/
theorem blk0 (c : Dev nD) (t : Fin (cfgM m hO).N) (i : Fin 256) (k : Fin 2176) :
    (show FVec Ideal S256x2176 .f32 from iblk m hO c 0 t) (ix2 i k)
      = (show FVec Ideal S30720x2176 .f32 from m ((c : Thread nD τ).loc main_arg3)) (ix2 ⟨t.val * 256 + i.val, by have : t.val < 120 := t.isLt; omega⟩ k) := by
  blk_simp [iblk]
  refine (congrFun (V_arg3 m c) _).trans (congrArg _ (funext fun a => Fin.ext ?_))
  refine (Pipeline.Window.rect_emb_val ((cfgM m hO).win 0) t (ix2 i k) a rfl).trans ?_
  rw [at0]
  match a with
  | ⟨0, _⟩ => rfl
  | ⟨1, _⟩ => exact (congrArg (· + k.val) (Nat.zero_mul _)).trans (Nat.zero_add _)

/-- An entry of the weights in window 1: argument 4's, for the expert `n` of table 0. -/
theorem blk1 (c : Dev nD) (t : Fin (cfgM m hO).N) (x : Fin 2048) (y : Fin 512) (n : Fin 16) (hn : n.val = ((show IVec S120 32 from m ((0 : Dev nD), main_arg0)) (ix1 ⟨t.val, t.isLt⟩)).toNat) :
    (show FVec Ideal S1x2048x512 .bf16 from iblk m hO c 1 t) (ix3 (0 : Fin 1) x y)
      = (show FVec Ideal S16x2048x512 .f32 from m ((c : Thread nD τ).loc main_arg4)) (ix3 n x y) := by
  blk_simp [iblk]
  refine (V_v0 m c _).trans (congrArg _ (funext fun a => Fin.ext ?_))
  refine (Pipeline.Window.rect_emb_val ((cfgM m hO).win 1) t (ix3 (0 : Fin 1) x y) a rfl).trans ?_
  rw [at1, ← hn]
  match a with
  | ⟨0, _⟩ => exact Nat.mul_one n.val
  | ⟨1, _⟩ => exact (congrArg (· + x.val) (Nat.zero_mul _)).trans (Nat.zero_add _)
  | ⟨2, _⟩ => exact (congrArg (· + y.val) (Nat.zero_mul _)).trans (Nat.zero_add _)

/-- An entry of the weights in window 2: argument 5's, for the expert `n` of table 0. -/
theorem blk2 (c : Dev nD) (t : Fin (cfgM m hO).N) (x : Fin 2048) (y : Fin 512) (n : Fin 16) (hn : n.val = ((show IVec S120 32 from m ((0 : Dev nD), main_arg0)) (ix1 ⟨t.val, t.isLt⟩)).toNat) :
    (show FVec Ideal S1x2048x512 .bf16 from iblk m hO c 2 t) (ix3 (0 : Fin 1) x y)
      = (show FVec Ideal S16x2048x512 .f32 from m ((c : Thread nD τ).loc main_arg5)) (ix3 n x y) := by
  blk_simp [iblk]
  refine (V_v1 m c _).trans (congrArg _ (funext fun a => Fin.ext ?_))
  refine (Pipeline.Window.rect_emb_val ((cfgM m hO).win 2) t (ix3 (0 : Fin 1) x y) a rfl).trans ?_
  rw [at2, ← hn]
  match a with
  | ⟨0, _⟩ => exact Nat.mul_one n.val
  | ⟨1, _⟩ => exact (congrArg (· + x.val) (Nat.zero_mul _)).trans (Nat.zero_add _)
  | ⟨2, _⟩ => exact (congrArg (· + y.val) (Nat.zero_mul _)).trans (Nat.zero_add _)

/-- An entry of the weights in window 3: argument 6's, for the expert `n` of table 0. -/
theorem blk3 (c : Dev nD) (t : Fin (cfgM m hO).N) (x : Fin 512) (y : Fin 2048) (n : Fin 16) (hn : n.val = ((show IVec S120 32 from m ((0 : Dev nD), main_arg0)) (ix1 ⟨t.val, t.isLt⟩)).toNat) :
    (show FVec Ideal S1x512x2048 .bf16 from iblk m hO c 3 t) (ix3 (0 : Fin 1) x y)
      = (show FVec Ideal S16x512x2048 .f32 from m ((c : Thread nD τ).loc main_arg6)) (ix3 n x y) := by
  blk_simp [iblk]
  refine (V_v2 m c _).trans (congrArg _ (funext fun a => Fin.ext ?_))
  refine (Pipeline.Window.rect_emb_val ((cfgM m hO).win 3) t (ix3 (0 : Fin 1) x y) a rfl).trans ?_
  rw [at3, ← hn]
  match a with
  | ⟨0, _⟩ => exact Nat.mul_one n.val
  | ⟨1, _⟩ => exact (congrArg (· + x.val) (Nat.zero_mul _)).trans (Nat.zero_add _)
  | ⟨2, _⟩ => exact (congrArg (· + y.val) (Nat.zero_mul _)).trans (Nat.zero_add _)

/-- An entry of the weights in window 4: argument 4's, for the expert `n` of table 1. -/
theorem blk4 (c : Dev nD) (t : Fin (cfgM m hO).N) (x : Fin 2048) (y : Fin 512) (n : Fin 16) (hn : n.val = ((show IVec S120 32 from m ((0 : Dev nD), main_arg1)) (ix1 ⟨t.val, t.isLt⟩)).toNat) :
    (show FVec Ideal S1x2048x512 .bf16 from iblk m hO c 4 t) (ix3 (0 : Fin 1) x y)
      = (show FVec Ideal S16x2048x512 .f32 from m ((c : Thread nD τ).loc main_arg4)) (ix3 n x y) := by
  blk_simp [iblk]
  refine (V_v0 m c _).trans (congrArg _ (funext fun a => Fin.ext ?_))
  refine (Pipeline.Window.rect_emb_val ((cfgM m hO).win 4) t (ix3 (0 : Fin 1) x y) a rfl).trans ?_
  rw [at4, ← hn]
  match a with
  | ⟨0, _⟩ => exact Nat.mul_one n.val
  | ⟨1, _⟩ => exact (congrArg (· + x.val) (Nat.zero_mul _)).trans (Nat.zero_add _)
  | ⟨2, _⟩ => exact (congrArg (· + y.val) (Nat.zero_mul _)).trans (Nat.zero_add _)

/-- An entry of the weights in window 5: argument 5's, for the expert `n` of table 1. -/
theorem blk5 (c : Dev nD) (t : Fin (cfgM m hO).N) (x : Fin 2048) (y : Fin 512) (n : Fin 16) (hn : n.val = ((show IVec S120 32 from m ((0 : Dev nD), main_arg1)) (ix1 ⟨t.val, t.isLt⟩)).toNat) :
    (show FVec Ideal S1x2048x512 .bf16 from iblk m hO c 5 t) (ix3 (0 : Fin 1) x y)
      = (show FVec Ideal S16x2048x512 .f32 from m ((c : Thread nD τ).loc main_arg5)) (ix3 n x y) := by
  blk_simp [iblk]
  refine (V_v1 m c _).trans (congrArg _ (funext fun a => Fin.ext ?_))
  refine (Pipeline.Window.rect_emb_val ((cfgM m hO).win 5) t (ix3 (0 : Fin 1) x y) a rfl).trans ?_
  rw [at5, ← hn]
  match a with
  | ⟨0, _⟩ => exact Nat.mul_one n.val
  | ⟨1, _⟩ => exact (congrArg (· + x.val) (Nat.zero_mul _)).trans (Nat.zero_add _)
  | ⟨2, _⟩ => exact (congrArg (· + y.val) (Nat.zero_mul _)).trans (Nat.zero_add _)

/-- An entry of the weights in window 6: argument 6's, for the expert `n` of table 1. -/
theorem blk6 (c : Dev nD) (t : Fin (cfgM m hO).N) (x : Fin 512) (y : Fin 2048) (n : Fin 16) (hn : n.val = ((show IVec S120 32 from m ((0 : Dev nD), main_arg1)) (ix1 ⟨t.val, t.isLt⟩)).toNat) :
    (show FVec Ideal S1x512x2048 .bf16 from iblk m hO c 6 t) (ix3 (0 : Fin 1) x y)
      = (show FVec Ideal S16x512x2048 .f32 from m ((c : Thread nD τ).loc main_arg6)) (ix3 n x y) := by
  blk_simp [iblk]
  refine (V_v2 m c _).trans (congrArg _ (funext fun a => Fin.ext ?_))
  refine (Pipeline.Window.rect_emb_val ((cfgM m hO).win 6) t (ix3 (0 : Fin 1) x y) a rfl).trans ?_
  rw [at6, ← hn]
  match a with
  | ⟨0, _⟩ => exact Nat.mul_one n.val
  | ⟨1, _⟩ => exact (congrArg (· + x.val) (Nat.zero_mul _)).trans (Nat.zero_add _)
  | ⟨2, _⟩ => exact (congrArg (· + y.val) (Nat.zero_mul _)).trans (Nat.zero_add _)

/-- The tiles' output blocks cover the output. -/
theorem covers : ((cfgM m hO).win 7).Covers := by
  refine ⟨fun a => ?_, fun β => ?_⟩
  · match a with
    | ⟨0, _⟩ => exact (by decide : 0 < 256)
    | ⟨1, _⟩ => exact (by decide : 0 < 2048)
  · have e0 : ((cfgM m hO).win 7).nblk (0 : Fin 2) = grid0.N := (by decide : (30720 + 256 - 1) / 256 = grid0.N)
    have e1 : ((cfgM m hO).win 7).nblk (1 : Fin 2) = 1 := (by decide : (2048 + 2048 - 1) / 2048 = 1)
    refine ⟨⟨(β (0 : Fin 2)).val, (β (0 : Fin 2)).isLt.trans_eq e0⟩, flush7 (adm m hO) _, fun a => ⟨?_, .inl rfl⟩⟩
    rw [at7]
    match a with
    | ⟨0, _⟩ => rfl
    | ⟨1, _⟩ =>
      have h : (β (1 : Fin 2)).val < 1 := (β (1 : Fin 2)).isLt.trans_eq e1
      exact (show 0 = (β (1 : Fin 2)).val by omega)

end Cert.ExpertsIdeal.Moe
end
-- ==== Proof.Moe.Ref.lean ====
/-
The reference of the experts, entry by entry: every expert's output times its gate.
-/
module

public import proofs.«01_k».proof.Proof.Gen.ExpertsRefIdeal.Read
public import proofs.«01_k».proof.Proof.Moe.Sums
public import Idealize.ShloMosaic.Lib.Pipeline.ValueKit

@[expose] public section

set_option maxRecDepth 16384

noncomputable section

namespace Cert.ExpertsRefIdeal.Moe

open Idealize.ShloMosaic Idealize.ShloMosaic.TcCoe
open Cert.ExpertsRefIdeal Cert.ExpertsRefIdeal.Gen Cert.ExpertsRefIdeal.Read
open Cert.Moe (hid)

/-- An expert's hidden unit at a row. -/
theorem hid_at (xs : FVec Ideal S30720x2176 .f32) (G U : FVec Ideal S16x2048x512 .f32) (r : Fin 30720) (e : Fin 16) (f : Fin 512) :
    val_main_v28 (F := Ideal) xs G U (ix3 r e f)
      = hid (fun k : Fin 2048 => xs (ix2 r ⟨k.val, by omega⟩)) (fun k => G (ix3 e k f)) (fun k => U (ix3 e k f)) := by
  pointwise [val_main_v28, val_main_v27, val_main_v26, val_main_v25, val_main_v0, val_main_call2_v0, val_main_call2_v1, val_main_call2_v2, val_main_call2_v3, val_main_call2_v4, val_main_call2_v5, val_main_call2_cst, val_main_call2_cst_0, hid]

/-- Whether a row of the reference is valid. -/
theorem valid_at (nv : IVec S120 32) (r : Fin 30720) :
    val_main_v16 (F := Ideal) nv (ix1 r) = IntOp.cmpi .slt (IntOp.remsi .host (BitVec.ofNat 32 r.val) 256#32) (nv (ix1 ⟨r.val / 256, by omega⟩)) := by
  pointwise [val_main_v16, val_main_v15, val_main_v14, val_main_v13, val_main_v12, val_main_v11, val_main_v10, val_main_c]

/-- A row's two weights, zero in an invalid row. -/
theorem weight_at (nv : IVec S120 32) (xs : FVec Ideal S30720x2176 .f32) (r : Fin 30720) (s : Fin 2) :
    val_main_v19 (F := Ideal) nv xs (ix2 r s) = Scalar.select (val_main_v16 (F := Ideal) nv (ix1 r)) (xs (ix2 r ⟨2048 + s.val, by omega⟩)) 0 := by
  pointwise [val_main_v19, val_main_v18, val_main_v17, val_main_cst, val_main_call0_v1, val_main_call0_v2]
  unfold val_main_call0_v0 val_main_cst
  dsimp only [id]
  pointwise

/-- The first expert of a row, -/
theorem expert0_at (ea eb : IVec S120 32) (r : Fin 30720) :
    val_main_v9 (F := Ideal) ea eb (ix2 r (0 : Fin 2)) = ea (ix1 ⟨r.val / 256, by omega⟩) := by
  pointwise [val_main_v9, val_main_v8, val_main_v7, val_main_v6, val_main_v5, val_main_v4, val_main_v3, val_main_v2, val_main_v1]

/-- and the second. -/
theorem expert1_at (ea eb : IVec S120 32) (r : Fin 30720) :
    val_main_v9 (F := Ideal) ea eb (ix2 r (1 : Fin 2)) = eb (ix1 ⟨r.val / 256, by omega⟩) := by
  pointwise [val_main_v9, val_main_v8, val_main_v7, val_main_v6, val_main_v5, val_main_v4, val_main_v3, val_main_v2, val_main_v1]

/-- The gate of an expert at a row. -/
theorem gate_at (ea eb nv : IVec S120 32) (xs : FVec Ideal S30720x2176 .f32) (r : Fin 30720) (e : Fin 16) :
    val_main_v24 (F := Ideal) ea eb nv xs (ix2 r e) = ∑ s : Fin 2, FloatOps.uitofp (F := Ideal) .f32 (IntOp.cmpi .eq (val_main_v9 (F := Ideal) ea eb (ix2 r s)) (BitVec.ofNat 32 e.val)) * val_main_v19 (F := Ideal) nv xs (ix2 r s) := by
  pointwise [val_main_v24, val_main_v23, val_main_v22, val_main_v21, val_main_v20, val_main_cst_0, val_main_call1_v0, val_main_call1_v1, val_main_call1_v2, val_main_call1_v3, val_main_call1_v4]

/-- The result. -/
theorem out_at (ea eb nv : IVec S120 32) (xs : FVec Ideal S30720x2176 .f32) (G U : FVec Ideal S16x2048x512 .f32) (D : FVec Ideal S16x512x2048 .f32) (r : Fin 30720) (d : Fin 2048) :
    val_main_v34 (F := Ideal) ea eb nv xs G U D (ix2 r d) = ∑ e : Fin 16, val_main_v24 (F := Ideal) ea eb nv xs (ix2 r e) * ∑ f : Fin 512, D (ix3 e f d) * val_main_v28 (F := Ideal) xs G U (ix3 r e f) := by
  pointwise [val_main_v34, val_main_v33, val_main_v32, val_main_v31, val_main_v30, val_main_v29, val_main_cst_1]

end Cert.ExpertsRefIdeal.Moe
end
-- ==== Proof.Moe.Ideal.Value.lean ====
/-
The expert kernel's array is the reference's, over the extended reals.
-/
module

public import proofs.«01_k».proof.Proof.Moe.Ideal.Blocks
public import proofs.«01_k».proof.Proof.Moe.Ref
public import Idealize.ShloMosaic.Lib.Affine

@[expose] public section

set_option maxRecDepth 16384

noncomputable section

namespace Cert.ExpertsIdeal.Moe

open Idealize.ShloMosaic Idealize.ShloMosaic.TcCoe Idealize.SL.Sem
open Cert.ExpertsIdeal.Gen
open Cert.Moe (hid)
open Cert.ExpertsRefIdeal.Read (val_main_v34)

/-- A count that is not negative is positive or zero, as the kernel tests it. -/
theorem counted (v : BitVec 32) (h : IntOp.cmpi .sge v 0#32 = 1#1) : k0_cond1 v = 1#1 ∨ k0_cond2 v = 1#1 := by
  by_cases e : v = 0#32
  · subst e; exact .inr (by decide)
  · refine .inl ?_
    have h := of_decide_eq_true ((WordCmp.ofBool_eq_one_iff _).mp h)
    have hne : v.toInt ≠ 0 := fun h0 => e (BitVec.eq_of_toInt_eq h0)
    have hp : IntOp.cmpi .sgt v 0#32 = 1#1 := (WordCmp.ofBool_eq_one_iff _).mpr (decide_eq_true (lt_of_le_of_ne h (Ne.symm hne)))
    show IntOp.cmpi .ne (Scalar.extui (IntOp.cmpi .sgt v 0#32) : BitVec 32) 0#32 = 1#1
    rw [hp]; decide

/-- The kernel's test for zero. -/
theorem zero_of (v : BitVec 32) (h : k0_cond2 v = 1#1) : v = 0#32 := by
  by_contra e
  have hp : IntOp.cmpi .eq v 0#32 = 0#1 := by
    rw [WordCmp.cmpi_eq_eq, decide_eq_false e]; rfl
  have h : IntOp.cmpi .ne (Scalar.extui (IntOp.cmpi .eq v 0#32) : BitVec 32) 0#32 = 1#1 := h
  rw [hp] at h
  exact absurd h (by decide)

/-- A tile with no valid rows has none. -/
theorem valid_zero (i : Fin 256) : valid 0#32 i = 0#1 := by
  unfold valid
  rw [WordCmp.cmpi_slt_of_lt (by rw [BitVec.toNat_ofNat]; omega) (by decide)]
  exact (WordCmp.ofBool_eq_zero_iff _).mpr (decide_eq_false (by simp))

/-- A row's place in its tile is its number's remainder. -/
theorem place (r : ℕ) (hr : r < 30720) : IntOp.remsi .host (BitVec.ofNat 32 r) 256#32 = BitVec.ofNat 32 (r % 256) := by
  refine BitVec.eq_of_toNat_eq ?_
  have e : (BitVec.ofNat 32 r).toNat = r := by rw [BitVec.toNat_ofNat]; omega
  refine (IntOp.toNat_remsi .host (by rw [e]; omega) 256 (by decide) (by decide)).trans ?_
  rw [e, BitVec.toNat_ofNat]; omega

/-- A one-hot entry. -/
theorem hot (a : BitVec 32) (n : Fin 16) (ha : a.toNat = n.val) (e : Fin 16) :
    FloatOps.uitofp (F := Ideal) .f32 (IntOp.cmpi .eq a (BitVec.ofNat 32 e.val)) = if n = e then (1 : EReal) else 0 := by
  rw [WordCmp.cmpi_eq_eq_toNat, ha, BitVec.toNat_ofNat, Nat.mod_eq_of_lt (by omega)]
  by_cases h : n = e
  · rw [if_pos h, decide_eq_true (congrArg Fin.val h)]; show (((1#1 : BitVec 1).toNat : ℝ) : EReal) = 1; rw [(by decide : (1#1 : BitVec 1).toNat = 1)]; norm_num
  · rw [if_neg h, decide_eq_false fun h' => h (Fin.ext h')]; show (((0#1 : BitVec 1).toNat : ℝ) : EReal) = 0; rw [(by decide : (0#1 : BitVec 1).toNat = 0)]; norm_num

/-- A choice that holds, -/
theorem select_on {α : Type} {p : BitVec 1} (h : p = 1#1) (x y : α) : Scalar.select p x y = x := if_pos h
/-- and one that does not. -/
theorem select_off {α : Type} {p : BitVec 1} (h : ¬p = 1#1) (x y : α) : Scalar.select p x y = y := if_neg h

variable (m : (ℓ : Loc nD τ sig) → Buf (Elt Ideal) ℓ) (hO : Ok m)

/-- A tile's block, entry by entry, for a tile with valid rows. -/
theorem block_at (v : BitVec 32) (hv : ¬k0_cond2 v = 1#1) (X : Vec Ideal S256x2176 .f32) (G1 U1 : Vec Ideal S1x2048x512 .bf16) (D1 : Vec Ideal S1x512x2048 .bf16)
    (G2 U2 : Vec Ideal S1x2048x512 .bf16) (D2 : Vec Ideal S1x512x2048 .bf16) (i : Fin 256) (d : Fin 2048) :
    block (F := Ideal) v X G1 U1 D1 G2 U2 D2 (ix2 i d)
      = (∑ f : Fin 512, hid (fun k : Fin 2048 => Scalar.select (valid v i) (X (ix2 i ⟨k.val, by omega⟩)) 0) (fun k => G1 (ix3 (0 : Fin 1) k f)) (fun k => U1 (ix3 (0 : Fin 1) k f))
          * Scalar.select (valid v i) (X (ix2 i ⟨2048, by omega⟩)) 0 * D1 (ix3 (0 : Fin 1) f d))
        + ∑ f : Fin 512, hid (fun k : Fin 2048 => Scalar.select (valid v i) (X (ix2 i ⟨k.val, by omega⟩)) 0) (fun k => G2 (ix3 (0 : Fin 1) k f)) (fun k => U2 (ix3 (0 : Fin 1) k f))
          * Scalar.select (valid v i) (X (ix2 i ⟨2049, by omega⟩)) 0 * D2 (ix3 (0 : Fin 1) f d) := by
  have et : ∀ k : Fin 2048, tokens (F := Ideal) X (ix2 i k) = X (ix2 i ⟨k.val, by omega⟩) := fun k =>
    congrArg X (funext fun a => Fin.ext (by
      match a with
      | ⟨0, _⟩ => exact (show 0 + 1 * i.val = i.val by omega)
      | ⟨1, _⟩ => exact (show 0 + 1 * k.val = k.val by omega)))
  have eg : ∀ s : Fin 128, gates (F := Ideal) X (ix2 i s) = X (ix2 i ⟨2048 + s.val, by omega⟩) := fun s =>
    congrArg X (funext fun a => Fin.ext (by
      match a with
      | ⟨0, _⟩ => exact (show 0 + 1 * i.val = i.val by omega)
      | ⟨1, _⟩ => exact (show 2048 + 1 * s.val = 2048 + s.val by omega)))
  unfold block
  rw [if_neg hv, pay1_at, pay6_at, pay7_at]
  simp only [pay4_at, et, eg]
  rfl

/-- A tile's entry is the two chosen experts' outputs, each times its weight; both weights are zero in an invalid row. -/
theorem mixed (v : BitVec 32) (X : Vec Ideal S256x2176 .f32) (G1 U1 : Vec Ideal S1x2048x512 .bf16) (D1 : Vec Ideal S1x512x2048 .bf16)
    (G2 U2 : Vec Ideal S1x2048x512 .bf16) (D2 : Vec Ideal S1x512x2048 .bf16) (i : Fin 256) (d : Fin 2048)
    (x : Fin 2176 → EReal) (hx : ∀ k, X (ix2 i k) = x k)
    (g1 u1 g2 u2 : Fin 2048 → Fin 512 → EReal) (d1 d2 : Fin 512 → EReal)
    (hg1 : ∀ k f, G1 (ix3 (0 : Fin 1) k f) = g1 k f) (hu1 : ∀ k f, U1 (ix3 (0 : Fin 1) k f) = u1 k f) (hd1 : ∀ f, D1 (ix3 (0 : Fin 1) f d) = d1 f)
    (hg2 : ∀ k f, G2 (ix3 (0 : Fin 1) k f) = g2 k f) (hu2 : ∀ k f, U2 (ix3 (0 : Fin 1) k f) = u2 k f) (hd2 : ∀ f, D2 (ix3 (0 : Fin 1) f d) = d2 f)
    (h0 : 0 ≤ Scalar.select (valid v i) (x ⟨2048, by omega⟩) 0 ∧ Scalar.select (valid v i) (x ⟨2048, by omega⟩) 0 ≠ ⊤)
    (h1 : 0 ≤ Scalar.select (valid v i) (x ⟨2049, by omega⟩) 0 ∧ Scalar.select (valid v i) (x ⟨2049, by omega⟩) 0 ≠ ⊤) :
    block (F := Ideal) v X G1 U1 D1 G2 U2 D2 (ix2 i d)
      = Scalar.select (valid v i) (x ⟨2048, by omega⟩) 0 * (∑ f : Fin 512, d1 f * hid (fun k : Fin 2048 => x ⟨k.val, by omega⟩) (fun k => g1 k f) (fun k => u1 k f))
      + Scalar.select (valid v i) (x ⟨2049, by omega⟩) 0 * (∑ f : Fin 512, d2 f * hid (fun k : Fin 2048 => x ⟨k.val, by omega⟩) (fun k => g2 k f) (fun k => u2 k f)) := by
  by_cases hz : k0_cond2 v = 1#1
  · have hf : ¬valid v i = 1#1 := by rw [zero_of v hz, valid_zero]; decide
    unfold block
    rw [if_pos hz, select_off hf, select_off hf, zero_mul, zero_mul, add_zero]
    pointwise [k0_pay2]
  · rw [block_at v hz]
    simp only [hx, hg1, hu1, hd1, hg2, hu2, hd2]
    rw [Cert.Moe.pull _ h0.1 h0.2, Cert.Moe.pull _ h1.1 h1.2]
    by_cases h : valid v i = 1#1
    · simp only [select_on h]
    · simp only [select_off h, zero_mul]

/-- The block a tile leaves holds the reference's entries at the tile's rows. -/
theorem core (c : Dev nD) (t : Fin (cfgM m hO).N) (i : Fin 256) (d : Fin 2048) (r : Fin 30720) (hr : r.val = t.val * 256 + i.val)
    (ea eb nv : IVec S120 32) (xs : FVec Ideal S30720x2176 .f32) (G U : FVec Ideal S16x2048x512 .f32) (D : FVec Ideal S16x512x2048 .f32)
    (h0 : m ((c : Thread nD τ).loc main_arg0) = ea) (h1 : m ((c : Thread nD τ).loc main_arg1) = eb) (h2 : m ((c : Thread nD τ).loc main_arg2) = nv)
    (h3 : m ((c : Thread nD τ).loc main_arg3) = xs) (h4 : m ((c : Thread nD τ).loc main_arg4) = G) (h5 : m ((c : Thread nD τ).loc main_arg5) = U)
    (h6 : m ((c : Thread nD τ).loc main_arg6) = D)
    (ha : ∀ x, (ea x).toNat < 16) (hb : ∀ x, (eb x).toNat < 16)
    (hw : ∀ (r : Fin 30720) (s : Fin 2), IntOp.cmpi .slt (IntOp.remsi .host (BitVec.ofNat 32 r.val) 256#32) (nv (ix1 ⟨r.val / 256, by omega⟩)) = 1#1
        → 0 ≤ xs (ix2 r ⟨2048 + s.val, by omega⟩) ∧ xs (ix2 r ⟨2048 + s.val, by omega⟩) ≠ ⊤) :
    outAt m hO c t (ix2 i d) = val_main_v34 (F := Ideal) ea eb nv xs G U D (ix2 r d) := by
  obtain rfl : c = 0 := Subsingleton.elim _ _
  have ht : t.val < 120 := t.isLt
  have hq : r.val / 256 = t.val := by omega
  have hi : r.val % 256 = i.val := by omega
  set T : S120.Idx := ix1 (⟨t.val, ht⟩ : Fin 120) with hT
  have eT : ∀ h : r.val / 256 < 120, (ix1 (⟨r.val / 256, h⟩ : Fin 120) : S120.Idx) = T := fun h => by rw [hT]; exact congrArg ix1 (Fin.ext hq)
  have ev : Cert.ExpertsRefIdeal.Read.val_main_v16 (F := Ideal) nv (ix1 r) = valid (nv T) i := by
    rw [Cert.ExpertsRefIdeal.Moe.valid_at, place _ r.isLt, hi, eT]; rfl
  have hw' : ∀ s : Fin 2, 0 ≤ Scalar.select (valid (nv T) i) (xs (ix2 r ⟨2048 + s.val, by omega⟩)) 0
      ∧ Scalar.select (valid (nv T) i) (xs (ix2 r ⟨2048 + s.val, by omega⟩)) 0 ≠ ⊤ := fun s => by
    by_cases h : valid (nv T) i = 1#1
    · have := hw r s (by rw [place _ r.isLt, hi, eT]; exact h)
      rw [select_on h]; exact this
    · rw [select_off h]; exact ⟨le_rfl, EReal.zero_ne_top⟩
  -- the reference
  have eref : val_main_v34 (F := Ideal) ea eb nv xs G U D (ix2 r d)
      = Scalar.select (valid (nv T) i) (xs (ix2 r ⟨2048 + (0 : Fin 2).val, by decide⟩)) 0 * (∑ f : Fin 512, D (ix3 ⟨(ea T).toNat, ha T⟩ f d) * hid (fun k : Fin 2048 => xs (ix2 r ⟨k.val, by omega⟩)) (fun k => G (ix3 ⟨(ea T).toNat, ha T⟩ k f)) (fun k => U (ix3 ⟨(ea T).toNat, ha T⟩ k f)))
      + Scalar.select (valid (nv T) i) (xs (ix2 r ⟨2048 + (1 : Fin 2).val, by decide⟩)) 0 * (∑ f : Fin 512, D (ix3 ⟨(eb T).toNat, hb T⟩ f d) * hid (fun k : Fin 2048 => xs (ix2 r ⟨k.val, by omega⟩)) (fun k => G (ix3 ⟨(eb T).toNat, hb T⟩ k f)) (fun k => U (ix3 ⟨(eb T).toNat, hb T⟩ k f))) := by
    rw [Cert.ExpertsRefIdeal.Moe.out_at, ← Cert.Moe.mix (⟨(ea T).toNat, ha T⟩ : Fin 16) ⟨(eb T).toNat, hb T⟩ _ _ (hw' 0).1 (hw' 1).1
      fun e : Fin 16 => ∑ f : Fin 512, D (ix3 e f d) * hid (fun k : Fin 2048 => xs (ix2 r ⟨k.val, by omega⟩)) (fun k => G (ix3 e k f)) (fun k => U (ix3 e k f))]
    refine Finset.sum_congr rfl fun e _ => congrArg₂ (· * ·) ?_ (Finset.sum_congr rfl fun f _ => congrArg _ (Cert.ExpertsRefIdeal.Moe.hid_at _ _ _ _ _ _))
    rw [Cert.ExpertsRefIdeal.Moe.gate_at, Fin.sum_univ_two, Cert.ExpertsRefIdeal.Moe.expert0_at, Cert.ExpertsRefIdeal.Moe.expert1_at, Cert.ExpertsRefIdeal.Moe.weight_at, Cert.ExpertsRefIdeal.Moe.weight_at, ev, eT,
      hot _ ⟨(ea T).toNat, ha T⟩ rfl, hot _ ⟨(eb T).toNat, hb T⟩ rfl]
  have eword : word (F := Ideal) 0 (grid0.coords t) (tbl m 2) = nv T := (word_at m hO 0 t _).trans (congrArg (fun f : IVec S120 32 => f T) ((V_arg2 m 0).trans h2))
  have ea0 : (⟨(ea T).toNat, ha T⟩ : Fin 16).val = ((show IVec S120 32 from m ((0 : Dev nD), main_arg0)) (ix1 ⟨t.val, t.isLt⟩)).toNat := congrArg (fun f : IVec S120 32 => (f T).toNat) h0.symm
  have eb0 : (⟨(eb T).toNat, hb T⟩ : Fin 16).val = ((show IVec S120 32 from m ((0 : Dev nD), main_arg1)) (ix1 ⟨t.val, t.isLt⟩)).toNat := congrArg (fun f : IVec S120 32 => (f T).toNat) h1.symm
  refine Eq.trans ?_ eref.symm
  unfold outAt
  rw [eword]
  exact mixed (nv T) _ _ _ _ _ _ _ i d (fun k => xs (ix2 r k))
    (fun k => (blk0 m hO 0 t i k).trans ((congrFun h3 _).trans (congrArg (fun a => xs (ix2 a k)) (Fin.ext hr.symm))))
    (fun k f => G (ix3 ⟨(ea T).toNat, ha T⟩ k f)) (fun k f => U (ix3 ⟨(ea T).toNat, ha T⟩ k f))
    (fun k f => G (ix3 ⟨(eb T).toNat, hb T⟩ k f)) (fun k f => U (ix3 ⟨(eb T).toNat, hb T⟩ k f))
    (fun f => D (ix3 ⟨(ea T).toNat, ha T⟩ f d)) (fun f => D (ix3 ⟨(eb T).toNat, hb T⟩ f d))
    (fun k f => (blk1 m hO 0 t k f _ ea0).trans (congrFun h4 _)) (fun k f => (blk2 m hO 0 t k f _ ea0).trans (congrFun h5 _)) (fun f => (blk3 m hO 0 t f d _ ea0).trans (congrFun h6 _))
    (fun k f => (blk4 m hO 0 t k f _ eb0).trans (congrFun h4 _)) (fun k f => (blk5 m hO 0 t k f _ eb0).trans (congrFun h5 _)) (fun f => (blk6 m hO 0 t f d _ eb0).trans (congrFun h6 _))
    (hw' 0) (hw' 1)

/-- The kernel's whole output is the reference's. -/
theorem final (c : Dev nD) (ea eb nv : IVec S120 32) (xs : FVec Ideal S30720x2176 .f32) (G U : FVec Ideal S16x2048x512 .f32) (D : FVec Ideal S16x512x2048 .f32)
    (h0 : m ((c : Thread nD τ).loc main_arg0) = ea) (h1 : m ((c : Thread nD τ).loc main_arg1) = eb) (h2 : m ((c : Thread nD τ).loc main_arg2) = nv)
    (h3 : m ((c : Thread nD τ).loc main_arg3) = xs) (h4 : m ((c : Thread nD τ).loc main_arg4) = G) (h5 : m ((c : Thread nD τ).loc main_arg5) = U)
    (h6 : m ((c : Thread nD τ).loc main_arg6) = D)
    (ha : ∀ x, (ea x).toNat < 16) (hb : ∀ x, (eb x).toNat < 16)
    (hw : ∀ (r : Fin 30720) (s : Fin 2), IntOp.cmpi .slt (IntOp.remsi .host (BitVec.ofNat 32 r.val) 256#32) (nv (ix1 ⟨r.val / 256, by omega⟩)) = 1#1
        → 0 ≤ xs (ix2 r ⟨2048 + s.val, by omega⟩) ∧ xs (ix2 r ⟨2048 + s.val, by omega⟩) ≠ ⊤) :
    (named m hO 0 c).arrAt 7 (cfgM m hO).N = val_main_v34 (F := Ideal) ea eb nv xs G U D := by
  refine (named m hO 0 c).arrAt_eq_of_covers 7 _ (covers m hO) fun t _ y => ?_
  have ht : t.val < 120 := t.isLt
  have y0 : (y (0 : Fin 2)).val < 256 := (y (0 : Fin 2)).isLt
  have y1 : (y (1 : Fin 2)).val < 2048 := (y (1 : Fin 2)).isLt
  blk_simp
  rw [named_after7]
  refine Eq.trans ?_ ((core m hO c t ⟨_, y0⟩ ⟨_, y1⟩ ⟨t.val * 256 + (y (0 : Fin 2)).val, by omega⟩ rfl ea eb nv xs G U D h0 h1 h2 h3 h4 h5 h6 ha hb hw).trans
    (congrArg (val_main_v34 (F := Ideal) ea eb nv xs G U D) (funext fun a => Fin.ext (Eq.trans ?_ (Pipeline.Window.rect_emb_val ((cfgM m hO).win 7) t y a rfl).symm))))
  · refine congrArg (outAt m hO c t) (funext fun a => Fin.ext ?_)
    match a with
    | ⟨0, _⟩ => rfl
    | ⟨1, _⟩ => rfl
  · rw [at7]
    match a with
    | ⟨0, _⟩ => rfl
    | ⟨1, _⟩ => exact ((congrArg (· + (y (1 : Fin 2)).val) (Nat.zero_mul _)).trans (Nat.zero_add _)).symm

end Cert.ExpertsIdeal.Moe
end
-- ==== Proof.Moe.Ideal.Algebraic.lean ====
/-
The expert kernel and its reference, run from memories that agree on the arguments, end with equal arrays.
-/
module

public import proofs.«01_k».proof.Proof.Moe.Ideal.Value
public import proofs.«01_k».proof.Proof.Moe.Ideal.Ok
public import proofs.«01_k».proof.Proof.Gen.Pre_routed
public import proofs.«01_k».proof.Proof.Gen.ExpertsIdeal
public import proofs.«01_k».proof.Proof.Gen.ExpertsRefIdeal
public import proofs.«01_k».proof.Proof.Gen.ExpertsRefIdeal.Run
public import Idealize.ShloMosaic.Lib.Claim

@[expose] public section

set_option maxRecDepth 16384

noncomputable section

namespace Cert.ExpertsIdeal.Moe

open Idealize.ShloMosaic Idealize.ShloMosaic.TcCoe Idealize.SL.Sem
open Cert.ExpertsIdeal.Gen
open Cert.ExpertsRefIdeal.Read (val_main_v34)

variable (m : (ℓ : Loc nD τ sig) → Buf (Elt Ideal) ℓ)

/-- No tile's count is negative, so that each tile stores its block. -/
theorem counts (nv : IVec S120 32) (h2 : m ((0 : Dev nD).tc.loc main_arg2) = nv) (hv : ∀ x, IntOp.cmpi .sge (nv x) 0#32 = 1#1) : Counts m := fun c i => by
  obtain rfl : c = 0 := Subsingleton.elim _ _
  have e : ∃ x, word (F := Ideal) 0 i (tbl m 2) = nv x := ⟨_, congrArg (fun f : IVec S120 32 => f _) ((V_arg2 m 0).trans h2)⟩
  obtain ⟨x, e⟩ := e
  rw [e]
  exact counted _ (hv x)

/-- The value claim on the experts. -/
theorem algebraic : Cert.algebraic_ExpertsIdeal_ExpertsRefIdeal_pre_routed (hExpertsIdeal := Cert.ExpertsIdeal.Gen.facts) (hExpertsRefIdeal := Cert.ExpertsRefIdeal.Gen.facts)
    (hPre_routed := Cert.Pre_routed.Gen.facts) := by
  intro m ρ m' ρ' hpre hagree
  letI := Cert.Pre_routed.Gen.facts
  obtain ⟨ha, hb, hv, hw⟩ := Cert.Moe.routed _ _ _ _ _ _ _ (hpre 0)
  have hO : Ok m := ok_of m ha hb
  have hN : Counts m := counts m _ rfl hv
  refine ⟨fun c => val_main_v34 (F := Ideal) (m' ((c.tc : Thread _ _).loc Cert.ExpertsRefIdeal.main_arg0)) (m' ((c.tc : Thread _ _).loc Cert.ExpertsRefIdeal.main_arg1))
      (m' ((c.tc : Thread _ _).loc Cert.ExpertsRefIdeal.main_arg2)) (m' ((c.tc : Thread _ _).loc Cert.ExpertsRefIdeal.main_arg3)) (m' ((c.tc : Thread _ _).loc Cert.ExpertsRefIdeal.main_arg4))
      (m' ((c.tc : Thread _ _).loc Cert.ExpertsRefIdeal.main_arg5)) (m' ((c.tc : Thread _ _).loc Cert.ExpertsRefIdeal.main_arg6)),
    (θ_run _ _ _).mono (fun r h c => ?_) (named_main m ρ hO hN), ?_⟩
  · obtain rfl : c = 0 := Subsingleton.elim _ _
    obtain ⟨g0, g1, g2, g3, g4, g5, g6⟩ := hagree 0
    exact ⟨((h.1 0).1 7).trans (final m hO 0 _ _ _ _ _ _ _ g0.symm g1.symm g2.symm g3.symm g4.symm g5.symm g6.symm
        (fun x => (congrArg (fun f : IVec S120 32 => (f x).toNat) g0).trans_lt (ha x)) (fun x => (congrArg (fun f : IVec S120 32 => (f x).toNat) g1).trans_lt (hb x))
        (by rw [g2, g3]; exact hw)),
      ((h.1 0).2 main_arg0 (show main_arg0 ∈ Pipeline.restRefs sig spec0 by decide)).trans (V_arg0 m 0), ((h.1 0).2 main_arg1 (show main_arg1 ∈ Pipeline.restRefs sig spec0 by decide)).trans (V_arg1 m 0), ((h.1 0).2 main_arg2 (show main_arg2 ∈ Pipeline.restRefs sig spec0 by decide)).trans (V_arg2 m 0),
      ((h.1 0).1 0).trans (((named m hO 0 0).arrAt_in 0 rfl _).trans ((named_A m hO 0 0).trans (V_arg3 m 0))),
      ((h.1 0).2 main_arg4 (show main_arg4 ∈ Pipeline.restRefs sig spec0 by decide)).trans (V_arg4 m 0), ((h.1 0).2 main_arg5 (show main_arg5 ∈ Pipeline.restRefs sig spec0 by decide)).trans (V_arg5 m 0), ((h.1 0).2 main_arg6 (show main_arg6 ∈ Pipeline.restRefs sig spec0 by decide)).trans (V_arg6 m 0)⟩
  · exact (θ_run _ _ _).mono (fun r h c => ⟨(h c).1.trans (Cert.ExpertsRefIdeal.Read.val_main_v34_eq _ _ _ _ _ _ _), (h c).2⟩) (Cert.ExpertsRefIdeal.Value.run m' ρ')

end Cert.ExpertsIdeal.Moe
end
-- ==== Proof.Norm.Value.lean ====
/-
The final norm's arrays are the reference's, over the extended reals.
-/
module

public import proofs.«01_k».proof.Proof.Gen.NormIdeal.Frame
public import proofs.«01_k».proof.Proof.Gen.NormIdeal.Run
public import proofs.«01_k».proof.Proof.Gen.NormIdeal
public import proofs.«01_k».proof.Proof.Gen.NormRefIdeal
public import proofs.«01_k».proof.Proof.Gen.NormRefIdeal.Run
public import proofs.«01_k».proof.Proof.Gen.NormRefIdeal.Read
public import Idealize.ShloMosaic.Lib.Pipeline.ValueKit
public import Idealize.ShloMosaic.Lib.Claim
public import proofs.«01_k».proof.Defs

@[expose] public section

set_option maxRecDepth 16384

noncomputable section

namespace Cert.NormIdeal.Val

open Cert.NormIdeal Cert.NormIdeal.Gen Idealize.ShloMosaic Idealize.ShloMosaic.TcCoe Idealize.SL.Sem
open Idealize.ShloMosaic.Pipeline (Dat)

/-- A row divided by the root of the mean of its squares, and scaled entry by entry. -/
def scaled (x g : Fin 2048 → EReal) (d : Fin 2048) : EReal :=
  x d * Ideal.rsqrt (Ideal.div (∑ k, x k * x k) (Ideal.ofBits .f32 0x45000000#32) + Ideal.ofBits .f32 0x358637BD#32) * g d

/-- An entry of the block a grid point writes. -/
theorem out_at (X : Vec Ideal S512x2048 .f32) (G : Vec Ideal S1x2048 .f32) (i : Fin 512) (d : Fin 2048) :
    out0_2 X G (ix2 i d) = scaled (fun k => X (ix2 i k)) (fun k => G (ix2 (0 : Fin 1) k)) d := by
  unfold out0_2
  canon_tiles x h
  all_goals
    idx_vars x
    obtain rfl : i = x0 := Fin.ext h0
    obtain rfl : d = x1 := Fin.ext h1
    pointwise [k0_pay1]
    rfl

open Cert.NormRefIdeal.Read in
/-- The reference's first result, entry by entry, -/
theorem prompt_at (x : FVec Ideal S32x256x2048 .f32) (g : FVec Ideal S2048 .f32) (b : Fin 32) (s : Fin 256) (d : Fin 2048) :
    val_main_v12 (F := Ideal) x g (ix3 b s d) = scaled (fun k => x (ix3 b s k)) (fun k => g (ix1 k)) d := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- Which block each window has at a grid point. -/
theorem idx : ∀ t : Fin cfg0.N, win0_0.index t = ![t.val, 0] ∧ win0_1.index t = ![0, 0] ∧ win0_2.index t = ![t.val, 0] :=
  (by decide +kernel : ∀ t : Fin grid0.N, _)

open Cert.NormRefIdeal.Read in
/-- and its second. -/
theorem sample_at (x : FVec Ideal S4x4096x2048 .f32) (g : FVec Ideal S2048 .f32) (b : Fin 4) (s : Fin 4096) (d : Fin 2048) :
    val_main_v25 (F := Ideal) x g (ix3 b s d) = scaled (fun k => x (ix3 b s k)) (fun k => g (ix1 k)) d := by
  pointwise [val_main_v25, val_main_v24, val_main_v23, val_main_v22, val_main_v21, val_main_v20, val_main_v19, val_main_v18, val_main_cst_4, val_main_v17, val_main_v16, val_main_cst_3, val_main_v15, val_main_v14, val_main_cst_2, val_main_v13]
  rfl

variable (m : (ℓ : Loc nD τ sig) → Buf (Elt Ideal) ℓ)

/-- Every row of `y` normalised. -/
def rows (y : FVec Ideal S24576x2048 .f32) (g : FVec Ideal S1x2048 .f32) : FVec Ideal S24576x2048 .f32 :=
  fun z => scaled (fun k => y (ix2 (z 0) k)) (fun k => g (ix2 (0 : Fin 1) k)) (z 1)

/-- An entry of the block of rows at a grid point. -/
theorem x_at (c : Dev nD) (t : Fin cfg0.N) (i : Fin 512) (k : Fin 2048) (I : Fin 24576) (hI : I.val = t.val * 512 + i.val) :
    (show FVec Ideal S512x2048 .f32 from iblk m c 0 t) (ix2 i k) = (show FVec Ideal S24576x2048 .f32 from V m c main_v2) (ix2 I k) := by
  blk_simp [iblk]
  blk_point [idx t]

/-- An entry of the scales' block. -/
theorem g_at (c : Dev nD) (t : Fin cfg0.N) (k : Fin 2048) :
    (show FVec Ideal S1x2048 .f32 from iblk m c 1 t) (ix2 (0 : Fin 1) k) = (show FVec Ideal S1x2048 .f32 from V m c main_v3) (ix2 (0 : Fin 1) k) := by
  blk_simp [iblk]
  blk_point [idx t]

/-- The region's result: every row of the stacked sequences normalised. -/
theorem final (c : Dev nD) : Cert.NormIdeal.Value.reg_main_v4 m c = rows (V m c main_v2) (V m c main_v3) := by
  refine (dats m 0 c).arrAt_eq_of_covers 2 _ (by decide +kernel) fun t _ y => ?_
  have ht : t.val < 48 := t.isLt
  have h0 : (y 0).val < 512 := (y 0).isLt
  blk_simp
  rw [after0_2]
  refine ((congrArg (out0_2 (iblk m c 0 t) (iblk m c 1 t)) (eq_ix2 y)).trans ((out_at _ _ (y 0) (y 1)).trans ?_)).trans
    (show rows (V m c main_v2) (V m c main_v3) (ix2 (⟨t.val * 512 + (y 0).val, by omega⟩ : Fin 24576) (y 1)) = _ from ?_)
  · exact congrArg₂ (fun x g => scaled x g (y 1)) (funext fun k => x_at m c t (y 0) k _ rfl) (funext fun k => g_at m c t k)
  · blk_ext [idx t]

/-- The stacked rows are the context's, -/
theorem low (c : Dev nD) (b : Fin 32) (s : Fin 256) (k : Fin 2048) (I : Fin 24576) (hI : I.val = b.val * 256 + s.val) :
    (show FVec Ideal S24576x2048 .f32 from V m c main_v2) (ix2 I k)
      = (show FVec Ideal S32x256x2048 .f32 from m ((c : Thread nD τ).loc main_arg0)) (ix3 b s k) := by
  entry_read
  simp only [hostOps0, List.flatten_cons, List.flatten_nil, List.append_nil, List.cons_append, List.nil_append]
  after_results
  refine (concatenate_pair_apply_left (t := S24576x2048) (s₁ := S8192x2048) (s₂ := S16384x2048) _ _ _ _ _ rfl (ix2 (⟨b.val * 256 + s.val, by omega⟩ : Fin 8192) k) fun a => ?_).trans ?_
  · fin_cases a
    · exact hI.symm
    · rfl
  · refine (show _ = shapeCast S8192x2048 (show FVec Ideal S32x256x2048 .f32 from m ((c : Thread nD τ).loc main_arg0)) shapeCasts_S32x256x2048_S8192x2048 (ix2 (⟨b.val * 256 + s.val, by omega⟩ : Fin 8192) k) from rfl).trans ?_
    pointwise

/-- then the samples'. -/
theorem high (c : Dev nD) (b : Fin 4) (s : Fin 4096) (k : Fin 2048) (I : Fin 24576) (hI : I.val = 8192 + (b.val * 4096 + s.val)) :
    (show FVec Ideal S24576x2048 .f32 from V m c main_v2) (ix2 I k)
      = (show FVec Ideal S4x4096x2048 .f32 from m ((c : Thread nD τ).loc main_arg1)) (ix3 b s k) := by
  entry_read
  simp only [hostOps0, List.flatten_cons, List.flatten_nil, List.append_nil, List.cons_append, List.nil_append]
  after_results
  refine (concatenate_pair_apply_right (t := S24576x2048) (s₁ := S8192x2048) (s₂ := S16384x2048) _ _ _ _ _ rfl rfl (ix2 (⟨b.val * 4096 + s.val, by omega⟩ : Fin 16384) k) (fun a ha => ?_) ?_).trans ?_
  · fin_cases a
    · exact absurd rfl ha
    · rfl
  · show b.val * 4096 + s.val + 8192 = I.val
    omega
  · refine (show _ = shapeCast S16384x2048 (show FVec Ideal S4x4096x2048 .f32 from m ((c : Thread nD τ).loc main_arg1)) shapeCasts_S4x4096x2048_S16384x2048 (ix2 (⟨b.val * 4096 + s.val, by omega⟩ : Fin 16384) k) from rfl).trans ?_
    pointwise

/-- The scales are the argument's. -/
theorem gain (c : Dev nD) (k : Fin 2048) :
    (show FVec Ideal S1x2048 .f32 from V m c main_v3) (ix2 (0 : Fin 1) k)
      = (show FVec Ideal S2048 .f32 from m ((c : Thread nD τ).loc main_arg2)) (ix1 k) := by
  entry_read
  simp only [hostOps0, List.flatten_cons, List.flatten_nil, List.append_nil, List.cons_append, List.nil_append]
  after_results
  pointwise

/-- The first result, cut from the stacked rows, -/
theorem prompt (c : Dev nD) :
    Cert.NormRefIdeal.Read.val_main_v12 (F := Ideal) (m ((c : Thread nD τ).loc main_arg0)) (m ((c : Thread nD τ).loc main_arg2))
      = shapeCast S32x256x2048 (extractStridedSlice S8192x2048 ![0, 0] (Cert.NormIdeal.Value.reg_main_v4 m c) slices_S24576x2048_S8192x2048_0_0) shapeCasts_S8192x2048_S32x256x2048 := by
  rw [final]
  funext z
  obtain ⟨b, s, d, rfl⟩ : ∃ b s d, z = ix3 b s d := ⟨z 0, z 1, z 2, eq_ix3 z⟩
  rw [prompt_at]
  pointwise [rows]
  exact congrArg₂ (fun x g => scaled x g d) (funext fun k => (low m c b s k _ rfl).symm) (funext fun k => (gain m c k).symm)

/-- and the second. -/
theorem sample (c : Dev nD) :
    Cert.NormRefIdeal.Read.val_main_v25 (F := Ideal) (m ((c : Thread nD τ).loc main_arg1)) (m ((c : Thread nD τ).loc main_arg2))
      = shapeCast S4x4096x2048 (extractStridedSlice S16384x2048 ![8192, 0] (Cert.NormIdeal.Value.reg_main_v4 m c) slices_S24576x2048_S16384x2048_8192_0) shapeCasts_S16384x2048_S4x4096x2048 := by
  rw [final]
  funext z
  obtain ⟨b, s, d, rfl⟩ : ∃ b s d, z = ix3 b s d := ⟨z 0, z 1, z 2, eq_ix3 z⟩
  rw [sample_at]
  pointwise [rows]
  exact congrArg₂ (fun x g => scaled x g d) (funext fun k => (high m c b s k _ rfl).symm) (funext fun k => (gain m c k).symm)

/-- The kernel's and the reference's runs, from equal arguments, end with equal results. -/
theorem algebraic : Cert.algebraic_NormIdeal_NormRefIdeal := by
  pair_intro
  · run_from Cert.NormIdeal.Value.run m g
  · run_from Cert.NormRefIdeal.Value.run m' g'
    · exact (Cert.NormRefIdeal.Read.val_main_v12_eq (F := Ideal) _ _).symm.trans (prompt m c)
    · exact (Cert.NormRefIdeal.Read.val_main_v25_eq (F := Ideal) _ _).symm.trans (sample m c)

end Cert.NormIdeal.Val
end
-- ==== Proof.Prep.Root.lean ====
/-
Dividing by the root of the head size is multiplying by the root's reciprocal.
-/
module

public import proofs.«01_k».proof.Proof.Moe.Tables
public import Idealize.ShloMosaic.PureOps.Ideal

@[expose] public section

noncomputable section

namespace Cert.Root

open Idealize.ShloMosaic

/-- The reciprocal of the root of 128. -/
def rho : EReal := (((Real.sqrt 128)⁻¹ : ℝ) : EReal)

/-- The pattern of 128 denotes 128. -/
theorem bits_128 : Ideal.ofBits .f32 0x43000000#32 = ((128 : ℝ) : EReal) := by
  simp [Ideal.ofBits, Ideal.ieee, -EReal.coe_mul]; norm_num

/-- A quotient by the root of 128 is a product with its reciprocal, at infinities too. -/
theorem div_root (x : EReal) : Ideal.div x (Ideal.sqrt (Ideal.ofBits .f32 0x43000000#32)) = x * rho := by
  rw [bits_128, Ideal.sqrt_coe, if_neg (show ¬(128 : ℝ) < 0 by norm_num),
    Ideal.div_coe (show Real.sqrt 128 ≠ 0 from (Real.sqrt_pos.mpr (by norm_num)).ne'), one_div]
  rfl

end Cert.Root
end
-- ==== Proof.Prep.Plain.lean ====
/-
The windowed layer's preparation of its queries, keys and values: over the extended reals each array is the reference's.
-/
module

public import proofs.«01_k».proof.Proof.Gen.PrepWIdeal.Frame
public import proofs.«01_k».proof.Proof.Gen.PrepWIdeal.Run
public import proofs.«01_k».proof.Proof.Gen.PrepWIdeal
public import proofs.«01_k».proof.Proof.Gen.PrepWRefIdeal
public import proofs.«01_k».proof.Proof.Gen.PrepWRefIdeal.Run
public import proofs.«01_k».proof.Proof.Gen.PrepWRefIdeal.Read
public import proofs.«01_k».proof.Proof.Prep.Root
public import Idealize.ShloMosaic.Lib.Pipeline.ValueKit
public import Idealize.ShloMosaic.Lib.Claim
public import proofs.«01_k».proof.Defs

@[expose] public section

set_option maxRecDepth 16384

noncomputable section

namespace Cert.PrepWIdeal.Val

open Cert.PrepWIdeal Cert.PrepWIdeal.Gen Idealize.ShloMosaic Idealize.ShloMosaic.TcCoe Idealize.SL.Sem
open Idealize.ShloMosaic.Pipeline (Dat)

/-- The named constant is the reciprocal root. -/
theorem named_root : Named.named (F := Ideal) κ "inv_root" (φ := .f32) 0x3DB504F3#32 = Root.rho :=
  IdealRules.named_const.ideal_named_scalar _ _ _ _ rfl

/-- An entry of the block of queries a grid point writes, -/
theorem q_out (X : Vec Ideal S256x3072 .f32) (a b : Vec Ideal S1x128 .f32) (i : Fin 256) (j : Fin 2048) :
    out0_3 X a b (ix2 i j) = X (ix2 i (⟨j.val, by omega⟩ : Fin 3072)) * Root.rho := by
  unfold out0_3
  canon_tiles x h
  all_goals
    idx_vars x
    pointwise [k0_pay4, k0_pay5, k0_pay6, k0_pay7, k0_pay8, k0_pay9, k0_pay10, k0_pay11, k0_pay12, k0_pay13, k0_pay14, k0_pay15, k0_pay16, k0_pay17, k0_pay18, k0_pay19]
    obtain rfl : i = x0 := Fin.ext h0
    rw [named_root]
    exact congrArg (· * Root.rho) (congrArg X (congrArg (ix2 i) (Fin.ext h1.symm)))

/-- of its keys, -/
theorem k_out (X : Vec Ideal S256x3072 .f32) (a b : Vec Ideal S1x128 .f32) (i : Fin 256) (j : Fin 512) :
    out0_4 X a b (ix2 i j) = X (ix2 i (⟨2048 + j.val, by omega⟩ : Fin 3072)) := by
  unfold out0_4
  canon_tiles x h
  all_goals
    idx_vars x
    pointwise [k0_pay2, k0_pay24, k0_pay22, k0_pay20]
    obtain rfl : i = x0 := Fin.ext h0
    exact congrArg X (congrArg (ix2 i) (Fin.ext (by simp only; omega)))

/-- of its values, -/
theorem v_out (X : Vec Ideal S256x3072 .f32) (a b : Vec Ideal S1x128 .f32) (i : Fin 256) (j : Fin 512) :
    out0_5 X a b (ix2 i j) = X (ix2 i (⟨2560 + j.val, by omega⟩ : Fin 3072)) := by
  unfold out0_5
  canon_tiles x h
  all_goals
    idx_vars x
    pointwise [k0_pay3, k0_pay1, k0_pay23, k0_pay21]
    obtain rfl : i = x0 := Fin.ext h0
    exact congrArg X (congrArg (ix2 i) (Fin.ext (by simp only; omega)))

/-- of the keys it keeps -/
theorem nk_out (X : Vec Ideal S256x3072 .f32) (a b : Vec Ideal S1x128 .f32) (i : Fin 256) (j : Fin 512) :
    out0_6 X a b (ix2 i j) = X (ix2 i (⟨2048 + j.val, by omega⟩ : Fin 3072)) := by
  unfold out0_6
  canon_tiles x h
  all_goals
    idx_vars x
    pointwise
    obtain rfl : i = x0 := Fin.ext h0
    exact congrArg X (congrArg (ix2 i) (Fin.ext (by simp only; omega)))

/-- and of the values it keeps. -/
theorem nv_out (X : Vec Ideal S256x3072 .f32) (a b : Vec Ideal S1x128 .f32) (i : Fin 256) (j : Fin 512) :
    out0_7 X a b (ix2 i j) = X (ix2 i (⟨2560 + j.val, by omega⟩ : Fin 3072)) := by
  unfold out0_7
  canon_tiles x h
  all_goals
    idx_vars x
    pointwise
    obtain rfl : i = x0 := Fin.ext h0
    exact congrArg X (congrArg (ix2 i) (Fin.ext (by simp only; omega)))

/-- Which block each window has at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The queries scaled: the first columns of the rows, -/
def queries (x : FVec Ideal S24576x3072 .f32) : FVec Ideal S8192x2048 .bf16 :=
  fun z => x (ix2 (⟨(z 0).val, lt_of_lt_of_le (z 0).isLt (by decide)⟩ : Fin 24576) (⟨(z 1).val, lt_of_lt_of_le (z 1).isLt (by decide)⟩ : Fin 3072)) * Root.rho

/-- the keys, the next columns, -/
def keys (x : FVec Ideal S24576x3072 .f32) : S8192x512.Idx → EReal :=
  fun z => x (ix2 (⟨(z 0).val, lt_of_lt_of_le (z 0).isLt (by decide)⟩ : Fin 24576) (⟨2048 + (z 1).val, by have h : (z 1).val < 512 := (z 1).isLt; omega⟩ : Fin 3072))

/-- and the values, the last. -/
def values (x : FVec Ideal S24576x3072 .f32) : S8192x512.Idx → EReal :=
  fun z => x (ix2 (⟨(z 0).val, lt_of_lt_of_le (z 0).isLt (by decide)⟩ : Fin 24576) (⟨2560 + (z 1).val, by have h : (z 1).val < 512 := (z 1).isLt; omega⟩ : Fin 3072))

open Cert.PrepWRefIdeal.Read in
/-- The reference's queries, -/
theorem ref_q (x : FVec Ideal S24576x3072 .f32) : val_main_v12 (F := Ideal) x = queries x := by
  funext z
  obtain ⟨I, J, rfl⟩ : ∃ I J, z = ix2 I J := ⟨z 0, z 1, eq_ix2 z⟩
  pointwise [val_main_v12, val_main_v11, val_main_v10, val_main_v9, val_main_v8, val_main_cst, val_main_v5, val_main_v2, val_main_v1, val_main_v0, queries]
  exact Root.div_root _

open Cert.PrepWRefIdeal.Read in
/-- keys -/
theorem ref_k (x : FVec Ideal S24576x3072 .f32) : val_main_v14 (F := Ideal) x = keys x := by
  funext z
  obtain ⟨I, J, rfl⟩ : ∃ I J, z = ix2 I J := ⟨z 0, z 1, eq_ix2 z⟩
  pointwise [val_main_v14, val_main_v13, val_main_v6, val_main_v3, val_main_v1, val_main_v0, keys]

open Cert.PrepWRefIdeal.Read in
/-- and values, -/
theorem ref_v (x : FVec Ideal S24576x3072 .f32) : val_main_v16 (F := Ideal) x = values x := by
  funext z
  obtain ⟨I, J, rfl⟩ : ∃ I J, z = ix2 I J := ⟨z 0, z 1, eq_ix2 z⟩
  pointwise [val_main_v16, val_main_v15, val_main_v7, val_main_v4, val_main_v1, val_main_v0, values]

open Cert.PrepWRefIdeal.Read in
/-- and the keys it keeps, head by head, -/
theorem ref_nk (x : FVec Ideal S24576x3072 .f32) : val_main_v6 (F := Ideal) x = shapeCast S32x256x4x128 (keys x) shapeCasts_S8192x512_S32x256x4x128 := by
  funext z
  obtain ⟨b, s, h, d, rfl⟩ : ∃ b s h d, z = ix4 b s h d := ⟨z 0, z 1, z 2, z 3, eq_ix4 z⟩
  pointwise [val_main_v6, val_main_v3, val_main_v1, val_main_v0, keys]

open Cert.PrepWRefIdeal.Read in
/-- and the values. -/
theorem ref_nv (x : FVec Ideal S24576x3072 .f32) : val_main_v7 (F := Ideal) x = shapeCast S32x256x4x128 (values x) shapeCasts_S8192x512_S32x256x4x128 := by
  funext z
  obtain ⟨b, s, h, d, rfl⟩ : ∃ b s h d, z = ix4 b s h d := ⟨z 0, z 1, z 2, z 3, eq_ix4 z⟩
  pointwise [val_main_v7, val_main_v4, val_main_v1, val_main_v0, values]

variable (m : (ℓ : Loc nD τ sig) → Buf (Elt Ideal) ℓ)

/-- An entry of the block of rows at a grid point. -/
theorem x_at (c : Dev nD) (t : Fin cfg0.N) (i : Fin 256) (k : Fin 3072) (I : Fin 24576) (hI : I.val = t.val * 256 + i.val) :
    (show FVec Ideal S256x3072 .f32 from iblk m c 0 t) (ix2 i k) = (show FVec Ideal S24576x3072 .f32 from m ((c : Thread nD τ).loc main_arg0)) (ix2 I k) := by
  blk_simp [iblk]
  entry_read
  blk_point [idx t]

/-- The region's queries, -/
theorem final_q (c : Dev nD) : Cert.PrepWIdeal.Value.reg_main_v3_0 m c = queries (m ((c : Thread nD τ).loc main_arg0)) := by
  refine (dats m 0 c).arrAt_eq_of_covers 3 _ (by decide +kernel) fun t _ y => ?_
  have ht : t.val < 32 := t.isLt
  have h0 : (y 0).val < 256 := (y 0).isLt
  blk_simp
  rw [after0_3]
  refine ((congrArg (out0_3 (iblk m c 0 t) (iblk m c 1 t) (iblk m c 2 t)) (eq_ix2 y)).trans ((q_out _ _ _ (y 0) (y 1)).trans ?_)).trans
    (show queries (m ((c : Thread nD τ).loc main_arg0)) (ix2 (⟨t.val * 256 + (y 0).val, by omega⟩ : Fin 8192) (y 1)) = _ from ?_)
  · exact congrArg (· * Root.rho) (x_at m c t (y 0) _ _ rfl)
  · blk_ext [idx t]

/-- keys, -/
theorem final_k (c : Dev nD) : Cert.PrepWIdeal.Value.reg_main_v3_1 m c = keys (m ((c : Thread nD τ).loc main_arg0)) := by
  refine (dats m 0 c).arrAt_eq_of_covers 4 _ (by decide +kernel) fun t _ y => ?_
  have ht : t.val < 32 := t.isLt
  have h0 : (y 0).val < 256 := (y 0).isLt
  blk_simp
  rw [after0_4]
  refine ((congrArg (out0_4 (iblk m c 0 t) (iblk m c 1 t) (iblk m c 2 t)) (eq_ix2 y)).trans ((k_out _ _ _ (y 0) (y 1)).trans ?_)).trans
    (show keys (m ((c : Thread nD τ).loc main_arg0)) (ix2 (⟨t.val * 256 + (y 0).val, by omega⟩ : Fin 8192) (y 1)) = _ from ?_)
  · exact x_at m c t (y 0) _ _ rfl
  · blk_ext [idx t]

/-- values, -/
theorem final_v (c : Dev nD) : Cert.PrepWIdeal.Value.reg_main_v3_2 m c = values (m ((c : Thread nD τ).loc main_arg0)) := by
  refine (dats m 0 c).arrAt_eq_of_covers 5 _ (by decide +kernel) fun t _ y => ?_
  have ht : t.val < 32 := t.isLt
  have h0 : (y 0).val < 256 := (y 0).isLt
  blk_simp
  rw [after0_5]
  refine ((congrArg (out0_5 (iblk m c 0 t) (iblk m c 1 t) (iblk m c 2 t)) (eq_ix2 y)).trans ((v_out _ _ _ (y 0) (y 1)).trans ?_)).trans
    (show values (m ((c : Thread nD τ).loc main_arg0)) (ix2 (⟨t.val * 256 + (y 0).val, by omega⟩ : Fin 8192) (y 1)) = _ from ?_)
  · exact x_at m c t (y 0) _ _ rfl
  · blk_ext [idx t]

/-- keys kept -/
theorem final_nk (c : Dev nD) : Cert.PrepWIdeal.Value.reg_main_v3_3 m c = keys (m ((c : Thread nD τ).loc main_arg0)) := by
  refine (dats m 0 c).arrAt_eq_of_covers 6 _ (by decide +kernel) fun t _ y => ?_
  have ht : t.val < 32 := t.isLt
  have h0 : (y 0).val < 256 := (y 0).isLt
  blk_simp
  rw [after0_6]
  refine ((congrArg (out0_6 (iblk m c 0 t) (iblk m c 1 t) (iblk m c 2 t)) (eq_ix2 y)).trans ((nk_out _ _ _ (y 0) (y 1)).trans ?_)).trans
    (show keys (m ((c : Thread nD τ).loc main_arg0)) (ix2 (⟨t.val * 256 + (y 0).val, by omega⟩ : Fin 8192) (y 1)) = _ from ?_)
  · exact x_at m c t (y 0) _ _ rfl
  · blk_ext [idx t]

/-- and values kept. -/
theorem final_nv (c : Dev nD) : Cert.PrepWIdeal.Value.reg_main_v3_4 m c = values (m ((c : Thread nD τ).loc main_arg0)) := by
  refine (dats m 0 c).arrAt_eq_of_covers 7 _ (by decide +kernel) fun t _ y => ?_
  have ht : t.val < 32 := t.isLt
  have h0 : (y 0).val < 256 := (y 0).isLt
  blk_simp
  rw [after0_7]
  refine ((congrArg (out0_7 (iblk m c 0 t) (iblk m c 1 t) (iblk m c 2 t)) (eq_ix2 y)).trans ((nv_out _ _ _ (y 0) (y 1)).trans ?_)).trans
    (show values (m ((c : Thread nD τ).loc main_arg0)) (ix2 (⟨t.val * 256 + (y 0).val, by omega⟩ : Fin 8192) (y 1)) = _ from ?_)
  · exact x_at m c t (y 0) _ _ rfl
  · blk_ext [idx t]

/-- The kernel's and the reference's runs, from equal arguments, end with equal results. -/
theorem algebraic : Cert.algebraic_PrepWIdeal_PrepWRefIdeal := by
  pair_intro
  · run_from Cert.PrepWIdeal.Value.run m g
  · run_from Cert.PrepWRefIdeal.Value.run m' g'
    · exact (ref_q _).trans (final_q m c).symm
    · exact (ref_k _).trans (final_k m c).symm
    · exact (ref_v _).trans (final_v m c).symm
    · exact (ref_nk _).trans (by rw [final_nk m c])
    · exact (ref_nv _).trans (by rw [final_nv m c])

end Cert.PrepWIdeal.Val
end
-- ==== Proof.Prep.Normed.lean ====
/-
The full-attention layer's preparation of its normalised queries and keys and of its values: over the extended reals each array is the reference's.
-/
module

public import proofs.«01_k».proof.Proof.Gen.PrepIdeal.Frame
public import proofs.«01_k».proof.Proof.Gen.PrepIdeal.Run
public import proofs.«01_k».proof.Proof.Gen.PrepIdeal
public import proofs.«01_k».proof.Proof.Gen.PrepRefIdeal
public import proofs.«01_k».proof.Proof.Gen.PrepRefIdeal.Run
public import proofs.«01_k».proof.Proof.Gen.PrepRefIdeal.Read
public import proofs.«01_k».proof.Proof.Prep.Root
public import Idealize.ShloMosaic.Lib.Pipeline.ValueKit
public import Idealize.ShloMosaic.Lib.Claim
public import proofs.«01_k».proof.Defs

@[expose] public section

set_option maxRecDepth 16384

noncomputable section

namespace Cert.PrepIdeal.Val

open Cert.PrepIdeal Cert.PrepIdeal.Gen Idealize.ShloMosaic Idealize.ShloMosaic.TcCoe Idealize.SL.Sem
open Idealize.ShloMosaic.Pipeline (Dat)

/-- The named constant is the reciprocal root. -/
theorem named_root : Named.named (F := Ideal) κ "inv_root" (φ := .f32) 0x3DB504F3#32 = Root.rho :=
  IdealRules.named_const.ideal_named_scalar _ _ _ _ rfl

/-- A head's row divided by the root of the mean of its squares, and scaled entry by entry. -/
def head (x g : Fin 128 → EReal) (e : Fin 128) : EReal :=
  x e * Ideal.rsqrt (Ideal.div (∑ k, x k * x k) (Ideal.ofBits .f32 0x43000000#32) + Ideal.ofBits .f32 0x358637BD#32) * g e

/-- It is read off an entry, a row and a scale equal to its own. -/
theorem head_of {x y g : Fin 128 → EReal} {e : Fin 128} {A G : EReal} (hA : A = x e) (hy : ∀ k, y k = x k) (hG : G = g e) :
    A * Ideal.rsqrt (Ideal.div (∑ k, y k * y k) (Ideal.ofBits .f32 0x43000000#32) + Ideal.ofBits .f32 0x358637BD#32) * G = head x g e := by
  obtain rfl : y = x := funext hy
  rw [hA, hG]
  rfl

/-- The head a column of a block lies in: its entries, of the columns from `o` on. -/
abbrev strip {W D : ℕ} (X : (⟨2, ![D, 3072]⟩ : Shape).Idx → EReal) (i : Fin D) (o : ℕ) (j : Fin W) (hW : o + W ≤ 3072) (hd : 128 ∣ W) (e : Fin 128) : EReal :=
  X (ix2 i (⟨o + (j.val / 128 * 128 + e.val), by obtain ⟨n, rfl⟩ := hd; have := j.isLt; omega⟩ : Fin 3072))

/-- An entry of the block of queries a grid point writes, -/
theorem q_out (X : Vec Ideal S256x3072 .f32) (a b : Vec Ideal S1x128 .f32) (i : Fin 256) (j : Fin 2048) :
    out0_3 X a b (ix2 i j) = head (strip X i 0 j (by omega) ⟨16, rfl⟩) (fun e => a (ix2 (0 : Fin 1) e)) ⟨j.val % 128, by omega⟩ * Root.rho := by
  unfold_out out0_3
  canon_tiles x h
  all_goals
    idx_vars x
    pointwise [k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
    obtain rfl : i = x0 := Fin.ext h0
    rw [named_root]
    exact congrArg (· * Root.rho) (head_of (congrArg X (congrArg (ix2 i) (Fin.ext (by simp only; omega))))
      (fun k => congrArg X (congrArg (ix2 i) (Fin.ext (by simp only; omega)))) (congrArg a (congrArg (ix2 0) (Fin.ext (by simp only; omega)))))

/-- of its keys, -/
theorem k_out (X : Vec Ideal S256x3072 .f32) (a b : Vec Ideal S1x128 .f32) (i : Fin 256) (j : Fin 512) :
    out0_4 X a b (ix2 i j) = head (strip X i 2048 j (by omega) ⟨4, rfl⟩) (fun e => b (ix2 (0 : Fin 1) e)) ⟨j.val % 128, by omega⟩ := by
  unfold_out out0_4
  canon_tiles x h
  all_goals
    idx_vars x
    pointwise [k0_pay5, k0_pay1, k0_pay2, k0_pay27, k0_pay28, k0_pay30, k0_pay31, k0_pay32, k0_pay34, k0_pay35]
    obtain rfl : i = x0 := Fin.ext h0
    exact head_of (congrArg X (congrArg (ix2 i) (Fin.ext (by simp only; omega))))
      (fun k => congrArg X (congrArg (ix2 i) (Fin.ext (by simp only; omega)))) (congrArg b (congrArg (ix2 0) (Fin.ext (by simp only; omega))))

/-- of its values, -/
theorem v_out (X : Vec Ideal S256x3072 .f32) (a b : Vec Ideal S1x128 .f32) (i : Fin 256) (j : Fin 512) :
    out0_5 X a b (ix2 i j) = X (ix2 i (⟨2560 + j.val, by omega⟩ : Fin 3072)) := by
  unfold out0_5
  canon_tiles x h
  all_goals
    idx_vars x
    pointwise [k0_pay3, k0_pay36, k0_pay33, k0_pay29]
    obtain rfl : i = x0 := Fin.ext h0
    exact congrArg X (congrArg (ix2 i) (Fin.ext (by simp only; omega)))

/-- of the keys it keeps -/
theorem nk_out (X : Vec Ideal S256x3072 .f32) (a b : Vec Ideal S1x128 .f32) (i : Fin 256) (j : Fin 512) :
    out0_6 X a b (ix2 i j) = head (strip X i 2048 j (by omega) ⟨4, rfl⟩) (fun e => b (ix2 (0 : Fin 1) e)) ⟨j.val % 128, by omega⟩ := by
  unfold_out out0_6
  canon_tiles x h
  all_goals
    idx_vars x
    pointwise [k0_pay5, k0_pay1, k0_pay2, k0_pay27, k0_pay28, k0_pay30, k0_pay31, k0_pay32, k0_pay34, k0_pay35]
    obtain rfl : i = x0 := Fin.ext h0
    exact head_of (congrArg X (congrArg (ix2 i) (Fin.ext (by simp only; omega))))
      (fun k => congrArg X (congrArg (ix2 i) (Fin.ext (by simp only; omega)))) (congrArg b (congrArg (ix2 0) (Fin.ext (by simp only; omega))))

/-- and of the values it keeps. -/
theorem nv_out (X : Vec Ideal S256x3072 .f32) (a b : Vec Ideal S1x128 .f32) (i : Fin 256) (j : Fin 512) :
    out0_7 X a b (ix2 i j) = X (ix2 i (⟨2560 + j.val, by omega⟩ : Fin 3072)) := by
  unfold out0_7
  canon_tiles x h
  all_goals
    idx_vars x
    pointwise
    obtain rfl : i = x0 := Fin.ext h0
    exact congrArg X (congrArg (ix2 i) (Fin.ext (by simp only; omega)))

/-- Which block each window has at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The queries normalised and scaled: heads of the first columns of the rows, -/
def queries (x : FVec Ideal S24576x3072 .f32) (g : FVec Ideal S128 .f32) : FVec Ideal S8192x2048 .bf16 :=
  fun z => head (strip x (⟨(z 0).val, lt_of_lt_of_le (z 0).isLt (by decide)⟩ : Fin 24576) 0 (⟨(z 1).val, (z 1).isLt⟩ : Fin 2048) (by omega) ⟨16, rfl⟩)
    (fun e => g (ix1 e)) ⟨(z 1).val % 128, by omega⟩ * Root.rho

/-- the keys normalised, heads of the next columns, -/
def keys (x : FVec Ideal S24576x3072 .f32) (g : FVec Ideal S128 .f32) : S8192x512.Idx → EReal :=
  fun z => head (strip x (⟨(z 0).val, lt_of_lt_of_le (z 0).isLt (by decide)⟩ : Fin 24576) 2048 (⟨(z 1).val, (z 1).isLt⟩ : Fin 512) (by omega) ⟨4, rfl⟩)
    (fun e => g (ix1 e)) ⟨(z 1).val % 128, by omega⟩

/-- and the values, the last. -/
def values (x : FVec Ideal S24576x3072 .f32) : S8192x512.Idx → EReal :=
  fun z => x (ix2 (⟨(z 0).val, lt_of_lt_of_le (z 0).isLt (by decide)⟩ : Fin 24576) (⟨2560 + (z 1).val, by have h : (z 1).val < 512 := (z 1).isLt; omega⟩ : Fin 3072))

open Cert.PrepRefIdeal.Read in
/-- The reference's queries, -/
theorem ref_q (x : FVec Ideal S24576x3072 .f32) (g : FVec Ideal S128 .f32) : val_main_v38 (F := Ideal) x g = queries x g := by
  funext z
  obtain ⟨I, J, rfl⟩ : ∃ I J, z = ix2 I J := ⟨z 0, z 1, eq_ix2 z⟩
  pointwise [val_main_v38, val_main_v37, val_main_v36, val_main_v35, val_main_v34, val_main_cst_5, val_main_v20, val_main_v19, val_main_v18, val_main_v17, val_main_v16, val_main_v15, val_main_v14, val_main_v13, val_main_cst_1, val_main_v12, val_main_v11, val_main_cst_0, val_main_v10, val_main_v9, val_main_cst, val_main_v8, val_main_v5, val_main_v2, val_main_v1, val_main_v0, queries]
  refine (Root.div_root _).trans (congrArg (· * Root.rho) ?_)
  exact head_of (congrArg x (congrArg (ix2 _) (Fin.ext (by simp only <;> omega)))) (fun k => congrArg x (congrArg (ix2 _) (Fin.ext (by simp only <;> omega))))
    (congrArg g (congrArg ix1 (Fin.ext (by simp only <;> omega))))

open Cert.PrepRefIdeal.Read in
/-- keys -/
theorem ref_k (x : FVec Ideal S24576x3072 .f32) (g : FVec Ideal S128 .f32) : val_main_v40 (F := Ideal) x g = keys x g := by
  funext z
  obtain ⟨I, J, rfl⟩ : ∃ I J, z = ix2 I J := ⟨z 0, z 1, eq_ix2 z⟩
  pointwise [val_main_v40, val_main_v39, val_main_v33, val_main_v32, val_main_v31, val_main_v30, val_main_v29, val_main_v28, val_main_v27, val_main_v26, val_main_cst_4, val_main_v25, val_main_v24, val_main_cst_3, val_main_v23, val_main_v22, val_main_cst_2, val_main_v21, val_main_v6, val_main_v3, val_main_v1, val_main_v0, keys]
  exact head_of (congrArg x (congrArg (ix2 _) (Fin.ext (by simp only <;> omega)))) (fun k => congrArg x (congrArg (ix2 _) (Fin.ext (by simp only <;> omega))))
    (congrArg g (congrArg ix1 (Fin.ext (by simp only <;> omega))))

open Cert.PrepRefIdeal.Read in
/-- and values, -/
theorem ref_v (x : FVec Ideal S24576x3072 .f32) : val_main_v42 (F := Ideal) x = values x := by
  funext z
  obtain ⟨I, J, rfl⟩ : ∃ I J, z = ix2 I J := ⟨z 0, z 1, eq_ix2 z⟩
  pointwise [val_main_v42, val_main_v41, val_main_v7, val_main_v4, val_main_v1, val_main_v0, values]

open Cert.PrepRefIdeal.Read in
/-- and the keys it keeps, head by head, -/
theorem ref_nk (x : FVec Ideal S24576x3072 .f32) (g : FVec Ideal S128 .f32) : val_main_v33 (F := Ideal) x g = shapeCast S32x256x4x128 (keys x g) shapeCasts_S8192x512_S32x256x4x128 := by
  funext z
  obtain ⟨b, s, h, d, rfl⟩ : ∃ b s h d, z = ix4 b s h d := ⟨z 0, z 1, z 2, z 3, eq_ix4 z⟩
  pointwise [val_main_v33, val_main_v32, val_main_v31, val_main_v30, val_main_v29, val_main_v28, val_main_v27, val_main_v26, val_main_cst_4, val_main_v25, val_main_v24, val_main_cst_3, val_main_v23, val_main_v22, val_main_cst_2, val_main_v21, val_main_v6, val_main_v3, val_main_v1, val_main_v0, keys]
  exact head_of (congrArg x (congrArg (ix2 _) (Fin.ext (by simp only; omega)))) (fun k => congrArg x (congrArg (ix2 _) (Fin.ext (by simp only; omega))))
    (congrArg g (congrArg ix1 (Fin.ext (by simp only; omega))))

open Cert.PrepRefIdeal.Read in
/-- and the values. -/
theorem ref_nv (x : FVec Ideal S24576x3072 .f32) : val_main_v7 (F := Ideal) x = shapeCast S32x256x4x128 (values x) shapeCasts_S8192x512_S32x256x4x128 := by
  funext z
  obtain ⟨b, s, h, d, rfl⟩ : ∃ b s h d, z = ix4 b s h d := ⟨z 0, z 1, z 2, z 3, eq_ix4 z⟩
  pointwise [val_main_v7, val_main_v4, val_main_v1, val_main_v0, values]

variable (m : (ℓ : Loc nD τ sig) → Buf (Elt Ideal) ℓ)

/-- An entry of the block of rows at a grid point. -/
theorem x_at (c : Dev nD) (t : Fin cfg0.N) (i : Fin 256) (k : Fin 3072) (I : Fin 24576) (hI : I.val = t.val * 256 + i.val) :
    (show FVec Ideal S256x3072 .f32 from iblk m c 0 t) (ix2 i k) = (show FVec Ideal S24576x3072 .f32 from m ((c : Thread nD τ).loc main_arg0)) (ix2 I k) := by
  blk_simp [iblk]
  entry_read
  blk_point [idx t]

/-- An entry of the queries' scales' block. -/
theorem qn_at (c : Dev nD) (t : Fin cfg0.N) (k : Fin 128) :
    (show FVec Ideal S1x128 .f32 from iblk m c 1 t) (ix2 (0 : Fin 1) k) = (show FVec Ideal S128 .f32 from m ((c : Thread nD τ).loc main_arg1)) (ix1 k) := by
  refine (show _ = (show FVec Ideal S1x128 .f32 from V m c main_v0) (ix2 (0 : Fin 1) k) from ?_).trans ?_
  · blk_simp [iblk]
    blk_point [idx t]
  · entry_read
    simp only [hostOps0, List.flatten_cons, List.flatten_nil, List.append_nil, List.cons_append, List.nil_append]
    after_results
    pointwise

/-- An entry of the keys' scales' block. -/
theorem kn_at (c : Dev nD) (t : Fin cfg0.N) (k : Fin 128) :
    (show FVec Ideal S1x128 .f32 from iblk m c 2 t) (ix2 (0 : Fin 1) k) = (show FVec Ideal S128 .f32 from m ((c : Thread nD τ).loc main_arg2)) (ix1 k) := by
  refine (show _ = (show FVec Ideal S1x128 .f32 from V m c main_v1) (ix2 (0 : Fin 1) k) from ?_).trans ?_
  · blk_simp [iblk]
    blk_point [idx t]
  · entry_read
    simp only [hostOps0, List.flatten_cons, List.flatten_nil, List.append_nil, List.cons_append, List.nil_append]
    after_results
    pointwise

/-- The region's queries, -/
theorem final_q (c : Dev nD) : Cert.PrepIdeal.Value.reg_main_v2_0 m c = queries (m ((c : Thread nD τ).loc main_arg0)) (m ((c : Thread nD τ).loc main_arg1)) := by
  refine (dats m 0 c).arrAt_eq_of_covers 3 _ (by decide +kernel) fun t _ y => ?_
  have ht : t.val < 32 := t.isLt
  have h0 : (y 0).val < 256 := (y 0).isLt
  blk_simp
  rw [after0_3]
  refine ((congrArg (out0_3 (iblk m c 0 t) (iblk m c 1 t) (iblk m c 2 t)) (eq_ix2 y)).trans ((q_out _ _ _ (y 0) (y 1)).trans ?_)).trans
    (show queries (m ((c : Thread nD τ).loc main_arg0)) (m ((c : Thread nD τ).loc main_arg1)) (ix2 (⟨t.val * 256 + (y 0).val, by omega⟩ : Fin 8192) (y 1)) = _ from ?_)
  · exact congrArg (· * Root.rho) (congrArg₂ (fun x g => head x g _) (funext fun e => x_at m c t (y 0) _ _ rfl) (funext fun e => qn_at m c t e))
  · blk_ext [idx t]

/-- keys, -/
theorem final_k (c : Dev nD) : Cert.PrepIdeal.Value.reg_main_v2_1 m c = keys (m ((c : Thread nD τ).loc main_arg0)) (m ((c : Thread nD τ).loc main_arg2)) := by
  refine (dats m 0 c).arrAt_eq_of_covers 4 _ (by decide +kernel) fun t _ y => ?_
  have ht : t.val < 32 := t.isLt
  have h0 : (y 0).val < 256 := (y 0).isLt
  blk_simp
  rw [after0_4]
  refine ((congrArg (out0_4 (iblk m c 0 t) (iblk m c 1 t) (iblk m c 2 t)) (eq_ix2 y)).trans ((k_out _ _ _ (y 0) (y 1)).trans ?_)).trans
    (show keys (m ((c : Thread nD τ).loc main_arg0)) (m ((c : Thread nD τ).loc main_arg2)) (ix2 (⟨t.val * 256 + (y 0).val, by omega⟩ : Fin 8192) (y 1)) = _ from ?_)
  · exact congrArg₂ (fun x g => head x g _) (funext fun e => x_at m c t (y 0) _ _ rfl) (funext fun e => kn_at m c t e)
  · blk_ext [idx t]

/-- values, -/
theorem final_v (c : Dev nD) : Cert.PrepIdeal.Value.reg_main_v2_2 m c = values (m ((c : Thread nD τ).loc main_arg0)) := by
  refine (dats m 0 c).arrAt_eq_of_covers 5 _ (by decide +kernel) fun t _ y => ?_
  have ht : t.val < 32 := t.isLt
  have h0 : (y 0).val < 256 := (y 0).isLt
  blk_simp
  rw [after0_5]
  refine ((congrArg (out0_5 (iblk m c 0 t) (iblk m c 1 t) (iblk m c 2 t)) (eq_ix2 y)).trans ((v_out _ _ _ (y 0) (y 1)).trans ?_)).trans
    (show values (m ((c : Thread nD τ).loc main_arg0)) (ix2 (⟨t.val * 256 + (y 0).val, by omega⟩ : Fin 8192) (y 1)) = _ from ?_)
  · exact x_at m c t (y 0) _ _ rfl
  · blk_ext [idx t]

/-- keys kept -/
theorem final_nk (c : Dev nD) : Cert.PrepIdeal.Value.reg_main_v2_3 m c = keys (m ((c : Thread nD τ).loc main_arg0)) (m ((c : Thread nD τ).loc main_arg2)) := by
  refine (dats m 0 c).arrAt_eq_of_covers 6 _ (by decide +kernel) fun t _ y => ?_
  have ht : t.val < 32 := t.isLt
  have h0 : (y 0).val < 256 := (y 0).isLt
  blk_simp
  rw [after0_6]
  refine ((congrArg (out0_6 (iblk m c 0 t) (iblk m c 1 t) (iblk m c 2 t)) (eq_ix2 y)).trans ((nk_out _ _ _ (y 0) (y 1)).trans ?_)).trans
    (show keys (m ((c : Thread nD τ).loc main_arg0)) (m ((c : Thread nD τ).loc main_arg2)) (ix2 (⟨t.val * 256 + (y 0).val, by omega⟩ : Fin 8192) (y 1)) = _ from ?_)
  · exact congrArg₂ (fun x g => head x g _) (funext fun e => x_at m c t (y 0) _ _ rfl) (funext fun e => kn_at m c t e)
  · blk_ext [idx t]

/-- and values kept. -/
theorem final_nv (c : Dev nD) : Cert.PrepIdeal.Value.reg_main_v2_4 m c = values (m ((c : Thread nD τ).loc main_arg0)) := by
  refine (dats m 0 c).arrAt_eq_of_covers 7 _ (by decide +kernel) fun t _ y => ?_
  have ht : t.val < 32 := t.isLt
  have h0 : (y 0).val < 256 := (y 0).isLt
  blk_simp
  rw [after0_7]
  refine ((congrArg (out0_7 (iblk m c 0 t) (iblk m c 1 t) (iblk m c 2 t)) (eq_ix2 y)).trans ((nv_out _ _ _ (y 0) (y 1)).trans ?_)).trans
    (show values (m ((c : Thread nD τ).loc main_arg0)) (ix2 (⟨t.val * 256 + (y 0).val, by omega⟩ : Fin 8192) (y 1)) = _ from ?_)
  · exact x_at m c t (y 0) _ _ rfl
  · blk_ext [idx t]

/-- The kernel's and the reference's runs, from equal arguments, end with equal results. -/
theorem algebraic : Cert.algebraic_PrepIdeal_PrepRefIdeal := by
  pair_intro
  · run_from Cert.PrepIdeal.Value.run m g
  · run_from Cert.PrepRefIdeal.Value.run m' g'
    · exact (ref_q _ _).trans (final_q m c).symm
    · exact (ref_k _ _).trans (final_k m c).symm
    · exact (ref_v _).trans (final_v m c).symm
    · exact (ref_nk _ _).trans (by rw [final_nk m c])
    · exact (ref_nv _).trans (by rw [final_nv m c])

end Cert.PrepIdeal.Val
end
-- ==== Proof.Proj.Rows.lean ====
/-
What the projections of a mixer's input are made of, over the extended reals, and which condition a row of the stacked streams has.
-/
module

public import Idealize.ShloMosaic.Lib.Pipeline.ValueKit

@[expose] public section

noncomputable section

namespace Cert.Proj

open Idealize.ShloMosaic

/-- The row of conditions a row of the stacked streams belongs to: 0 for the context's, then one per sample. -/
def condition (r : ℕ) : ℕ := if r < 8192 then 0 else 1 + (r - 8192) / 4096

/-- There are eight. -/
theorem condition_lt (r : ℕ) (h : r < 24576) : condition r < 8 := by
  unfold condition; split <;> omega

/-- The rows of a block belong to one condition. -/
theorem condition_block (q i : ℕ) (h : i < 1024) : condition (q * 1024 + i) = condition (q * 1024) := by
  unfold condition; split <;> split <;> omega

/-- An entry of a row divided by the root of the mean of its squares and scaled, then scaled by one plus `sc` and shifted by `sh`. -/
def modulated (x g sh sc : Fin 2048 → EReal) (d : Fin 2048) : EReal :=
  x d * Ideal.rsqrt (Ideal.div (∑ k, x k * x k) (Ideal.ofBits .f32 0x45000000#32) + Ideal.ofBits .f32 0x358637BD#32) * g d * (1 + sc d) + sh d

/-- Equal rows give equal entries. -/
theorem modulated_congr {x x' g g' sh sh' sc sc' : Fin 2048 → EReal} (hx : ∀ k, x k = x' k) (hg : ∀ k, g k = g' k) (hsh : ∀ k, sh k = sh' k) (hsc : ∀ k, sc k = sc' k) (d : Fin 2048) :
    modulated x g sh sc d = modulated x' g' sh' sc' d := by
  rw [funext hx, funext hg, funext hsh, funext hsc]

/-- A row's product with a column, plus the column's bias. -/
def projected (h w : Fin 2048 → EReal) (b : EReal) : EReal := (∑ k, h k * w k) + b

/-- Equal rows, columns and biases give equal products. -/
theorem projected_congr {h h' w w' : Fin 2048 → EReal} {b b' : EReal} (hh : ∀ k, h k = h' k) (hw : ∀ k, w k = w' k) (hb : b = b') : projected h w b = projected h' w' b' := by
  rw [funext hh, funext hw, hb]

end Cert.Proj
end
-- ==== Proof.Proj.Qkv.lean ====
/-
The projection of a mixer's normalised, modulated input without a bias: over the extended reals the array is the reference's.
-/
module

public import proofs.«01_k».proof.Proof.Gen.QkvIdeal.Frame
public import proofs.«01_k».proof.Proof.Gen.QkvIdeal
public import proofs.«01_k».proof.Proof.Gen.QkvRefIdeal
public import proofs.«01_k».proof.Proof.Gen.QkvRefIdeal.Run
public import proofs.«01_k».proof.Proof.Gen.QkvRefIdeal.Read
public import Idealize.ShloMosaic.Lib.Pipeline.ValueKit
public import Idealize.ShloMosaic.Lib.Claim
public import proofs.«01_k».proof.Proof.Proj.Rows
public import proofs.«01_k».proof.Defs

@[expose] public section

set_option maxRecDepth 16384

noncomputable section

namespace Cert.QkvIdeal.Val

open Cert.QkvIdeal Cert.QkvIdeal.Gen Cert.Proj Idealize.ShloMosaic Idealize.ShloMosaic.TcCoe Idealize.SL.Sem
open Idealize.ShloMosaic.Pipeline (Dat)

/-- The matrix offsets of the body's loads and stores are zero, -/
theorem hz : (![0, 0] : Fin 2 → Nat) = fun _ => 0 := funext fun a => by fin_cases a <;> rfl
/-- and those of its loads of a row of conditions. -/
theorem hz4 : (![0, 0, 0, 0] : Fin 4 → Nat) = fun _ => 0 := funext fun a => by fin_cases a <;> rfl

section Body

variable (c : Dev nD) (i : grid0.Coords) (a2 : Memref sig .tc .vmem S1024x2048 .f32) (h2 : a2.IsWhole) (a3 : Memref sig .tc .vmem S1x2048 .f32) (h3 : a3.IsWhole)
  (a4 : Memref sig .tc .vmem S1x1x1x2048 .f32) (h4 : a4.IsWhole) (a5 : Memref sig .tc .vmem S1x1x1x2048 .f32) (h5 : a5.IsWhole)
  (a6 : Memref sig .tc .vmem S2048x1024 .bf16) (h6 : a6.IsWhole) (a7 : Memref sig .tc .vmem S1x1024 .f32) (h7 : a7.IsWhole)
  (a8 : Memref sig .tc .vmem S1024x1024 .f32) (h8 : a8.IsWhole) (a9 : Memref sig .tc .vmem S1024x2048 .bf16) (h9 : a9.IsWhole)
  (x0 : Vec Ideal S1024x2048 .f32) (x1 : Vec Ideal S1x2048 .f32) (x2 x3 : Vec Ideal S1x1x1x2048 .f32) (x4 : Vec Ideal S2048x1024 .bf16) (x5 : Vec Ideal S1x1024 .f32)
  (xs : Vec Ideal S1024x2048 .bf16)

/-- At the first block of columns the body leaves the modulated rows in its scratch -/
theorem kept_A (hc : cond0_0 i) : sout0_A_0 c i a2 h2 a3 h3 a4 h4 a5 h5 a6 h6 a7 h7 a8 h8 a9 h9 hc x0 x1 x2 x3 x4 x5 = k0_pay1 x0 x1 x2 x3 := by
  unfold sout0_A_0
  rw [View.read_writes_eq_canon _ _ _ (scover0_A_0 c i a2 h2 a3 h3 a4 h4 a5 h5 a6 h6 a7 h7 a8 h8 a9 h9 hc x0 x1 x2 x3 x4 x5)]
  unfold kernelRun0_A
  dsimp only
  sl_unfold_words
  rw [View.canon_unit_zero (S := S1024x2048) hz]
  simp only [View.readAt_eq_ld, h2.read_unread, h3.read_unread, h4.read_unread, h5.read_unread, View.ld_unit_zero (S := S1024x2048) hz, View.ld_unit_zero (S := S1x2048) hz,
    View.ld_unit_zero (S := S1x1x1x2048) hz4]

/-- and writes their product with its columns; -/
theorem out_A (hc : cond0_0 i) : out0_A_6 c i a2 h2 a3 h3 a4 h4 a5 h5 a6 h6 a7 h7 a8 h8 a9 h9 hc x0 x1 x2 x3 x4 x5 = k0_pay2 (k0_pay1 x0 x1 x2 x3) x4 x5 := by
  unfold out0_A_6
  rw [View.read_writes_eq_canon _ _ _ (cover0_A_6 c i a2 h2 a3 h3 a4 h4 a5 h5 a6 h6 a7 h7 a8 h8 a9 h9 hc x0 x1 x2 x3 x4 x5)]
  unfold kernelRun0_A
  dsimp only
  sl_unfold_words
  rw [View.canon_unit_zero (S := S1024x1024) hz]
  simp only [View.readCov_unit_zero (S := S1024x2048) _ hz, View.readAt_eq_ld, h2.read_unread, h3.read_unread, h4.read_unread, h5.read_unread, h6.read_unread, h7.read_unread,
    View.ld_unit_zero (S := S1024x2048) hz, View.ld_unit_zero (S := S1x2048) hz, View.ld_unit_zero (S := S1x1x1x2048) hz4,
    View.ld_unit_zero (S := S2048x1024) hz, View.ld_unit_zero (S := S1x1024) hz]

/-- at the others it writes the scratch's product with its columns. -/
theorem out_B (hc : ¬cond0_0 i) : out0_B_6 c i a2 h2 a3 h3 a4 h4 a5 h5 a6 h6 a7 h7 a8 h8 a9 h9 hc x0 x1 x2 x3 x4 x5 xs = k0_pay2 xs x4 x5 := by
  unfold out0_B_6
  rw [View.read_writes_eq_canon _ _ _ (cover0_B_6 c i a2 h2 a3 h3 a4 h4 a5 h5 a6 h6 a7 h7 a8 h8 a9 h9 hc x0 x1 x2 x3 x4 x5 xs)]
  unfold kernelRun0_B
  dsimp only
  sl_unfold_words
  rw [View.canon_unit_zero (S := S1024x1024) hz]
  simp only [View.readAt_eq_ld, h6.read_unread, h7.read_unread, h9.read_unread,
    View.ld_unit_zero (S := S1024x2048) hz, View.ld_unit_zero (S := S2048x1024) hz, View.ld_unit_zero (S := S1x1024) hz]

/-- An entry of the modulated rows, -/
theorem kept_at (r : Fin 1024) (d : Fin 2048) : k0_pay1 x0 x1 x2 x3 (ix2 r d)
    = modulated (fun k => x0 (ix2 r k)) (fun k => x1 (ix2 (0 : Fin 1) k)) (fun k => x2 (ix4 (0 : Fin 1) (0 : Fin 1) (0 : Fin 1) k)) (fun k => x3 (ix4 (0 : Fin 1) (0 : Fin 1) (0 : Fin 1) k)) d := by
  pointwise [k0_pay1]
  rfl

/-- and of the product. -/
theorem prod_at (r d : Fin 1024) : k0_pay2 xs x4 x5 (ix2 r d) = projected (fun k => xs (ix2 r k)) (fun k => x4 (ix2 k d)) (x5 (ix2 (0 : Fin 1) d)) := by
  pointwise [k0_pay2]
  rfl

end Body

/-- Which block each window has at a grid point. -/
theorem idx : ∀ t : Fin cfg0.N, win0_0.index t = ![t.val / 3, 0] ∧ win0_1.index t = ![0, 0] ∧ win0_2.index t = ![condition (t.val / 3 * 1024), 0, 0, 0]
    ∧ win0_3.index t = ![condition (t.val / 3 * 1024), 1, 0, 0] ∧ win0_4.index t = ![0, t.val % 3] ∧ win0_5.index t = ![0, t.val % 3]
    ∧ win0_6.index t = ![t.val / 3, t.val % 3] :=
  (by decide +kernel : ∀ t : Fin grid0.N, _)

/-- A row of the stacked streams, normalised, scaled, and modulated by its condition. -/
def row (x : FVec Ideal S24576x2048 .f32) (g : FVec Ideal S2048 .f32) (mo : FVec Ideal S8x6x1x2048 .f32) (I : Fin 24576) : Fin 2048 → EReal :=
  modulated (fun k => x (ix2 I k)) (fun k => g (ix1 k)) (fun k => mo (ix4 (⟨condition I.val, condition_lt _ I.isLt⟩ : Fin 8) (0 : Fin 6) (0 : Fin 1) k))
    (fun k => mo (ix4 (⟨condition I.val, condition_lt _ I.isLt⟩ : Fin 8) (1 : Fin 6) (0 : Fin 1) k))

/-- Every row's product with every column. -/
def rows (x : FVec Ideal S24576x2048 .f32) (g : FVec Ideal S2048 .f32) (mo : FVec Ideal S8x6x1x2048 .f32) (w : FVec Ideal S2048x3072 .f32) :
    FVec Ideal S24576x3072 .f32 :=
  fun y => projected (row x g mo (y 0)) (fun k => w (ix2 k (y 1))) 0

section Reference

open Cert.QkvRefIdeal.Read

variable (x : FVec Ideal S24576x2048 .f32) (g : FVec Ideal S2048 .f32) (mo : FVec Ideal S8x6x1x2048 .f32) (w : FVec Ideal S2048x3072 .f32)

/-- The reference's modulated rows of the context, -/
theorem prompt_row (b : Fin 32) (s : Fin 256) (d : Fin 2048) :
    val_main_v32 (F := Ideal) x g mo (ix3 b s d) = row x g mo (⟨b.val * 256 + s.val, by omega⟩ : Fin 24576) d := by
  have hc : condition (b.val * 256 + s.val) = 0 := by unfold condition; split <;> omega
  pointwise [val_main_v32, val_main_v31, val_main_v30, val_main_v29, val_main_v28, val_main_v27, val_main_v26, val_main_v25, val_main_cst_2, val_main_v24, val_main_v23, val_main_v22, val_main_v21, val_main_v20, val_main_v19, val_main_v18, val_main_v17, val_main_cst_1, val_main_v16, val_main_v15, val_main_cst_0, val_main_v14, val_main_v13, val_main_cst, val_main_v12, val_main_v9, val_main_v8, val_main_v5, val_main_v4, val_main_v1, val_main_v0]
  exact congrArg (fun C : Fin 8 => modulated (fun k => x (ix2 _ k)) (fun k => g (ix1 k)) (fun k => mo (ix4 C (0 : Fin 6) (0 : Fin 1) k)) (fun k => mo (ix4 C (1 : Fin 6) (0 : Fin 1) k)) d) (Fin.ext hc.symm)

/-- and of the samples. -/
theorem sample_row (b : Fin 4) (s : Fin 4096) (d : Fin 2048) :
    val_main_v51 (F := Ideal) x g mo (ix3 b s d) = row x g mo (⟨8192 + (b.val * 4096 + s.val), by omega⟩ : Fin 24576) d := by
  have hc : condition (8192 + (b.val * 4096 + s.val)) = 1 + b.val := by unfold condition; split <;> omega
  pointwise [val_main_v51, val_main_v50, val_main_v49, val_main_v48, val_main_v47, val_main_v46, val_main_cst_6, val_main_v45, val_main_v44, val_main_v43, val_main_v42, val_main_v41, val_main_v40, val_main_v39, val_main_v38, val_main_cst_5, val_main_v37, val_main_v36, val_main_cst_4, val_main_v35, val_main_v34, val_main_cst_3, val_main_v33, val_main_v11, val_main_v10, val_main_v7, val_main_v6, val_main_v3, val_main_v2]
  exact congrArg (fun C : Fin 8 => modulated (fun k => x (ix2 _ k)) (fun k => g (ix1 k)) (fun k => mo (ix4 C (0 : Fin 6) (0 : Fin 1) k)) (fun k => mo (ix4 C (1 : Fin 6) (0 : Fin 1) k)) d) (Fin.ext hc.symm)

/-- The context's rows of the result, -/
theorem prompt_at (r : Fin 8192) (j : Fin 3072) :
    val_main_v54 (F := Ideal) x g mo w (ix2 r j) = rows x g mo w (ix2 (⟨r.val, by omega⟩ : Fin 24576) j) := by
  have e : (⟨r.val / 256 * 256 + r.val % 256, by omega⟩ : Fin 24576) = ⟨r.val, by omega⟩ := Fin.ext (by show r.val / 256 * 256 + r.val % 256 = r.val; omega)
  refine (show _ = projected (fun k => val_main_v32 (F := Ideal) x g mo (ix3 (⟨r.val / 256, by omega⟩ : Fin 32) (⟨r.val % 256, by omega⟩ : Fin 256) k)) (fun k => w (ix2 k j)) 0 from ?_).trans ?_
  · pointwise [val_main_v54, val_main_v52]
    exact (add_zero _).symm
  · rw [funext fun k => prompt_row x g mo _ _ k]
    exact congrArg (fun I => projected (row x g mo I) (fun k => w (ix2 k j)) 0) e

/-- and the samples'. -/
theorem sample_at (r : Fin 16384) (j : Fin 3072) :
    val_main_v55 (F := Ideal) x g mo w (ix2 r j) = rows x g mo w (ix2 (⟨8192 + r.val, by omega⟩ : Fin 24576) j) := by
  have e : (⟨8192 + (r.val / 4096 * 4096 + r.val % 4096), by omega⟩ : Fin 24576) = ⟨8192 + r.val, by omega⟩ := Fin.ext (by show 8192 + (r.val / 4096 * 4096 + r.val % 4096) = 8192 + r.val; omega)
  refine (show _ = projected (fun k => val_main_v51 (F := Ideal) x g mo (ix3 (⟨r.val / 4096, by omega⟩ : Fin 4) (⟨r.val % 4096, by omega⟩ : Fin 4096) k)) (fun k => w (ix2 k j)) 0 from ?_).trans ?_
  · pointwise [val_main_v55, val_main_v53]
    exact (add_zero _).symm
  · rw [funext fun k => sample_row x g mo _ _ k]
    exact congrArg (fun I => projected (row x g mo I) (fun k => w (ix2 k j)) 0) e

/-- The reference's result. -/
theorem ref_eq : val_main_v56 (F := Ideal) x g mo w = rows x g mo w := by
  funext z
  obtain ⟨I, j, rfl⟩ : ∃ I j, z = ix2 I j := ⟨z 0, z 1, eq_ix2 z⟩
  have hI : I.val < 24576 := I.isLt
  unfold val_main_v56
  by_cases h : I.val < 8192
  · refine (concatenate_pair_apply_left (t := S24576x3072) (s₁ := Cert.QkvRefIdeal.S8192x3072) (s₂ := Cert.QkvRefIdeal.S16384x3072) _ _ _ _ _ rfl (ix2 (⟨I.val, h⟩ : Fin 8192) j) fun a => ?_).trans (prompt_at x g mo w _ _)
    fin_cases a <;> rfl
  · refine (concatenate_pair_apply_right (t := S24576x3072) (s₁ := Cert.QkvRefIdeal.S8192x3072) (s₂ := Cert.QkvRefIdeal.S16384x3072) _ _ _ _ _ rfl rfl (ix2 (⟨I.val - 8192, by omega⟩ : Fin 16384) j) (fun a ha => ?_) ?_).trans
      ((sample_at x g mo w _ _).trans (congrArg (fun I => rows x g mo w (ix2 I j)) (Fin.ext (by show 8192 + (I.val - 8192) = I.val; omega))))
    · fin_cases a
      · exact absurd rfl ha
      · rfl
    · show I.val - 8192 + 8192 = I.val
      omega

end Reference

variable (m : (ℓ : Loc nD τ sig) → Buf (Elt Ideal) ℓ)

/-- An entry of a block of the streams, -/
theorem x_at (c : Dev nD) (t : Fin cfg0.N) (r : Fin 1024) (k : Fin 2048) (I : Fin 24576) (hI : I.val = t.val / 3 * 1024 + r.val) :
    (show FVec Ideal S1024x2048 .f32 from iblk m c 0 t) (ix2 r k) = (show FVec Ideal S24576x2048 .f32 from m ((c : Thread nD τ).loc main_arg0)) (ix2 I k) := by
  blk_simp [iblk]
  entry_read
  blk_point [idx t]

/-- of the norm's scales, -/
theorem g_at (c : Dev nD) (t : Fin cfg0.N) (k : Fin 2048) :
    (show FVec Ideal S1x2048 .f32 from iblk m c 1 t) (ix2 (0 : Fin 1) k) = (show FVec Ideal S2048 .f32 from m ((c : Thread nD τ).loc main_arg1)) (ix1 k) := by
  refine (show _ = (show FVec Ideal S1x2048 .f32 from V m c main_v1) (ix2 (0 : Fin 1) k) from ?_).trans ?_
  · blk_simp [iblk]
    blk_point [idx t]
  · entry_read
    pointwise

/-- of the conditions' shifts -/
theorem shift_at (c : Dev nD) (t : Fin cfg0.N) (k : Fin 2048) (C : Fin 8) (hC : C.val = condition (t.val / 3 * 1024)) :
    (show FVec Ideal S1x1x1x2048 .f32 from iblk m c 2 t) (ix4 (0 : Fin 1) (0 : Fin 1) (0 : Fin 1) k)
      = (show FVec Ideal S8x6x1x2048 .f32 from m ((c : Thread nD τ).loc main_arg2)) (ix4 C (0 : Fin 6) (0 : Fin 1) k) := by
  blk_simp [iblk]
  entry_read
  blk_point [idx t]

/-- and scales, -/
theorem scale_at (c : Dev nD) (t : Fin cfg0.N) (k : Fin 2048) (C : Fin 8) (hC : C.val = condition (t.val / 3 * 1024)) :
    (show FVec Ideal S1x1x1x2048 .f32 from iblk m c 3 t) (ix4 (0 : Fin 1) (0 : Fin 1) (0 : Fin 1) k)
      = (show FVec Ideal S8x6x1x2048 .f32 from m ((c : Thread nD τ).loc main_arg2)) (ix4 C (1 : Fin 6) (0 : Fin 1) k) := by
  blk_simp [iblk]
  entry_read
  blk_point [idx t]

/-- of the weights' columns -/
theorem w_at (c : Dev nD) (t : Fin cfg0.N) (k : Fin 2048) (d : Fin 1024) (J : Fin 3072) (hJ : J.val = t.val % 3 * 1024 + d.val) :
    (show FVec Ideal S2048x1024 .bf16 from iblk m c 4 t) (ix2 k d) = (show FVec Ideal S2048x3072 .f32 from m ((c : Thread nD τ).loc main_arg3)) (ix2 k J) := by
  refine (show _ = (show FVec Ideal S2048x3072 .bf16 from V m c main_v2) (ix2 k J) from ?_).trans ?_
  · blk_simp [iblk]
    blk_point [idx t]
  · entry_read
    pointwise

/-- and of the bias, which is zero. -/
theorem b_at (c : Dev nD) (t : Fin cfg0.N) (d : Fin 1024) (J : Fin 3072) (hJ : J.val = t.val % 3 * 1024 + d.val) :
    (show FVec Ideal S1x1024 .f32 from iblk m c 5 t) (ix2 (0 : Fin 1) d) = (0 : EReal) := by
  refine (show _ = (show FVec Ideal S1x3072 .f32 from V m c main_v0) (ix2 (0 : Fin 1) J) from ?_).trans ?_
  · blk_simp [iblk]
    blk_point [idx t]
  · entry_read
    pointwise

/-- At a point that computes them, the scratch holds the point's modulated rows. -/
theorem fresh (c : Dev nD) (t : Fin cfg0.N) (h0 : t.val % 3 = 0) (r : Fin 1024) (d : Fin 2048) (I : Fin 24576) (hI : I.val = t.val / 3 * 1024 + r.val) :
    (show FVec Ideal S1024x2048 .bf16 from (outsAt0 m c t.val t.isLt).2) (ix2 r d)
      = row (m ((c : Thread nD τ).loc main_arg0)) (m ((c : Thread nD τ).loc main_arg1)) (m ((c : Thread nD τ).loc main_arg2)) I d := by
  rw [outsAt0_A m c t h0]
  dsimp only
  rw [kept_A]
  have hC : condition I.val = condition (t.val / 3 * 1024) := by rw [hI]; exact condition_block _ _ r.isLt
  exact (kept_at _ _ _ _ r d).trans (modulated_congr (fun k => x_at m c t r k I hI) (fun k => g_at m c t k) (fun k => shift_at m c t k _ hC) (fun k => scale_at m c t k _ hC) d)

/-- After every point the scratch holds the modulated rows of the point's block of rows. -/
theorem kept (c : Dev nD) : ∀ (n : ℕ) (h : n < cfg0.N) (r : Fin 1024) (d : Fin 2048) (I : Fin 24576), I.val = n / 3 * 1024 + r.val →
    (show FVec Ideal S1024x2048 .bf16 from (outsAt0 m c n h).2) (ix2 r d)
      = row (m ((c : Thread nD τ).loc main_arg0)) (m ((c : Thread nD τ).loc main_arg1)) (m ((c : Thread nD τ).loc main_arg2)) I d
  | 0, h, r, d, I, hI => fresh m c ⟨0, h⟩ rfl r d I hI
  | n + 1, h, r, d, I, hI => by
    by_cases h0 : (n + 1) % 3 = 0
    · exact fresh m c ⟨n + 1, h⟩ h0 r d I hI
    · have e := outsAt0_B m c ⟨n + 1, h⟩ h0
      refine (congrFun (congrArg Prod.snd e) (ix2 r d)).trans ?_
      exact kept c n (Nat.lt_of_succ_lt h) r d I (by omega)

/-- What a point writes is the scratch's product with its columns. -/
theorem written (c : Dev nD) (t : Fin cfg0.N) : (outsAt0 m c t.val t.isLt).1 = k0_pay2 (outsAt0 m c t.val t.isLt).2 (iblk m c 4 t) (iblk m c 5 t) := by
  by_cases h0 : t.val % 3 = 0
  · rw [outsAt0_A m c t h0]
    dsimp only
    rw [kept_A, out_A]
  · rw [outsAt0_B m c t h0]
    dsimp only
    rw [out_B]
    rfl

/-- The array the region leaves. -/
theorem final (c : Dev nD) : (dats m 0 c).arrAt 6 (cfgs 0).N
    = rows (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  have ht : t.val < 72 := t.isLt
  have h0 : (y 0).val < 1024 := (y 0).isLt
  have h1 : (y 1).val < 1024 := (y 1).isLt
  blk_simp
  rw [after0_6, written]
  refine ((congrArg (k0_pay2 (outsAt0 m c t.val t.isLt).2 (iblk m c 4 t) (iblk m c 5 t)) (eq_ix2 y)).trans ((prod_at _ _ _ (y 0) (y 1)).trans ?_)).trans
    (show rows (m ((c : Thread nD τ).loc main_arg0)) (m ((c : Thread nD τ).loc main_arg1)) (m ((c : Thread nD τ).loc main_arg2)) (m ((c : Thread nD τ).loc main_arg3))
      (ix2 (⟨t.val / 3 * 1024 + (y 0).val, by omega⟩ : Fin 24576) (⟨t.val % 3 * 1024 + (y 1).val, by omega⟩ : Fin 3072)) = _ from ?_)
  · exact projected_congr (fun k => kept m c t.val t.isLt (y 0) k _ rfl) (fun k => w_at m c t k (y 1) _ rfl) (b_at m c t (y 1) (⟨t.val % 3 * 1024 + (y 1).val, by omega⟩ : Fin 3072) rfl)
  · blk_ext [idx t]

/-- The kernel's and the reference's runs, from equal arguments, end with equal results. -/
theorem algebraic : Cert.algebraic_QkvIdeal_QkvRefIdeal := by
  pair_intro
  · run_from Cert.QkvIdeal.Gen.run_main m g
  · run_from Cert.QkvRefIdeal.Value.run m' g'
    obtain ⟨e0, e1, e2, e3⟩ := hagree c
    refine (Cert.QkvRefIdeal.Read.val_main_v56_eq m' c).trans ?_
    rw [e0, e1, e2, e3]
    exact (ref_eq _ _ _ _).trans (final m c).symm

end Cert.QkvIdeal.Val
end
-- ==== Proof.Proj.HyIn.lean ====
/-
The projection of a mixer's normalised, modulated input with a bias: over the extended reals the array is the reference's.
-/
module

public import proofs.«01_k».proof.Proof.Gen.HyInIdeal.Frame
public import proofs.«01_k».proof.Proof.Gen.HyInIdeal
public import proofs.«01_k».proof.Proof.Gen.HyInRefIdeal
public import proofs.«01_k».proof.Proof.Gen.HyInRefIdeal.Run
public import proofs.«01_k».proof.Proof.Gen.HyInRefIdeal.Read
public import Idealize.ShloMosaic.Lib.Pipeline.ValueKit
public import Idealize.ShloMosaic.Lib.Claim
public import proofs.«01_k».proof.Proof.Proj.Rows
public import proofs.«01_k».proof.Defs

@[expose] public section

set_option maxRecDepth 16384

noncomputable section

namespace Cert.HyInIdeal.Val

open Cert.HyInIdeal Cert.HyInIdeal.Gen Cert.Proj Idealize.ShloMosaic Idealize.ShloMosaic.TcCoe Idealize.SL.Sem
open Idealize.ShloMosaic.Pipeline (Dat)

/-- The matrix offsets of the body's loads and stores are zero, -/
theorem hz : (![0, 0] : Fin 2 → Nat) = fun _ => 0 := funext fun a => by fin_cases a <;> rfl
/-- and those of its loads of a row of conditions. -/
theorem hz4 : (![0, 0, 0, 0] : Fin 4 → Nat) = fun _ => 0 := funext fun a => by fin_cases a <;> rfl

section Body

variable (c : Dev nD) (i : grid0.Coords) (a2 : Memref sig .tc .vmem S1024x2048 .f32) (h2 : a2.IsWhole) (a3 : Memref sig .tc .vmem S1x2048 .f32) (h3 : a3.IsWhole)
  (a4 : Memref sig .tc .vmem S1x1x1x2048 .f32) (h4 : a4.IsWhole) (a5 : Memref sig .tc .vmem S1x1x1x2048 .f32) (h5 : a5.IsWhole)
  (a6 : Memref sig .tc .vmem S2048x1024 .bf16) (h6 : a6.IsWhole) (a7 : Memref sig .tc .vmem S1x1024 .f32) (h7 : a7.IsWhole)
  (a8 : Memref sig .tc .vmem S1024x1024 .bf16) (h8 : a8.IsWhole) (a9 : Memref sig .tc .vmem S1024x2048 .bf16) (h9 : a9.IsWhole)
  (x0 : Vec Ideal S1024x2048 .f32) (x1 : Vec Ideal S1x2048 .f32) (x2 x3 : Vec Ideal S1x1x1x2048 .f32) (x4 : Vec Ideal S2048x1024 .bf16) (x5 : Vec Ideal S1x1024 .f32)
  (xs : Vec Ideal S1024x2048 .bf16)

/-- At the first block of columns the body leaves the modulated rows in its scratch -/
theorem kept_A (hc : cond0_0 i) : sout0_A_0 c i a2 h2 a3 h3 a4 h4 a5 h5 a6 h6 a7 h7 a8 h8 a9 h9 hc x0 x1 x2 x3 x4 x5 = k0_pay1 x0 x1 x2 x3 := by
  unfold sout0_A_0
  rw [View.read_writes_eq_canon _ _ _ (scover0_A_0 c i a2 h2 a3 h3 a4 h4 a5 h5 a6 h6 a7 h7 a8 h8 a9 h9 hc x0 x1 x2 x3 x4 x5)]
  unfold kernelRun0_A
  dsimp only
  sl_unfold_words
  rw [View.canon_unit_zero (S := S1024x2048) hz]
  simp only [View.readAt_eq_ld, h2.read_unread, h3.read_unread, h4.read_unread, h5.read_unread, View.ld_unit_zero (S := S1024x2048) hz, View.ld_unit_zero (S := S1x2048) hz,
    View.ld_unit_zero (S := S1x1x1x2048) hz4]

/-- and writes their product with its columns; -/
theorem out_A (hc : cond0_0 i) : out0_A_6 c i a2 h2 a3 h3 a4 h4 a5 h5 a6 h6 a7 h7 a8 h8 a9 h9 hc x0 x1 x2 x3 x4 x5 = k0_pay2 (k0_pay1 x0 x1 x2 x3) x4 x5 := by
  unfold out0_A_6
  rw [View.read_writes_eq_canon _ _ _ (cover0_A_6 c i a2 h2 a3 h3 a4 h4 a5 h5 a6 h6 a7 h7 a8 h8 a9 h9 hc x0 x1 x2 x3 x4 x5)]
  unfold kernelRun0_A
  dsimp only
  sl_unfold_words
  rw [View.canon_unit_zero (S := S1024x1024) hz]
  simp only [View.readCov_unit_zero (S := S1024x2048) _ hz, View.readAt_eq_ld, h2.read_unread, h3.read_unread, h4.read_unread, h5.read_unread, h6.read_unread, h7.read_unread,
    View.ld_unit_zero (S := S1024x2048) hz, View.ld_unit_zero (S := S1x2048) hz, View.ld_unit_zero (S := S1x1x1x2048) hz4,
    View.ld_unit_zero (S := S2048x1024) hz, View.ld_unit_zero (S := S1x1024) hz]

/-- at the others it writes the scratch's product with its columns. -/
theorem out_B (hc : ¬cond0_0 i) : out0_B_6 c i a2 h2 a3 h3 a4 h4 a5 h5 a6 h6 a7 h7 a8 h8 a9 h9 hc x0 x1 x2 x3 x4 x5 xs = k0_pay2 xs x4 x5 := by
  unfold out0_B_6
  rw [View.read_writes_eq_canon _ _ _ (cover0_B_6 c i a2 h2 a3 h3 a4 h4 a5 h5 a6 h6 a7 h7 a8 h8 a9 h9 hc x0 x1 x2 x3 x4 x5 xs)]
  unfold kernelRun0_B
  dsimp only
  sl_unfold_words
  rw [View.canon_unit_zero (S := S1024x1024) hz]
  simp only [View.readAt_eq_ld, h6.read_unread, h7.read_unread, h9.read_unread,
    View.ld_unit_zero (S := S1024x2048) hz, View.ld_unit_zero (S := S2048x1024) hz, View.ld_unit_zero (S := S1x1024) hz]

/-- An entry of the modulated rows, -/
theorem kept_at (r : Fin 1024) (d : Fin 2048) : k0_pay1 x0 x1 x2 x3 (ix2 r d)
    = modulated (fun k => x0 (ix2 r k)) (fun k => x1 (ix2 (0 : Fin 1) k)) (fun k => x2 (ix4 (0 : Fin 1) (0 : Fin 1) (0 : Fin 1) k)) (fun k => x3 (ix4 (0 : Fin 1) (0 : Fin 1) (0 : Fin 1) k)) d := by
  pointwise [k0_pay1]
  rfl

/-- and of the product. -/
theorem prod_at (r d : Fin 1024) : k0_pay2 xs x4 x5 (ix2 r d) = projected (fun k => xs (ix2 r k)) (fun k => x4 (ix2 k d)) (x5 (ix2 (0 : Fin 1) d)) := by
  pointwise [k0_pay2]
  rfl

end Body

/-- Which block each window has at a grid point. -/
theorem idx : ∀ t : Fin cfg0.N, win0_0.index t = ![t.val / 6, 0] ∧ win0_1.index t = ![0, 0] ∧ win0_2.index t = ![condition (t.val / 6 * 1024), 0, 0, 0]
    ∧ win0_3.index t = ![condition (t.val / 6 * 1024), 1, 0, 0] ∧ win0_4.index t = ![0, t.val % 6] ∧ win0_5.index t = ![0, t.val % 6]
    ∧ win0_6.index t = ![t.val / 6, t.val % 6] :=
  (by decide +kernel : ∀ t : Fin grid0.N, _)

/-- A row of the stacked streams, normalised, scaled, and modulated by its condition. -/
def row (x : FVec Ideal S24576x2048 .f32) (g : FVec Ideal S2048 .f32) (mo : FVec Ideal S8x6x1x2048 .f32) (I : Fin 24576) : Fin 2048 → EReal :=
  modulated (fun k => x (ix2 I k)) (fun k => g (ix1 k)) (fun k => mo (ix4 (⟨condition I.val, condition_lt _ I.isLt⟩ : Fin 8) (0 : Fin 6) (0 : Fin 1) k))
    (fun k => mo (ix4 (⟨condition I.val, condition_lt _ I.isLt⟩ : Fin 8) (1 : Fin 6) (0 : Fin 1) k))

/-- Every row's product with every column. -/
def rows (x : FVec Ideal S24576x2048 .f32) (g : FVec Ideal S2048 .f32) (mo : FVec Ideal S8x6x1x2048 .f32) (w : FVec Ideal S2048x6144 .f32) (b : FVec Ideal S6144 .f32) :
    FVec Ideal S24576x6144 .bf16 :=
  fun y => projected (row x g mo (y 0)) (fun k => w (ix2 k (y 1))) (b (ix1 (y 1)))

section Reference

open Cert.HyInRefIdeal.Read

variable (x : FVec Ideal S24576x2048 .f32) (g : FVec Ideal S2048 .f32) (mo : FVec Ideal S8x6x1x2048 .f32) (w : FVec Ideal S2048x6144 .f32) (b : FVec Ideal S6144 .f32)

/-- The reference's modulated rows of the context, -/
theorem prompt_row (b : Fin 32) (s : Fin 256) (d : Fin 2048) :
    val_main_v32 (F := Ideal) x g mo (ix3 b s d) = row x g mo (⟨b.val * 256 + s.val, by omega⟩ : Fin 24576) d := by
  have hc : condition (b.val * 256 + s.val) = 0 := by unfold condition; split <;> omega
  pointwise [val_main_v32, val_main_v31, val_main_v30, val_main_v29, val_main_v28, val_main_v27, val_main_v26, val_main_v25, val_main_cst_2, val_main_v24, val_main_v23, val_main_v22, val_main_v21, val_main_v20, val_main_v19, val_main_v18, val_main_v17, val_main_cst_1, val_main_v16, val_main_v15, val_main_cst_0, val_main_v14, val_main_v13, val_main_cst, val_main_v12, val_main_v9, val_main_v8, val_main_v5, val_main_v4, val_main_v1, val_main_v0]
  exact congrArg (fun C : Fin 8 => modulated (fun k => x (ix2 _ k)) (fun k => g (ix1 k)) (fun k => mo (ix4 C (0 : Fin 6) (0 : Fin 1) k)) (fun k => mo (ix4 C (1 : Fin 6) (0 : Fin 1) k)) d) (Fin.ext hc.symm)

/-- and of the samples. -/
theorem sample_row (b : Fin 4) (s : Fin 4096) (d : Fin 2048) :
    val_main_v51 (F := Ideal) x g mo (ix3 b s d) = row x g mo (⟨8192 + (b.val * 4096 + s.val), by omega⟩ : Fin 24576) d := by
  have hc : condition (8192 + (b.val * 4096 + s.val)) = 1 + b.val := by unfold condition; split <;> omega
  pointwise [val_main_v51, val_main_v50, val_main_v49, val_main_v48, val_main_v47, val_main_v46, val_main_cst_6, val_main_v45, val_main_v44, val_main_v43, val_main_v42, val_main_v41, val_main_v40, val_main_v39, val_main_v38, val_main_cst_5, val_main_v37, val_main_v36, val_main_cst_4, val_main_v35, val_main_v34, val_main_cst_3, val_main_v33, val_main_v11, val_main_v10, val_main_v7, val_main_v6, val_main_v3, val_main_v2]
  exact congrArg (fun C : Fin 8 => modulated (fun k => x (ix2 _ k)) (fun k => g (ix1 k)) (fun k => mo (ix4 C (0 : Fin 6) (0 : Fin 1) k)) (fun k => mo (ix4 C (1 : Fin 6) (0 : Fin 1) k)) d) (Fin.ext hc.symm)

/-- The context's rows of the result, -/
theorem prompt_at (r : Fin 8192) (j : Fin 6144) :
    val_main_v60 (F := Ideal) x g mo w b (ix2 r j) = rows x g mo w b (ix2 (⟨r.val, by omega⟩ : Fin 24576) j) := by
  have e : (⟨r.val / 256 * 256 + r.val % 256, by omega⟩ : Fin 24576) = ⟨r.val, by omega⟩ := Fin.ext (by show r.val / 256 * 256 + r.val % 256 = r.val; omega)
  refine (show _ = projected (fun k => val_main_v32 (F := Ideal) x g mo (ix3 (⟨r.val / 256, by omega⟩ : Fin 32) (⟨r.val % 256, by omega⟩ : Fin 256) k)) (fun k => w (ix2 k j)) (b (ix1 j)) from ?_).trans ?_
  · pointwise [val_main_v60, val_main_v55, val_main_v54, val_main_v53, val_main_v52]
    rfl
  · rw [funext fun k => prompt_row x g mo _ _ k]
    exact congrArg (fun I => projected (row x g mo I) (fun k => w (ix2 k j)) (b (ix1 j))) e

/-- and the samples'. -/
theorem sample_at (r : Fin 16384) (j : Fin 6144) :
    val_main_v61 (F := Ideal) x g mo w b (ix2 r j) = rows x g mo w b (ix2 (⟨8192 + r.val, by omega⟩ : Fin 24576) j) := by
  have e : (⟨8192 + (r.val / 4096 * 4096 + r.val % 4096), by omega⟩ : Fin 24576) = ⟨8192 + r.val, by omega⟩ := Fin.ext (by show 8192 + (r.val / 4096 * 4096 + r.val % 4096) = 8192 + r.val; omega)
  refine (show _ = projected (fun k => val_main_v51 (F := Ideal) x g mo (ix3 (⟨r.val / 4096, by omega⟩ : Fin 4) (⟨r.val % 4096, by omega⟩ : Fin 4096) k)) (fun k => w (ix2 k j)) (b (ix1 j)) from ?_).trans ?_
  · pointwise [val_main_v61, val_main_v59, val_main_v58, val_main_v57, val_main_v56]
    rfl
  · rw [funext fun k => sample_row x g mo _ _ k]
    exact congrArg (fun I => projected (row x g mo I) (fun k => w (ix2 k j)) (b (ix1 j))) e

/-- The reference's result. -/
theorem ref_eq : val_main_v63 (F := Ideal) x g mo w b = rows x g mo w b := by
  funext z
  obtain ⟨I, j, rfl⟩ : ∃ I j, z = ix2 I j := ⟨z 0, z 1, eq_ix2 z⟩
  have hI : I.val < 24576 := I.isLt
  refine (show _ = val_main_v62 (F := Ideal) x g mo w b (ix2 I j) from by pointwise [val_main_v63]).trans ?_
  unfold val_main_v62
  by_cases h : I.val < 8192
  · refine (concatenate_pair_apply_left (t := S24576x6144) (s₁ := Cert.HyInRefIdeal.S8192x6144) (s₂ := Cert.HyInRefIdeal.S16384x6144) _ _ _ _ _ rfl (ix2 (⟨I.val, h⟩ : Fin 8192) j) fun a => ?_).trans (prompt_at x g mo w b _ _)
    fin_cases a <;> rfl
  · refine (concatenate_pair_apply_right (t := S24576x6144) (s₁ := Cert.HyInRefIdeal.S8192x6144) (s₂ := Cert.HyInRefIdeal.S16384x6144) _ _ _ _ _ rfl rfl (ix2 (⟨I.val - 8192, by omega⟩ : Fin 16384) j) (fun a ha => ?_) ?_).trans
      ((sample_at x g mo w b _ _).trans (congrArg (fun I => rows x g mo w b (ix2 I j)) (Fin.ext (by show 8192 + (I.val - 8192) = I.val; omega))))
    · fin_cases a
      · exact absurd rfl ha
      · rfl
    · show I.val - 8192 + 8192 = I.val
      omega

end Reference

variable (m : (ℓ : Loc nD τ sig) → Buf (Elt Ideal) ℓ)

/-- An entry of a block of the streams, -/
theorem x_at (c : Dev nD) (t : Fin cfg0.N) (r : Fin 1024) (k : Fin 2048) (I : Fin 24576) (hI : I.val = t.val / 6 * 1024 + r.val) :
    (show FVec Ideal S1024x2048 .f32 from iblk m c 0 t) (ix2 r k) = (show FVec Ideal S24576x2048 .f32 from m ((c : Thread nD τ).loc main_arg0)) (ix2 I k) := by
  blk_simp [iblk]
  entry_read
  blk_point [idx t]

/-- of the norm's scales, -/
theorem g_at (c : Dev nD) (t : Fin cfg0.N) (k : Fin 2048) :
    (show FVec Ideal S1x2048 .f32 from iblk m c 1 t) (ix2 (0 : Fin 1) k) = (show FVec Ideal S2048 .f32 from m ((c : Thread nD τ).loc main_arg1)) (ix1 k) := by
  refine (show _ = (show FVec Ideal S1x2048 .f32 from V m c main_v0) (ix2 (0 : Fin 1) k) from ?_).trans ?_
  · blk_simp [iblk]
    blk_point [idx t]
  · entry_read
    pointwise

/-- of the conditions' shifts -/
theorem shift_at (c : Dev nD) (t : Fin cfg0.N) (k : Fin 2048) (C : Fin 8) (hC : C.val = condition (t.val / 6 * 1024)) :
    (show FVec Ideal S1x1x1x2048 .f32 from iblk m c 2 t) (ix4 (0 : Fin 1) (0 : Fin 1) (0 : Fin 1) k)
      = (show FVec Ideal S8x6x1x2048 .f32 from m ((c : Thread nD τ).loc main_arg2)) (ix4 C (0 : Fin 6) (0 : Fin 1) k) := by
  blk_simp [iblk]
  entry_read
  blk_point [idx t]

/-- and scales, -/
theorem scale_at (c : Dev nD) (t : Fin cfg0.N) (k : Fin 2048) (C : Fin 8) (hC : C.val = condition (t.val / 6 * 1024)) :
    (show FVec Ideal S1x1x1x2048 .f32 from iblk m c 3 t) (ix4 (0 : Fin 1) (0 : Fin 1) (0 : Fin 1) k)
      = (show FVec Ideal S8x6x1x2048 .f32 from m ((c : Thread nD τ).loc main_arg2)) (ix4 C (1 : Fin 6) (0 : Fin 1) k) := by
  blk_simp [iblk]
  entry_read
  blk_point [idx t]

/-- of the weights' columns -/
theorem w_at (c : Dev nD) (t : Fin cfg0.N) (k : Fin 2048) (d : Fin 1024) (J : Fin 6144) (hJ : J.val = t.val % 6 * 1024 + d.val) :
    (show FVec Ideal S2048x1024 .bf16 from iblk m c 4 t) (ix2 k d) = (show FVec Ideal S2048x6144 .f32 from m ((c : Thread nD τ).loc main_arg3)) (ix2 k J) := by
  refine (show _ = (show FVec Ideal S2048x6144 .bf16 from V m c main_v1) (ix2 k J) from ?_).trans ?_
  · blk_simp [iblk]
    blk_point [idx t]
  · entry_read
    pointwise

/-- and of the bias. -/
theorem b_at (c : Dev nD) (t : Fin cfg0.N) (d : Fin 1024) (J : Fin 6144) (hJ : J.val = t.val % 6 * 1024 + d.val) :
    (show FVec Ideal S1x1024 .f32 from iblk m c 5 t) (ix2 (0 : Fin 1) d) = (show FVec Ideal S6144 .f32 from m ((c : Thread nD τ).loc main_arg4)) (ix1 J) := by
  refine (show _ = (show FVec Ideal S1x6144 .f32 from V m c main_v2) (ix2 (0 : Fin 1) J) from ?_).trans ?_
  · blk_simp [iblk]
    blk_point [idx t]
  · entry_read
    pointwise

/-- At a point that computes them, the scratch holds the point's modulated rows. -/
theorem fresh (c : Dev nD) (t : Fin cfg0.N) (h0 : t.val % 6 = 0) (r : Fin 1024) (d : Fin 2048) (I : Fin 24576) (hI : I.val = t.val / 6 * 1024 + r.val) :
    (show FVec Ideal S1024x2048 .bf16 from (outsAt0 m c t.val t.isLt).2) (ix2 r d)
      = row (m ((c : Thread nD τ).loc main_arg0)) (m ((c : Thread nD τ).loc main_arg1)) (m ((c : Thread nD τ).loc main_arg2)) I d := by
  rw [outsAt0_A m c t h0]
  dsimp only
  rw [kept_A]
  have hC : condition I.val = condition (t.val / 6 * 1024) := by rw [hI]; exact condition_block _ _ r.isLt
  exact (kept_at _ _ _ _ r d).trans (modulated_congr (fun k => x_at m c t r k I hI) (fun k => g_at m c t k) (fun k => shift_at m c t k _ hC) (fun k => scale_at m c t k _ hC) d)

/-- After every point the scratch holds the modulated rows of the point's block of rows. -/
theorem kept (c : Dev nD) : ∀ (n : ℕ) (h : n < cfg0.N) (r : Fin 1024) (d : Fin 2048) (I : Fin 24576), I.val = n / 6 * 1024 + r.val →
    (show FVec Ideal S1024x2048 .bf16 from (outsAt0 m c n h).2) (ix2 r d)
      = row (m ((c : Thread nD τ).loc main_arg0)) (m ((c : Thread nD τ).loc main_arg1)) (m ((c : Thread nD τ).loc main_arg2)) I d
  | 0, h, r, d, I, hI => fresh m c ⟨0, h⟩ rfl r d I hI
  | n + 1, h, r, d, I, hI => by
    by_cases h0 : (n + 1) % 6 = 0
    · exact fresh m c ⟨n + 1, h⟩ h0 r d I hI
    · have e := outsAt0_B m c ⟨n + 1, h⟩ h0
      refine (congrFun (congrArg Prod.snd e) (ix2 r d)).trans ?_
      exact kept c n (Nat.lt_of_succ_lt h) r d I (by omega)

/-- What a point writes is the scratch's product with its columns. -/
theorem written (c : Dev nD) (t : Fin cfg0.N) : (outsAt0 m c t.val t.isLt).1 = k0_pay2 (outsAt0 m c t.val t.isLt).2 (iblk m c 4 t) (iblk m c 5 t) := by
  by_cases h0 : t.val % 6 = 0
  · rw [outsAt0_A m c t h0]
    dsimp only
    rw [kept_A, out_A]
  · rw [outsAt0_B m c t h0]
    dsimp only
    rw [out_B]
    rfl

/-- The array the region leaves. -/
theorem final (c : Dev nD) : (dats m 0 c).arrAt 6 (cfgs 0).N
    = rows (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  have ht : t.val < 144 := t.isLt
  have h0 : (y 0).val < 1024 := (y 0).isLt
  have h1 : (y 1).val < 1024 := (y 1).isLt
  blk_simp
  rw [after0_6, written]
  refine ((congrArg (k0_pay2 (outsAt0 m c t.val t.isLt).2 (iblk m c 4 t) (iblk m c 5 t)) (eq_ix2 y)).trans ((prod_at _ _ _ (y 0) (y 1)).trans ?_)).trans
    (show rows (m ((c : Thread nD τ).loc main_arg0)) (m ((c : Thread nD τ).loc main_arg1)) (m ((c : Thread nD τ).loc main_arg2)) (m ((c : Thread nD τ).loc main_arg3)) (m ((c : Thread nD τ).loc main_arg4))
      (ix2 (⟨t.val / 6 * 1024 + (y 0).val, by omega⟩ : Fin 24576) (⟨t.val % 6 * 1024 + (y 1).val, by omega⟩ : Fin 6144)) = _ from ?_)
  · exact projected_congr (fun k => kept m c t.val t.isLt (y 0) k _ rfl) (fun k => w_at m c t k (y 1) _ rfl) (b_at m c t (y 1) (⟨t.val % 6 * 1024 + (y 1).val, by omega⟩ : Fin 6144) rfl)
  · blk_ext [idx t]

/-- The kernel's and the reference's runs, from equal arguments, end with equal results. -/
theorem algebraic : Cert.algebraic_HyInIdeal_HyInRefIdeal := by
  pair_intro
  · run_from Cert.HyInIdeal.Gen.run_main m g
  · run_from Cert.HyInRefIdeal.Value.run m' g'
    obtain ⟨e0, e1, e2, e3, e4⟩ := hagree c
    refine (Cert.HyInRefIdeal.Read.val_main_v63_eq m' c).trans ?_
    rw [e0, e1, e2, e3, e4]
    exact (ref_eq _ _ _ _ _).trans (final m c).symm

end Cert.HyInIdeal.Val
end
-- ==== Proof.Proj.Out.lean ====
/-
The projection out of a mixer, added to its input through the gate: over the extended reals its two streams are the reference's.
-/
module

public import proofs.«01_k».proof.Proof.Gen.OutIdeal.Frame
public import proofs.«01_k».proof.Proof.Gen.OutIdeal.Run
public import proofs.«01_k».proof.Proof.Gen.OutIdeal
public import proofs.«01_k».proof.Proof.Gen.OutRefIdeal
public import proofs.«01_k».proof.Proof.Gen.OutRefIdeal.Run
public import proofs.«01_k».proof.Proof.Gen.OutRefIdeal.Read
public import Idealize.ShloMosaic.Lib.Pipeline.ValueKit
public import Idealize.ShloMosaic.Lib.Claim
public import proofs.«01_k».proof.Proof.Proj.Rows
public import proofs.«01_k».proof.Defs

@[expose] public section

set_option maxRecDepth 16384

noncomputable section

namespace Cert.OutIdeal.Val

open Cert.OutIdeal Cert.OutIdeal.Gen Cert.Proj Idealize.ShloMosaic Idealize.ShloMosaic.TcCoe Idealize.SL.Sem
open Idealize.ShloMosaic.Pipeline (Dat)

/-- An entry plus the gate times a row's product with a column and the column's bias. -/
def added (x g : EReal) (z w : Fin 2048 → EReal) (b : EReal) : EReal := x + g * ((∑ k, z k * w k) + b)

/-- Equal parts give equal entries. -/
theorem added_congr {x x' g g' b b' : EReal} {z z' w w' : Fin 2048 → EReal} (hx : x = x') (hg : g = g') (hz : ∀ k, z k = z' k) (hw : ∀ k, w k = w' k) (hb : b = b') :
    added x g z w b = added x' g' z' w' b' := by
  rw [hx, hg, funext hz, funext hw, hb]

/-- An entry of the block a grid point writes. -/
theorem out_at (Z : Vec Ideal S1024x2048 .bf16) (W : Vec Ideal S2048x1024 .bf16) (B : Vec Ideal S1x1024 .f32) (X : Vec Ideal S1024x1024 .f32) (G : Vec Ideal S1x1x1x1024 .f32)
    (i : Fin 1024) (d : Fin 1024) :
    out0_5 Z W B X G (ix2 i d) = added (X (ix2 i d)) (G (ix4 (0 : Fin 1) (0 : Fin 1) (0 : Fin 1) d)) (fun k => Z (ix2 i k)) (fun k => W (ix2 k d)) (B (ix2 (0 : Fin 1) d)) := by
  unfold out0_5
  canon_tiles x h
  all_goals
    idx_vars x
    obtain rfl : i = x0 := Fin.ext h0
    obtain rfl : d = x1 := Fin.ext h1
    pointwise [k0_pay1]
    rfl

/-- Which block each window has at a grid point. -/
theorem idx : ∀ t : Fin cfg0.N, win0_0.index t = ![t.val / 2, 0] ∧ win0_1.index t = ![0, t.val % 2] ∧ win0_2.index t = ![0, t.val % 2]
    ∧ win0_3.index t = ![t.val / 2, t.val % 2] ∧ win0_4.index t = ![condition (t.val / 2 * 1024), 2, 0, t.val % 2] ∧ win0_5.index t = ![t.val / 2, t.val % 2] :=
  (by decide +kernel : ∀ t : Fin grid0.N, _)

/-- The stacked streams' entries, each with its condition's gate. -/
def rows (z : FVec Ideal S24576x2048 .bf16) (w : FVec Ideal S2048x2048 .f32) (b : FVec Ideal S2048 .f32) (x : FVec Ideal S24576x2048 .f32) (mo : FVec Ideal S8x6x1x2048 .f32) :
    FVec Ideal S24576x2048 .f32 :=
  fun y => added (x y) (mo (ix4 (⟨condition (y 0).val, condition_lt _ (y 0).isLt⟩ : Fin 8) (2 : Fin 6) (0 : Fin 1) (y 1))) (fun k => z (ix2 (y 0) k)) (fun k => w (ix2 k (y 1))) (b (ix1 (y 1)))

open Cert.OutRefIdeal.Read in
/-- The reference's first result, entry by entry, -/
theorem prompt_at (z : FVec Ideal S24576x2048 .bf16) (w : FVec Ideal S2048x2048 .f32) (b : FVec Ideal S2048 .f32) (x : FVec Ideal S24576x2048 .f32) (mo : FVec Ideal S8x6x1x2048 .f32)
    (i : Fin 32) (s : Fin 256) (d : Fin 2048) :
    val_main_v20 (F := Ideal) z w b x mo (ix3 i s d) = rows z w b x mo (ix2 (⟨i.val * 256 + s.val, by omega⟩ : Fin 24576) d) := by
  have hc : condition (i.val * 256 + s.val) = 0 := by unfold condition; split <;> omega
  pointwise [val_main_v20, val_main_v19, val_main_v18, val_main_v17, val_main_v16, val_main_v15, val_main_v14, val_main_v13, val_main_v10, val_main_v9, val_main_v6, val_main_v5, val_main_v2, val_main_v1, val_main_v0, rows]
  exact congrArg (fun C : Fin 8 => added (x (ix2 _ d)) (mo (ix4 C (2 : Fin 6) (0 : Fin 1) d)) (fun k => z (ix2 _ k)) (fun k => w (ix2 k d)) (b (ix1 d))) (Fin.ext hc.symm)

open Cert.OutRefIdeal.Read in
/-- and its second. -/
theorem sample_at (z : FVec Ideal S24576x2048 .bf16) (w : FVec Ideal S2048x2048 .f32) (b : FVec Ideal S2048 .f32) (x : FVec Ideal S24576x2048 .f32) (mo : FVec Ideal S8x6x1x2048 .f32)
    (i : Fin 4) (s : Fin 4096) (d : Fin 2048) :
    val_main_v27 (F := Ideal) z w b x mo (ix3 i s d) = rows z w b x mo (ix2 (⟨8192 + (i.val * 4096 + s.val), by omega⟩ : Fin 24576) d) := by
  have hc : condition (8192 + (i.val * 4096 + s.val)) = 1 + i.val := by unfold condition; split <;> omega
  pointwise [val_main_v27, val_main_v26, val_main_v25, val_main_v24, val_main_v23, val_main_v22, val_main_v21, val_main_v12, val_main_v11, val_main_v8, val_main_v7, val_main_v4, val_main_v3, val_main_v0, rows]
  exact congrArg (fun C : Fin 8 => added (x (ix2 _ d)) (mo (ix4 C (2 : Fin 6) (0 : Fin 1) d)) (fun k => z (ix2 _ k)) (fun k => w (ix2 k d)) (b (ix1 d))) (Fin.ext hc.symm)

variable (m : (ℓ : Loc nD τ sig) → Buf (Elt Ideal) ℓ)

/-- An entry of a block of the mixer's rows, -/
theorem z_at (c : Dev nD) (t : Fin cfg0.N) (i : Fin 1024) (k : Fin 2048) (I : Fin 24576) (hI : I.val = t.val / 2 * 1024 + i.val) :
    (show FVec Ideal S1024x2048 .bf16 from iblk m c 0 t) (ix2 i k) = (show FVec Ideal S24576x2048 .bf16 from m ((c : Thread nD τ).loc main_arg0)) (ix2 I k) := by
  blk_simp [iblk]
  entry_read
  blk_point [idx t]

/-- of the weights' columns, -/
theorem w_at (c : Dev nD) (t : Fin cfg0.N) (k : Fin 2048) (d : Fin 1024) (J : Fin 2048) (hJ : J.val = t.val % 2 * 1024 + d.val) :
    (show FVec Ideal S2048x1024 .bf16 from iblk m c 1 t) (ix2 k d) = (show FVec Ideal S2048x2048 .f32 from m ((c : Thread nD τ).loc main_arg1)) (ix2 k J) := by
  refine (show _ = (show FVec Ideal S2048x2048 .bf16 from V m c main_v0) (ix2 k J) from ?_).trans ?_
  · blk_simp [iblk]
    blk_point [idx t]
  · entry_read
    simp only [hostOps0, List.flatten_cons, List.flatten_nil, List.append_nil, List.cons_append, List.nil_append]
    after_results
    pointwise

/-- of the bias, -/
theorem b_at (c : Dev nD) (t : Fin cfg0.N) (d : Fin 1024) (J : Fin 2048) (hJ : J.val = t.val % 2 * 1024 + d.val) :
    (show FVec Ideal S1x1024 .f32 from iblk m c 2 t) (ix2 (0 : Fin 1) d) = (show FVec Ideal S2048 .f32 from m ((c : Thread nD τ).loc main_arg2)) (ix1 J) := by
  refine (show _ = (show FVec Ideal S1x2048 .f32 from V m c main_v1) (ix2 (0 : Fin 1) J) from ?_).trans ?_
  · blk_simp [iblk]
    blk_point [idx t]
  · entry_read
    simp only [hostOps0, List.flatten_cons, List.flatten_nil, List.append_nil, List.cons_append, List.nil_append]
    after_results
    pointwise

/-- of the streams -/
theorem x_at (c : Dev nD) (t : Fin cfg0.N) (i d : Fin 1024) (I : Fin 24576) (hI : I.val = t.val / 2 * 1024 + i.val) (J : Fin 2048) (hJ : J.val = t.val % 2 * 1024 + d.val) :
    (show FVec Ideal S1024x1024 .f32 from iblk m c 3 t) (ix2 i d) = (show FVec Ideal S24576x2048 .f32 from m ((c : Thread nD τ).loc main_arg3)) (ix2 I J) := by
  blk_simp [iblk]
  entry_read
  blk_point [idx t]

/-- and of the gates. -/
theorem gate_at (c : Dev nD) (t : Fin cfg0.N) (d : Fin 1024) (C : Fin 8) (hC : C.val = condition (t.val / 2 * 1024)) (J : Fin 2048) (hJ : J.val = t.val % 2 * 1024 + d.val) :
    (show FVec Ideal S1x1x1x1024 .f32 from iblk m c 4 t) (ix4 (0 : Fin 1) (0 : Fin 1) (0 : Fin 1) d)
      = (show FVec Ideal S8x6x1x2048 .f32 from m ((c : Thread nD τ).loc main_arg4)) (ix4 C (2 : Fin 6) (0 : Fin 1) J) := by
  blk_simp [iblk]
  entry_read
  blk_point [idx t]

/-- The region's result. -/
theorem final (c : Dev nD) : Cert.OutIdeal.Value.reg_main_v2 m c
    = rows (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  have ht : t.val < 48 := t.isLt
  have h0 : (y 0).val < 1024 := (y 0).isLt
  have h1 : (y 1).val < 1024 := (y 1).isLt
  blk_simp
  rw [after0_5]
  refine ((congrArg (out0_5 (iblk m c 0 t) (iblk m c 1 t) (iblk m c 2 t) (iblk m c 3 t) (iblk m c 4 t)) (eq_ix2 y)).trans ((out_at _ _ _ _ _ (y 0) (y 1)).trans ?_)).trans
    (show rows (m ((c : Thread nD τ).loc main_arg0)) (m ((c : Thread nD τ).loc main_arg1)) (m ((c : Thread nD τ).loc main_arg2)) (m ((c : Thread nD τ).loc main_arg3)) (m ((c : Thread nD τ).loc main_arg4))
      (ix2 (⟨t.val / 2 * 1024 + (y 0).val, by omega⟩ : Fin 24576) (⟨t.val % 2 * 1024 + (y 1).val, by omega⟩ : Fin 2048)) = _ from ?_)
  · exact added_congr (x_at m c t (y 0) (y 1) _ rfl _ rfl) (gate_at m c t (y 1) _ (condition_block _ _ h0) _ rfl) (fun k => z_at m c t (y 0) k _ rfl)
      (fun k => w_at m c t k (y 1) _ rfl) (b_at m c t (y 1) _ rfl)
  · blk_ext [idx t]

/-- The first result, cut from the stacked streams, -/
theorem prompt (c : Dev nD) : Cert.OutRefIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = shapeCast S32x256x2048 (extractStridedSlice S8192x2048 ![0, 0] (Cert.OutIdeal.Value.reg_main_v2 m c) slices_S24576x2048_S8192x2048_0_0) shapeCasts_S8192x2048_S32x256x2048 := by
  rw [final]
  funext z
  obtain ⟨b, s, d, rfl⟩ : ∃ b s d, z = ix3 b s d := ⟨z 0, z 1, z 2, eq_ix3 z⟩
  rw [prompt_at]
  pointwise

/-- and the second. -/
theorem sample (c : Dev nD) : Cert.OutRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = shapeCast S4x4096x2048 (extractStridedSlice S16384x2048 ![8192, 0] (Cert.OutIdeal.Value.reg_main_v2 m c) slices_S24576x2048_S16384x2048_8192_0) shapeCasts_S16384x2048_S4x4096x2048 := by
  rw [final]
  funext z
  obtain ⟨b, s, d, rfl⟩ : ∃ b s d, z = ix3 b s d := ⟨z 0, z 1, z 2, eq_ix3 z⟩
  rw [sample_at]
  pointwise

/-- The kernel's and the reference's runs, from equal arguments, end with equal results. -/
theorem algebraic : Cert.algebraic_OutIdeal_OutRefIdeal := by
  pair_intro
  · run_from Cert.OutIdeal.Value.run m g
  · run_from Cert.OutRefIdeal.Value.run m' g'
    · exact (Cert.OutRefIdeal.Read.val_main_v20_eq (F := Ideal) _ _ _ _ _).symm.trans (prompt m c)
    · exact (Cert.OutRefIdeal.Read.val_main_v27_eq (F := Ideal) _ _ _ _ _).symm.trans (sample m c)

end Cert.OutIdeal.Val
end
-- ==== Proof.Attn.Softmax.lean ====
/- Softmax arithmetic on the extended reals: a row of attention as a kernel computes it (weights from a maximum that a large negative start may
   raise, the weighted values summed first and divided by the normaliser once) and as the mathematics states it (weights from the row's own
   maximum, each divided by the normaliser, then the weighted values summed). -/
module

public import Idealize.ShloMosaic.Lib.Pointwise

@[expose] public section

set_option maxRecDepth 16384

noncomputable section

namespace Cert.Attn

open Idealize.ShloMosaic

/-- A finite extended real. -/
def Fin' (x : EReal) : Prop := ∃ r : ℝ, x = (r : EReal)

/-- A value that is neither infinity is finite. -/
theorem fin_of_ne {x : EReal} (h : x ≠ ⊤) (h' : x ≠ ⊥) : Fin' x := ⟨x.toReal, (EReal.coe_toReal h h').symm⟩

/-- A finite value is not ⊤. -/
theorem Fin'.ne_top {x : EReal} (h : Fin' x) : x ≠ ⊤ := by obtain ⟨r, rfl⟩ := h; exact EReal.coe_ne_top r

/-- A finite value is not ⊥. -/
theorem Fin'.ne_bot {x : EReal} (h : Fin' x) : x ≠ ⊥ := by obtain ⟨r, rfl⟩ := h; exact EReal.coe_ne_bot r

/-- A product of finite values is finite. -/
theorem fin_mul {x y : EReal} (hx : Fin' x) (hy : Fin' y) : Fin' (x * y) := by
  obtain ⟨a, rfl⟩ := hx; obtain ⟨b, rfl⟩ := hy; exact ⟨a * b, (EReal.coe_mul a b).symm⟩

/-- A sum of reals, as a sum of extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum of finite values is finite. -/
theorem fin_sum {ι : Type} (s : Finset ι) {f : ι → EReal} (h : ∀ k, Fin' (f k)) : Fin' (∑ k ∈ s, f k) := by
  choose g hg using h
  exact ⟨∑ k ∈ s, g k, by rw [coe_sum]; exact Finset.sum_congr rfl fun k _ => hg k⟩

/-- A maximum of values below ⊤ is below ⊤. -/
theorem fold_ne_top {n : ℕ} (f : Fin n → EReal) (h : ∀ k, f k ≠ ⊤) : Finset.univ.fold max ⊥ f ≠ ⊤ := by
  have : Finset.univ.fold max ⊥ f < ⊤ := (Finset.fold_max_lt ⊤).mpr ⟨bot_lt_top, fun k _ => lt_top_iff_ne_top.mpr (h k)⟩
  exact this.ne

/-- Each value is at most the maximum. -/
theorem le_fold {n : ℕ} (f : Fin n → EReal) (k : Fin n) : f k ≤ Finset.univ.fold max ⊥ f :=
  (Finset.le_fold_max _).mpr (.inr ⟨k, Finset.mem_univ k, le_rfl⟩)

/-- The exponential of a difference of finite values is a positive real. -/
theorem exp_pos {x m : EReal} (hx : Fin' x) (hm : Fin' m) : ∃ r : ℝ, 0 < r ∧ Ideal.exp (x - m) = (r : EReal) := by
  obtain ⟨m, rfl⟩ := hm
  obtain ⟨x, rfl⟩ := hx
  exact ⟨Real.exp (x - m), Real.exp_pos _, by rw [← EReal.coe_sub]; rfl⟩

/-- A nonempty sum of exponentials of finite values is a positive real. -/
theorem sum_exp_pos {n : ℕ} (s : Fin n → EReal) {m : EReal} (hs : ∀ k, Fin' (s k)) (hm : Fin' m) (hn : 0 < n) :
    ∃ r : ℝ, 0 < r ∧ ∑ k, Ideal.exp (s k - m) = (r : EReal) := by
  choose g hg using fun k => exp_pos (hs k) hm
  haveI : Nonempty (Fin n) := ⟨⟨0, hn⟩⟩
  exact ⟨∑ k, g k, Finset.sum_pos (fun k _ => (hg k).1) Finset.univ_nonempty,
    by rw [coe_sum]; exact Finset.sum_congr rfl fun k _ => (hg k).2⟩

/-- A sum times a nonnegative real, term by term. -/
theorem mul_sum_coe {n : ℕ} (r : ℝ) (hr : 0 ≤ r) (f : Fin n → EReal) : (∑ k, f k) * (r : EReal) = ∑ k, f k * (r : EReal) := by
  classical
  have : ∀ s : Finset (Fin n), (∑ k ∈ s, f k) * (r : EReal) = ∑ k ∈ s, f k * (r : EReal) := fun s => by
    induction s using Finset.induction_on with
    | empty => simp
    | insert a s ha ih =>
      rw [Finset.sum_insert ha, Finset.sum_insert ha,
        EReal.right_distrib_of_nonneg_of_ne_top (EReal.coe_nonneg.mpr hr) (EReal.coe_ne_top r), ih]
  exact this _

/-- Weighted values summed and then divided by a positive normaliser are the values weighted by the divided weights. -/
theorem div_weights {n : ℕ} (e v : Fin n → EReal) {l : ℝ} (hl : 0 < l) :
    Ideal.div (∑ k, e k * v k) (l : EReal) = ∑ k, v k * Ideal.div (e k) (l : EReal) := by
  rw [Ideal.div_coe hl.ne', mul_sum_coe _ (by positivity)]
  refine Finset.sum_congr rfl fun k _ => ?_
  rw [Ideal.div_coe hl.ne', mul_comm (e k), mul_assoc]

/-- The word of −∞. -/
theorem wbot : Ideal.ofBits .f32 0xFF800000#32 = (⊥ : EReal) := by
  simp [Ideal.ofBits, Ideal.ieee]

/-- The word of +∞. -/
theorem wtop : Ideal.ofBits .f32 0x7F800000#32 = (⊤ : EReal) := by
  simp [Ideal.ofBits, Ideal.ieee]

/-- `|x| < +∞` says that `x` is finite. -/
theorem fin_of_abs {x : EReal} (h : Ideal.cmp .olt (max x (-x)) (Ideal.ofBits .f32 0x7F800000#32) = 1#1) : Fin' x := by
  rw [wtop] at h
  have h' : max x (-x) < ⊤ := by
    by_contra hn
    simp [Ideal.cmp, hn] at h
  refine fin_of_ne (fun e => ?_) (fun e => ?_) <;> subst e <;> simp at h'

/-- A weight does not depend on the finite number subtracted from the scores. -/
theorem weight_shift {n : ℕ} (s : Fin n → EReal) {m m' : EReal} (hs : ∀ k, Fin' (s k)) (hm : Fin' m) (hm' : Fin' m') (k : Fin n) :
    Ideal.div (Ideal.exp (s k - m')) (∑ k, Ideal.exp (s k - m')) = Ideal.div (Ideal.exp (s k - m)) (∑ k, Ideal.exp (s k - m)) := by
  choose g hg using hs
  obtain ⟨m, rfl⟩ := hm
  obtain ⟨m', rfl⟩ := hm'
  haveI : Nonempty (Fin n) := ⟨k⟩
  have e : ∀ (a : ℝ) (x : Fin n), Ideal.exp (s x - (a : EReal)) = ((Real.exp (g x - a) : ℝ) : EReal) := fun a x => by
    rw [hg x, ← EReal.coe_sub]; rfl
  have p : ∀ a : ℝ, (∑ x, Real.exp (g x - a)) ≠ 0 := fun a => (Finset.sum_pos (fun x _ => Real.exp_pos _) Finset.univ_nonempty).ne'
  simp only [e, ← coe_sum]
  rw [Ideal.div_coe (p m'), Ideal.div_coe (p m), ← EReal.coe_mul, ← EReal.coe_mul]
  congr 1
  have f : ∀ x, Real.exp (g x - m') = Real.exp (m - m') * Real.exp (g x - m) := fun x => by rw [← Real.exp_add]; congr 1; ring
  have pm := p m
  simp only [f, ← Finset.mul_sum]
  field_simp

/-- The row's largest score. -/
def top {n : ℕ} (s : Fin n → EReal) : EReal := Finset.univ.fold max ⊥ s

/-- The largest of finitely many finite scores is finite. -/
theorem top_fin {n : ℕ} (hn : 0 < n) (s : Fin n → EReal) (hs : ∀ k, Fin' (s k)) : Fin' (top s) :=
  fin_of_ne (fold_ne_top s fun k => (hs k).ne_top) fun h => (hs ⟨0, hn⟩).ne_bot (le_bot_iff.mp (h ▸ le_fold s ⟨0, hn⟩))

/-- The larger of two finite numbers is finite. -/
theorem fin_max {x y : EReal} (hx : Fin' x) (hy : Fin' y) : Fin' (max x y) := by
  rcases max_choice x y with h | h <;> rw [h] <;> assumption

/-- Values weighted by the exponentials and divided by their sum once, from any finite number `m'` subtracted, are the softmax-weighted values. -/
theorem row_shift {n : ℕ} (hn : 0 < n) (s v : Fin n → EReal) {m m' : EReal} (hs : ∀ k, Fin' (s k)) (hm : Fin' m) (hm' : Fin' m') :
    Ideal.div (∑ k, Ideal.exp (s k - m') * v k) (∑ k, Ideal.exp (s k - m'))
      = ∑ k, v k * Ideal.div (Ideal.exp (s k - m)) (∑ k, Ideal.exp (s k - m)) := by
  obtain ⟨l, hl, e⟩ := sum_exp_pos s hs hm' hn
  rw [e, div_weights _ _ hl, ← e]
  exact Finset.sum_congr rfl fun k _ => by rw [weight_shift s hs hm hm' k]

/-- The start of a running maximum, -10^30. -/
theorem start_fin : Fin' (Ideal.ofBits .f32 0xF149F2CA#32) := by
  simp [Ideal.ofBits, Ideal.ieee, Fin']
  exact ⟨_, by rw [← EReal.coe_pow, ← EReal.coe_mul, ← EReal.coe_neg]⟩

/-- What a kernel leaves as the normaliser of a row after the scores `s`, from the running maximum `a`, the same maximum `b` as read from the
    first lane, and the running normaliser `l`; -/
def den {n : ℕ} (s : Fin n → EReal) (a b l : EReal) : EReal :=
  Ideal.exp (a - max a (top s)) * l + ∑ k, Ideal.exp (s k - max b (top s))

/-- and as the weighted values, from the running ones `l`. -/
def num {n : ℕ} (s v : Fin n → EReal) (a b l : EReal) : EReal :=
  Ideal.exp (a - max a (top s)) * l + ∑ k, Ideal.exp (s k - max b (top s)) * v k

/-- Normalisers of equal scores are equal, -/
theorem den_congr {n : ℕ} {s s' : Fin n → EReal} {a a' b b' l l' : EReal} (hs : ∀ k, s k = s' k) (ha : a = a') (hb : b = b') (hl : l = l') :
    den s a b l = den s' a' b' l' := by
  rw [funext hs, ha, hb, hl]

/-- and weighted values of equal scores and values. -/
theorem num_congr {n : ℕ} {s s' v v' : Fin n → EReal} {a a' b b' l l' : EReal} (hs : ∀ k, s k = s' k) (hv : ∀ k, v k = v' k) (ha : a = a') (hb : b = b')
    (hl : l = l') : num s v a b l = num s' v' a' b' l' := by
  rw [funext hs, funext hv, ha, hb, hl]

/-- One block of keys, from a finite start and nothing summed yet: the quotient is the row of softmax-weighted values. -/
theorem row_block {n : ℕ} (hn : 0 < n) (s v : Fin n → EReal) {a : EReal} (hs : ∀ k, Fin' (s k)) (ha : Fin' a) :
    Ideal.div (num s v a a 0) (den s a a 0) = ∑ k, v k * Ideal.div (Ideal.exp (s k - top s)) (∑ k, Ideal.exp (s k - top s)) := by
  unfold num den
  rw [mul_zero, zero_add, zero_add]
  exact row_shift hn s v hs (top_fin hn s hs) (fin_max ha (top_fin hn s hs))

end Cert.Attn

end
-- ==== Proof.Attn.ContextRef.lean ====
/- Attention of the context sequences as the reference states it, read at an index. -/
module

public import proofs.«01_k».proof.Proof.Gen.AttnCRefIdeal.Read
public import Idealize.ShloMosaic.Lib.Pipeline.ValueKit
public import proofs.«01_k».proof.Proof.Attn.Softmax

@[expose] public section

set_option maxRecDepth 16384

noncomputable section

namespace Cert.AttnCRefIdeal.Val

open Cert.AttnCRefIdeal Cert.AttnCRefIdeal.Gen Idealize.ShloMosaic Idealize.ShloMosaic.TcCoe Idealize.SL.Sem

section Reference

open Cert.AttnCRefIdeal.Read

variable (q : FVec Ideal S8192x2048 .bf16) (k v : FVec Ideal S8192x512 .bf16)

/-- The key a score reads, -/
theorem key_index (b : Fin 32) (g n : Fin 4) (r c : Fin 256) (e : Fin 128) : idx_main_v2 (lidx_main_v6 (idx_main_v7 (ix5 b g n r c)) e)
    = ix2 (⟨b.val * 256 + c.val, by omega⟩ : Fin 8192) (⟨g.val * 128 + e.val, by omega⟩ : Fin 512) := by
  funext a
  match a with
  | ⟨0, _⟩ => refine Fin.ext (show (((b.val * 256 + c.val) * 4 + g.val) * 128 + e.val) / 512 = b.val * 256 + c.val from ?_); omega
  | ⟨1, _⟩ => refine Fin.ext (show (((b.val * 256 + c.val) * 4 + g.val) * 128 + e.val) % 512 = g.val * 128 + e.val from ?_); omega

/-- and the query. -/
theorem query_index (b : Fin 32) (g n : Fin 4) (r c : Fin 256) (e : Fin 128) : idx_main_v0 (ridx_main_v6 (idx_main_v7 (ix5 b g n r c)) e)
    = ix2 (⟨b.val * 256 + r.val, by omega⟩ : Fin 8192) (⟨g.val * 512 + n.val * 128 + e.val, by omega⟩ : Fin 2048) := by
  funext a
  match a with
  | ⟨0, _⟩ => refine Fin.ext (show ((((b.val * 256 + r.val) * 4 + g.val) * 4 + n.val) * 128 + e.val) / 2048 = b.val * 256 + r.val from ?_); omega
  | ⟨1, _⟩ => refine Fin.ext (show ((((b.val * 256 + r.val) * 4 + g.val) * 4 + n.val) * 128 + e.val) % 2048 = g.val * 512 + n.val * 128 + e.val from ?_); omega

/-- The reference's score of query `r` and key `c`, as the product of their rows. -/
theorem score_at (b : Fin 32) (g n : Fin 4) (r c : Fin 256) (z : EReal)
    (hz : z = ∑ e : Fin 128, k (ix2 (⟨b.val * 256 + c.val, by omega⟩ : Fin 8192) (⟨g.val * 128 + e.val, by omega⟩ : Fin 512))
        * q (ix2 (⟨b.val * 256 + r.val, by omega⟩ : Fin 8192) (⟨g.val * 512 + n.val * 128 + e.val, by omega⟩ : Fin 2048))) :
    val_main_v7 (F := Ideal) q k (ix5 b g n r c) = z := by
  rw [val_main_v7_apply, val_main_v6_apply, hz]
  refine Finset.sum_congr rfl fun e _ => ?_
  rw [val_main_v2_apply, val_main_v1_apply, val_main_v5_apply, val_main_v0_apply, key_index, query_index]
  rfl

/-- The fold of the scores of query `r`, -/
theorem fold_at (b : Fin 32) (g n : Fin 4) (r : Fin 256) : val_main_v8 (F := Ideal) q k (ix4 b g n r)
    = Finset.univ.fold max (Ideal.ofBits .f32 0xFF800000#32) (fun x : Fin 256 => val_main_v7 (F := Ideal) q k (ix5 b g n r x)) := by
  unfold val_main_v8
  generalize val_main_v7 (F := Ideal) q k = y
  pointwise [val_main_cst]

/-- the largest of them, -/
theorem top_at (b : Fin 32) (g n : Fin 4) (r : Fin 256) :
    val_main_v10 (F := Ideal) q k (ix4 b g n r) = Attn.top (fun x : Fin 256 => val_main_v7 (F := Ideal) q k (ix5 b g n r x)) := by
  rw [val_main_v10_apply, val_main_v9_apply, val_main_cst_0_apply, fold_at]
  refine (show _ = max (Ideal.ofBits .f32 0xFF800000#32) (Finset.univ.fold max (Ideal.ofBits .f32 0xFF800000#32) fun x : Fin 256 => val_main_v7 (F := Ideal) q k (ix5 b g n r x)) from rfl).trans ?_
  rw [Attn.wbot, max_bot_left]
  unfold Attn.top
  rfl

/-- its exponentials, -/
theorem exp_at (b : Fin 32) (g n : Fin 4) (r x : Fin 256) : val_main_v14 (F := Ideal) q k (ix5 b g n r x)
    = Ideal.exp (val_main_v7 (F := Ideal) q k (ix5 b g n r x) - Attn.top (fun x : Fin 256 => val_main_v7 (F := Ideal) q k (ix5 b g n r x))) := by
  rw [← top_at]
  pointwise [val_main_v14, val_main_v13, val_main_v12, val_main_v11]

/-- and its weights. -/
theorem weight_at (b : Fin 32) (g n : Fin 4) (r x : Fin 256) : val_main_v18 (F := Ideal) q k (ix5 b g n r x)
    = Ideal.div (val_main_v14 (F := Ideal) q k (ix5 b g n r x)) (∑ x : Fin 256, val_main_v14 (F := Ideal) q k (ix5 b g n r x)) := by
  pointwise [val_main_v18, val_main_v17, val_main_v16, val_main_v15, val_main_cst_1]

/-- Which sum an entry of the result is, -/
theorem sum_index (i : Fin 8192) (j : Fin 2048) : idx_main_v20 (idx_main_v21 (ix2 i j))
    = ix5 (⟨i.val / 256, by omega⟩ : Fin 32) (⟨j.val / 512, by omega⟩ : Fin 4) (⟨j.val % 128, by omega⟩ : Fin 128) (⟨j.val / 128 % 4, by omega⟩ : Fin 4)
      (⟨i.val % 256, by omega⟩ : Fin 256) := by
  funext a
  match a with
  | ⟨0, _⟩ => refine Fin.ext (show (i.val * 2048 + j.val) / 524288 = i.val / 256 from ?_); omega
  | ⟨1, _⟩ => refine Fin.ext (show (i.val * 2048 + j.val) / 512 % 4 = j.val / 512 from ?_); omega
  | ⟨2, _⟩ => refine Fin.ext (show (i.val * 2048 + j.val) % 128 = j.val % 128 from ?_); omega
  | ⟨3, _⟩ => refine Fin.ext (show (i.val * 2048 + j.val) / 128 % 4 = j.val / 128 % 4 from ?_); omega
  | ⟨4, _⟩ => refine Fin.ext (show (i.val * 2048 + j.val) / 2048 % 256 = i.val % 256 from ?_); omega

/-- the values it weights, -/
theorem value_index (b : Fin 32) (g n : Fin 4) (r : Fin 256) (d : Fin 128) (x : Fin 256) : idx_main_v4 (lidx_main_v19 (ix5 b g d n r) x)
    = ix2 (⟨b.val * 256 + x.val, by omega⟩ : Fin 8192) (⟨g.val * 128 + d.val, by omega⟩ : Fin 512) := by
  funext a
  match a with
  | ⟨0, _⟩ => refine Fin.ext (show (((b.val * 256 + x.val) * 4 + g.val) * 128 + d.val) / 512 = b.val * 256 + x.val from ?_); omega
  | ⟨1, _⟩ => refine Fin.ext (show (((b.val * 256 + x.val) * 4 + g.val) * 128 + d.val) % 512 = g.val * 128 + d.val from ?_); omega

/-- and the weights. -/
theorem weight_index (b : Fin 32) (g n : Fin 4) (r : Fin 256) (d : Fin 128) (x : Fin 256) : ridx_main_v19 (ix5 b g d n r) x = ix5 b g n r x := by
  funext a
  match a with
  | ⟨0, _⟩ => rfl
  | ⟨1, _⟩ => rfl
  | ⟨2, _⟩ => rfl
  | ⟨3, _⟩ => rfl
  | ⟨4, _⟩ => rfl

/-- The reference's result at (i, j), from that query's scores and that head's value column. -/
theorem ref_at (i : Fin 8192) (j : Fin 2048) (s w : Fin 256 → EReal)
    (hs : ∀ x, s x = val_main_v7 (F := Ideal) q k (ix5 (⟨i.val / 256, by omega⟩ : Fin 32) (⟨j.val / 512, by omega⟩ : Fin 4) (⟨j.val / 128 % 4, by omega⟩ : Fin 4) (⟨i.val % 256, by omega⟩ : Fin 256) x))
    (hw : ∀ x : Fin 256, w x = v (ix2 (⟨i.val / 256 * 256 + x.val, by omega⟩ : Fin 8192) (⟨j.val / 512 * 128 + j.val % 128, by omega⟩ : Fin 512))) :
    val_main_v22 (F := Ideal) q k v (ix2 i j) = ∑ x, w x * Ideal.div (Ideal.exp (s x - Attn.top s)) (∑ x, Ideal.exp (s x - Attn.top s)) := by
  refine (show val_main_v22 (F := Ideal) q k v (ix2 i j) = val_main_v21 (F := Ideal) q k v (ix2 i j) from rfl).trans ?_
  rw [val_main_v21_apply, val_main_v20_apply, sum_index, val_main_v19_apply]
  refine Finset.sum_congr rfl fun x _ => congrArg₂ (· * ·) ?_ ?_
  · rw [val_main_v4_apply, value_index, hw]
    rfl
  · rw [weight_index, weight_at]
    simp only [exp_at, ← hs]

end Reference

end Cert.AttnCRefIdeal.Val

end
-- ==== Proof.Attn.Context.lean ====
/- Attention of the context sequences: the kernel's array, block by block, is the reference's. -/
module

public import proofs.«01_k».proof.Proof.Gen.AttnC.Frame
public import proofs.«01_k».proof.Proof.Gen.AttnCIdeal.Frame
public import proofs.«01_k».proof.Proof.Gen.AttnCIdeal
public import proofs.«01_k».proof.Proof.Gen.AttnCRefIdeal
public import proofs.«01_k».proof.Proof.Gen.AttnCRefIdeal.Run
public import proofs.«01_k».proof.Proof.Gen.AttnCRefIdeal.Read
public import Idealize.ShloMosaic.Lib.Pipeline.ValueKit
public import Idealize.ShloMosaic.Lib.Pipeline.ReadBack
public import Idealize.ShloMosaic.Lib.Claim
public import Idealize.ShloMosaic.Lib.ReduceAll
public import proofs.«01_k».proof.Proof.Attn.ContextRef
public import proofs.«01_k».proof.Defs

@[expose] public section

set_option maxRecDepth 16384

noncomputable section

namespace Cert.AttnCIdeal.Val

open Cert.AttnCIdeal Cert.AttnCIdeal.Gen Idealize.ShloMosaic Idealize.ShloMosaic.TcCoe Idealize.SL.Sem
open Idealize.ShloMosaic.Pipeline (Dat)

/-- The offsets of the body's loads and stores of a whole buffer are zero. -/
theorem hz : (![0, 0] : Fin 2 → Nat) = fun _ => 0 := funext fun a => by fin_cases a <;> rfl

/-- A buffer stored over in part holds, where the later stores reach, what they left. -/
theorem canon_over {S : Shape} {e : EltTy} (L L' : List (View.Piece (Elt Ideal) S e)) (y : S.Idx) (h : ∃ p ∈ L, y ∈ p.1.set) :
    View.canon (L ++ L') y = View.canon L y := by
  induction L with
  | nil => obtain ⟨p, hp, _⟩ := h; exact absurd hp List.not_mem_nil
  | cons p L ih =>
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem p _ hy, View.canon_cons_of_not_mem p _ hy]
      refine ih ?_
      obtain ⟨q, hq, hyq⟩ := h
      rcases List.mem_cons.mp hq with rfl | hq
      · exact absurd hyq hy
      · exact ⟨q, hq, hyq⟩

section Body

variable (Q K V : Vec Ideal S256x128 .bf16) (m0 l0 : Vec Ideal S256x128 .f32) (r : Fin 256) (d : Fin 128)

/-- An entry of a head's normaliser, -/
theorem den_at : k0_pay9 Q K m0 l0 (ix2 r d)
    = Attn.den (fun k : Fin 256 => ∑ e : Fin 128, Q (ix2 r e) * K (ix2 k e)) (m0 (ix2 r d)) (m0 (ix2 r (0 : Fin 128))) (l0 (ix2 r d)) := by
  pointwise [k0_pay9, k0_pay8, k0_pay7, k0_pay6, k0_pay5]
  rw [Attn.wbot]
  rfl

/-- and of its weighted values. -/
theorem num_at : k0_pay10 Q K m0 l0 V (ix2 r d)
    = Attn.num (fun k : Fin 256 => ∑ e : Fin 128, Q (ix2 r e) * K (ix2 k e)) (fun k => V (ix2 k d)) (m0 (ix2 r d)) (m0 (ix2 r (0 : Fin 128))) (l0 (ix2 r d)) := by
  pointwise [k0_pay10, k0_pay8, k0_pay7, k0_pay6, k0_pay5]
  rw [Attn.wbot]
  rfl

/-- The number a running maximum starts from. -/
abbrev start : EReal := Ideal.ofBits .f32 0xF149F2CA#32

/-- The scores of query `i` at column `j`'s head. -/
def score (q : Vec Ideal S256x2048 .bf16) (k : Vec Ideal S256x512 .bf16) (i : Fin 256) (j : Fin 2048) (x : Fin 256) : EReal :=
  ∑ e : Fin 128, q (ix2 i (⟨j.val / 128 * 128 + e.val, by omega⟩ : Fin 2048)) * k (ix2 x (⟨j.val / 512 * 128 + e.val, by omega⟩ : Fin 512))

/-- The values at column `j`. -/
def value (v : Vec Ideal S256x512 .bf16) (j : Fin 2048) (x : Fin 256) : EReal :=
  v (ix2 x (⟨j.val / 512 * 128 + j.val % 128, by omega⟩ : Fin 512))

variable (c : Dev nD) (i : grid0.Coords) (a3 : Memref sig .tc .vmem S256x2048 .bf16) (h3 : a3.IsWhole) (a4 : Memref sig .tc .vmem S256x512 .bf16) (h4 : a4.IsWhole)
  (a5 : Memref sig .tc .vmem S256x512 .bf16) (h5 : a5.IsWhole) (a6 : Memref sig .tc .vmem S256x2048 .bf16) (h6 : a6.IsWhole)
  (a7 : Memref sig .tc .vmem S256x2048 .f32) (h7 : a7.IsWhole) (a8 : Memref sig .tc .vmem S256x2048 .f32) (h8 : a8.IsWhole) (a9 : Memref sig .tc .vmem S256x2048 .f32) (h9 : a9.IsWhole)
  (q : Vec Ideal S256x2048 .bf16) (k v : Vec Ideal S256x512 .bf16)

/-- An entry of the block a grid point writes. -/
theorem out_at (hc0 : cond0_0 i) (hc1 : cond0_1 i) (hc2 : cond0_2 i) (y : S256x2048.Idx) :
    out0_A_3 c i a3 h3 a4 h4 a5 h5 a6 h6 a7 h7 a8 h8 a9 h9 hc0 hc1 hc2 q k v y
      = Ideal.div (Attn.num (score q k (y 0) (y 1)) (value v (y 1)) start start 0) (Attn.den (score q k (y 0) (y 1)) start start 0) := by
  unfold out0_A_3
  rw [View.read_writes_eq_canon _ _ _ (cover0_A_3 c i a3 h3 a4 h4 a5 h5 a6 h6 a7 h7 a8 h8 a9 h9 hc0 hc1 hc2 q k v)]
  unfold kernelRun0_A
  dsimp only
  sl_unfold_words
  rw [View.canon_unit_zero (S := S256x2048) hz]
  simp (decide := true) only [↓View.readCov_skip, ↓View.readCov_cons_toLoadRect, ↓View.readCov_fill, View.readAt_eq_ld, h3.read_unread, h4.read_unread, h5.read_unread]
  refine congrArg₂ Ideal.div ?_ ?_
  · refine (congrFun ((View.readCov_eq_canon' _ _ _).trans (View.ld_unit_zero (S := S256x2048) hz _ _)) y).trans ?_
    refine (canon_over [_, _, _, _, _, _, _, _, _, _, _, _, _, _, _, _] [_] y (View.cover_of_tiled_head _ _ _ (by rfl) y)).trans ?_
    canon_tiles x h
    all_goals
      idx_vars x
      refine (num_at _ _ _ _ _ _ _).trans (Attn.num_congr (fun k => Finset.sum_congr rfl fun e _ => ?_) (fun k => ?_) rfl rfl ?_)
      · pointwise; blk_point []
      · unfold value; pointwise; blk_point []
      · exact Ideal.ofBits_zero_f32
  · refine (congrFun ((View.readCov_eq_canon' _ _ _).trans (View.ld_unit_zero (S := S256x2048) hz _ _)) y).trans ?_
    refine (canon_over [_, _, _, _, _, _, _, _, _, _, _, _, _, _, _, _] [_] y (View.cover_of_tiled_head _ _ _ (by rfl) y)).trans ?_
    canon_tiles x h
    all_goals
      idx_vars x
      refine (den_at _ _ _ _ _ _).trans (Attn.den_congr (fun k => Finset.sum_congr rfl fun e _ => ?_) rfl rfl ?_)
      · pointwise; blk_point []
      · exact Ideal.ofBits_zero_f32

end Body

/-- Which block each window has at a grid point. -/
theorem idx : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)

variable (m : (ℓ : Loc nD τ sig) → Buf (Elt Ideal) ℓ)

/-- An entry of a block of queries, -/
theorem q_at (c : Dev nD) (t : Fin cfg0.N) (i : Fin 256) (j : Fin 2048) (I : Fin 8192) (hI : I.val = t.val * 256 + i.val) :
    (show FVec Ideal S256x2048 .bf16 from iblk m c 0 t) (ix2 i j)
      = (show FVec Ideal S8192x2048 .bf16 from m ((c : Thread nD τ).loc main_arg0)) (ix2 I j) := by
  blk_simp [iblk]
  entry_read
  blk_point [idx t]

/-- of keys, -/
theorem k_at (c : Dev nD) (t : Fin cfg0.N) (i : Fin 256) (j : Fin 512) (I : Fin 8192) (hI : I.val = t.val * 256 + i.val) :
    (show FVec Ideal S256x512 .bf16 from iblk m c 1 t) (ix2 i j)
      = (show FVec Ideal S8192x512 .bf16 from m ((c : Thread nD τ).loc main_arg1)) (ix2 I j) := by
  blk_simp [iblk]
  entry_read
  blk_point [idx t]

/-- and of values at a grid point. -/
theorem v_at (c : Dev nD) (t : Fin cfg0.N) (i : Fin 256) (j : Fin 512) (I : Fin 8192) (hI : I.val = t.val * 256 + i.val) :
    (show FVec Ideal S256x512 .bf16 from iblk m c 2 t) (ix2 i j)
      = (show FVec Ideal S8192x512 .bf16 from m ((c : Thread nD τ).loc main_arg2)) (ix2 I j) := by
  blk_simp [iblk]
  entry_read
  blk_point [idx t]

/-- The block a grid point writes holds the reference's entries at that block's rows. -/
theorem core (c : Dev nD) (t : Fin cfg0.N) (i : Fin 256) (j : Fin 2048) (I : Fin 8192) (q : FVec Ideal S8192x2048 .bf16) (k v : FVec Ideal S8192x512 .bf16)
    (eq : m ((c : Thread nD τ).loc main_arg0) = q) (ek : m ((c : Thread nD τ).loc main_arg1) = k) (ev : m ((c : Thread nD τ).loc main_arg2) = v)
    (hq : ∀ x, Attn.Fin' (q x)) (hk : ∀ x, Attn.Fin' (k x)) (hI : I.val = t.val * 256 + i.val) :
    Ideal.div (Attn.num (score (iblk m c 0 t) (iblk m c 1 t) i j) (value (iblk m c 2 t) j) start start 0) (Attn.den (score (iblk m c 0 t) (iblk m c 1 t) i j) start start 0)
      = Cert.AttnCRefIdeal.Read.val_main_v22 (F := Ideal) q k v (ix2 I j) := by
  have ht : t.val < 32 := t.isLt
  have hs : ∀ x, score (iblk m c 0 t) (iblk m c 1 t) i j x
      = ∑ e : Fin 128, q (ix2 I (⟨j.val / 128 * 128 + e.val, by omega⟩ : Fin 2048))
          * k (ix2 (⟨t.val * 256 + x.val, by omega⟩ : Fin 8192) (⟨j.val / 512 * 128 + e.val, by omega⟩ : Fin 512)) := fun x =>
    Finset.sum_congr rfl fun e _ => congrArg₂ (· * ·) ((q_at m c t _ _ _ hI).trans (by rw [eq])) ((k_at m c t _ _ (⟨t.val * 256 + x.val, by omega⟩ : Fin 8192) rfl).trans (by rw [ek]))
  rw [Attn.row_block (by norm_num) _ _ (fun x => by rw [hs]; exact Attn.fin_sum _ fun e => Attn.fin_mul (hq _) (hk _)) Attn.start_fin]
  refine (Cert.AttnCRefIdeal.Val.ref_at q k v I j _ _ (fun x => ?_) fun x => ?_).symm
  · rw [hs]
    refine (Cert.AttnCRefIdeal.Val.score_at q k _ _ _ _ _ _ (Finset.sum_congr rfl fun e _ => ?_)).symm
    rw [mul_comm]
    refine congrArg₂ (fun a b => k a * q b) (congrArg₂ ix2 (Fin.ext ?_) (Fin.ext ?_)) (congrArg₂ ix2 (Fin.ext ?_) (Fin.ext ?_))
    all_goals (show _ = _; dsimp only <;> omega)
  · refine (v_at m c t x _ (⟨I.val / 256 * 256 + x.val, by omega⟩ : Fin 8192) ?_).trans (by rw [ev])
    show _ = _; dsimp only; omega

/-- The kernel's whole result is the reference's. -/
theorem final (c : Dev nD) (hq : ∀ x, Attn.Fin' ((show FVec Ideal S8192x2048 .bf16 from m ((c : Thread nD τ).loc main_arg0)) x))
    (hk : ∀ x, Attn.Fin' ((show FVec Ideal S8192x512 .bf16 from m ((c : Thread nD τ).loc main_arg1)) x)) : (dats m 0 c).arrAt 3 (cfgs 0).N
    = Cert.AttnCRefIdeal.Read.val_main_v22 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 32 := t.isLt
  have h0 : (y 0).val < 256 := (y 0).isLt
  have h1 : (y 1).val < 2048 := (y 1).isLt
  blk_simp
  rw [after0_3]
  refine (show outsAt0 m c t y = _ from out_at _ _ _ _ _ _ _ _ _ _ _ _ _ _ _ _ _ _ _ _ _ _ y).trans
    ((core m c t (y 0) (y 1) ⟨t.val * 256 + (y 0).val, by omega⟩ _ _ _ rfl rfl rfl hq hk rfl).trans ?_)
  blk_ext [idx t]

/-- The precondition, read at an index: every query and every key is finite. -/
theorem finite [Cert.Pre_finite_attnc.Facts] (q : FVec Ideal S8192x2048 .bf16) (k v : FVec Ideal S8192x512 .bf16)
    (h : Cert.Pre_finite_attnc.fn (F := Ideal) q k v = fun _ => 1#1) : (∀ x, Attn.Fin' (q x)) ∧ ∀ x, Attn.Fin' (k x) := by
  have e := congrFun h (Shape.Idx.first Cert.Pre_finite_attnc.Facts.h_S_)
  obtain ⟨e0, e1⟩ := IntOp.andi_eq_one.mp e
  haveI : Subsingleton Cert.Pre_finite_attnc.S_.Idx := ⟨fun a b => funext fun i => i.elim0⟩
  have w : Ideal.ofBits .bf16 0x7F80#16 = Ideal.ofBits .f32 0x7F800000#32 := by simp [Ideal.ofBits, Ideal.ieee]
  exact ⟨fun x => Attn.fin_of_abs (w ▸ Host.reduce_andi_all _ _ _ _ _ e0 x), fun x => Attn.fin_of_abs (w ▸ Host.reduce_andi_all _ _ _ _ _ e1 x)⟩

/-- Over the extended reals the kernel's attention of the context sequences is the reference's, for finite queries and keys. -/
theorem algebraic [Cert.Pre_finite_attnc.Facts] : Cert.algebraic_AttnCIdeal_AttnCRefIdeal_pre_finite_attnc := by
  pair_intro
  · run_from Cert.AttnCIdeal.Gen.run_main m g
  · run_from Cert.AttnCRefIdeal.Value.run m' g'
    obtain ⟨hq, hk⟩ := finite _ _ _ (hpre c)
    exact (final m c hq hk).symm

end Cert.AttnCIdeal.Val

end
-- ==== Proof.Cond.Adaln.lean ====
/-
The modulations of the layers: over the extended reals, for finite conditions and weights, the kernel's are the reference's.
The kernel splits each factor of its product into a rounded part and the rest. With nothing rounded the rest is x - x, which is 0 where x is finite.
-/
module

public import proofs.«01_k».proof.Proof.Gen.AdalnIdeal.Frame
public import proofs.«01_k».proof.Proof.Gen.AdalnIdeal.Run
public import proofs.«01_k».proof.Proof.Gen.AdalnIdeal
public import proofs.«01_k».proof.Proof.Gen.AdalnRefIdeal
public import proofs.«01_k».proof.Proof.Gen.AdalnRefIdeal.Run
public import proofs.«01_k».proof.Proof.Gen.AdalnRefIdeal.Read
public import Idealize.ShloMosaic.Lib.Pipeline.ValueKit
public import Idealize.ShloMosaic.Lib.ReduceAll
public import Idealize.ShloMosaic.Lib.WordCmp
public import Idealize.ShloMosaic.Lib.Claim
public import proofs.«01_k».proof.Defs

@[expose] public section

set_option maxRecDepth 16384

noncomputable section

namespace Cert.AdalnIdeal.Val

open Cert.AdalnIdeal Cert.AdalnIdeal.Gen Idealize.ShloMosaic Idealize.ShloMosaic.TcCoe Idealize.SL.Sem
open Idealize.ShloMosaic.Pipeline (Dat)

/-- A finite extended real. -/
def Finite (x : EReal) : Prop := ∃ r : ℝ, x = (r : EReal)

/-- The word of +∞. -/
theorem wtop : Ideal.ofBits .f32 0x7F800000#32 = (⊤ : EReal) := by
  simp [Ideal.ofBits, Ideal.ieee]

/-- `|x| < +∞` says that `x` is finite. -/
theorem finite_of_abs {x : EReal} (h : Ideal.cmp .olt (max x (-x)) (Ideal.ofBits .f32 0x7F800000#32) = 1#1) : Finite x := by
  rw [wtop] at h
  have h' : max x (-x) < ⊤ := by
    by_contra hn
    simp [Ideal.cmp, hn] at h
  refine ⟨x.toReal, (EReal.coe_toReal (fun e => ?_) (fun e => ?_)).symm⟩ <;> subst e <;> simp at h'

/-- x times its sigmoid. -/
def silu (x : EReal) : EReal := x * Ideal.div 1 (1 + Ideal.exp (-x))

/-- It is finite at a finite x. -/
theorem silu_finite {x : EReal} (h : Finite x) : Finite (silu x) := by
  obtain ⟨r, rfl⟩ := h
  have he : Ideal.exp (-(r : EReal)) = (Real.exp (-r) : EReal) := by rw [← EReal.coe_neg]; rfl
  refine ⟨r * (1 * (1 / (1 + Real.exp (-r)))), ?_⟩
  unfold silu
  rw [he, ← EReal.coe_one, ← EReal.coe_add, Ideal.div_coe (by positivity), ← EReal.coe_mul, ← EReal.coe_mul]

/-- A finite value less itself is 0. -/
theorem rest {x : EReal} (h : Finite x) : x - x = 0 := by
  obtain ⟨r, rfl⟩ := h
  rw [← EReal.coe_sub, sub_self, EReal.coe_zero]

/-- The kernel's product of a row with a column, its factors split. -/
def split (a w : Fin 2048 → EReal) : EReal := (∑ k, a k * w k) + ((∑ k, (a k - a k) * w k) + ∑ k, a k * (w k - w k))

/-- For finite factors it is the product. -/
theorem split_eq {a w : Fin 2048 → EReal} (ha : ∀ k, Finite (a k)) (hw : ∀ k, Finite (w k)) : split a w = ∑ k, a k * w k := by
  have h0 : ∀ k, (a k - a k) * w k = 0 := fun k => by rw [rest (ha k), zero_mul]
  have h1 : ∀ k, a k * (w k - w k) = 0 := fun k => by rw [rest (hw k), mul_zero]
  simp only [split, h0, h1, Finset.sum_const_zero, add_zero]

/-- An entry of the block a grid point writes. -/
theorem out_at (C : Vec Ideal S8x2048 .f32) (W : Vec Ideal S1x2048x1024 .f32) (B : Vec Ideal S1x1x1024 .f32) (n : Fin 8) (d : Fin 1024) :
    out0_3 C W B (ix3 (0 : Fin 1) n d) = split (fun k => silu (C (ix2 n k))) (fun k => W (ix3 (0 : Fin 1) k d)) + B (ix3 (0 : Fin 1) (0 : Fin 1) d) := by
  unfold out0_3
  canon_tiles x h
  all_goals
    idx_vars x
    obtain rfl : n = x1 := Fin.ext h1
    obtain rfl : d = x2 := Fin.ext h2
    pointwise [k0_pay1, split, silu]
    simp only [zero_sub]

/-- Which block each window has at a grid point. -/
theorem idx : ∀ t : Fin cfg0.N, win0_0.index t = ![0, 0] ∧ win0_1.index t = ![t.val / 12, 0, t.val % 12] ∧ win0_2.index t = ![t.val / 12, 0, t.val % 12]
    ∧ win0_3.index t = ![t.val / 12, 0, t.val % 12] :=
  (by decide +kernel : ∀ t : Fin grid0.N, _)

open Cert.AdalnRefIdeal.Read in
/-- The reference's first result, entry by entry, -/
theorem prompt_at (c : FVec Ideal S2048 .f32) (w : FVec Ideal S4x2048x12288 .f32) (b : FVec Ideal S4x12288 .f32) (l : Fin 4) (d : Fin 12288) :
    val_main_v5 (F := Ideal) c w b (ix3 l (0 : Fin 1) d) = (∑ k : Fin 2048, silu (c (ix1 k)) * w (ix3 l k d)) + b (ix2 l d) := by
  pointwise [val_main_v5, val_main_v4, val_main_v3, val_main_v2, val_main_v1, val_main_v0, val_main_call0_v0, val_main_call0_v1, val_main_call0_cst, val_main_call0_v2, val_main_call0_v3, val_main_call0_cst_0, val_main_call0_v4, val_main_call0_v5, silu]
  simp only [mul_comm]

open Cert.AdalnRefIdeal.Read in
/-- and its second. -/
theorem sample_at (c : FVec Ideal S4x2048 .f32) (w : FVec Ideal S4x2048x12288 .f32) (b : FVec Ideal S4x12288 .f32) (l n : Fin 4) (d : Fin 12288) :
    val_main_v11 (F := Ideal) c w b (ix3 l n d) = (∑ k : Fin 2048, silu (c (ix2 n k)) * w (ix3 l k d)) + b (ix2 l d) := by
  pointwise [val_main_v11, val_main_v10, val_main_v9, val_main_v8, val_main_v7, val_main_v6, val_main_call1_v0, val_main_call1_v1, val_main_call1_cst, val_main_call1_v2, val_main_call1_v3, val_main_call1_cst_0, val_main_call1_v4, val_main_call1_v5, silu]
  simp only [mul_comm]

variable (m : (ℓ : Loc nD τ sig) → Buf (Elt Ideal) ℓ)

/-- The modulations of all eight rows of conditions. -/
def rows (c : FVec Ideal S8x2048 .f32) (w : FVec Ideal S4x2048x12288 .f32) (b : FVec Ideal S4x1x12288 .f32) : FVec Ideal S4x8x12288 .f32 :=
  fun y => split (fun k => silu (c (ix2 (y 1) k))) (fun k => w (ix3 (y 0) k (y 2))) + b (ix3 (y 0) (0 : Fin 1) (y 2))

/-- Equal parts give equal entries. -/
theorem entry_congr {a a' w w' : Fin 2048 → EReal} {b b' : EReal} (ha : ∀ k, a k = a' k) (hw : ∀ k, w k = w' k) (hb : b = b') :
    split (fun k => silu (a k)) w + b = split (fun k => silu (a' k)) w' + b' := by
  rw [funext ha, funext hw, hb]

/-- An entry of the conditions' block, -/
theorem c_at (c : Dev nD) (t : Fin cfg0.N) (n : Fin 8) (k : Fin 2048) :
    (show FVec Ideal S8x2048 .f32 from iblk m c 0 t) (ix2 n k) = (show FVec Ideal S8x2048 .f32 from V m c main_v2) (ix2 n k) := by
  blk_simp [iblk]
  blk_point [idx t]

/-- of the weights' -/
theorem w_at (c : Dev nD) (t : Fin cfg0.N) (k : Fin 2048) (d : Fin 1024) (L : Fin 4) (hL : L.val = t.val / 12) (J : Fin 12288) (hJ : J.val = t.val % 12 * 1024 + d.val) :
    (show FVec Ideal S1x2048x1024 .f32 from iblk m c 1 t) (ix3 (0 : Fin 1) k d) = (show FVec Ideal S4x2048x12288 .f32 from m ((c : Thread nD τ).loc main_arg2)) (ix3 L k J) := by
  blk_simp [iblk]
  entry_read
  blk_point [idx t]

/-- and of the biases'. -/
theorem b_at (c : Dev nD) (t : Fin cfg0.N) (d : Fin 1024) (L : Fin 4) (hL : L.val = t.val / 12) (J : Fin 12288) (hJ : J.val = t.val % 12 * 1024 + d.val) :
    (show FVec Ideal S1x1x1024 .f32 from iblk m c 2 t) (ix3 (0 : Fin 1) (0 : Fin 1) d) = (show FVec Ideal S4x1x12288 .f32 from V m c main_v3) (ix3 L (0 : Fin 1) J) := by
  blk_simp [iblk]
  blk_point [idx t]

/-- The region's result. -/
theorem final (c : Dev nD) : Cert.AdalnIdeal.Value.reg_main_v4 m c = rows (V m c main_v2) (m ((c : Thread nD τ).loc main_arg2)) (V m c main_v3) := by
  refine (dats m 0 c).arrAt_eq_of_covers 3 _ (by decide +kernel) fun t _ y => ?_
  have ht : t.val < 48 := t.isLt
  have h0 : (y 0).val < 1 := (y 0).isLt
  have h1 : (y 1).val < 8 := (y 1).isLt
  have h2 : (y 2).val < 1024 := (y 2).isLt
  blk_simp
  rw [after0_3]
  refine ((congrArg (out0_3 (iblk m c 0 t) (iblk m c 1 t) (iblk m c 2 t)) ((eq_ix3 y).trans (congrArg (fun a : Fin 1 => ix3 a (y 1) (y 2)) (Fin.ext (Nat.lt_one_iff.mp h0))))).trans ((out_at _ _ _ (y 1) (y 2)).trans ?_)).trans
    (show rows (V m c main_v2) (m ((c : Thread nD τ).loc main_arg2)) (V m c main_v3) (ix3 (⟨t.val / 12, by omega⟩ : Fin 4) (y 1) (⟨t.val % 12 * 1024 + (y 2).val, by omega⟩ : Fin 12288)) = _ from ?_)
  · exact entry_congr (fun k => c_at m c t (y 1) k) (fun k => w_at m c t k (y 2) _ rfl _ rfl) (b_at m c t (y 2) _ rfl _ rfl)
  · blk_ext [idx t]

/-- The first row of conditions is the context's, -/
theorem low (c : Dev nD) (k : Fin 2048) :
    (show FVec Ideal S8x2048 .f32 from V m c main_v2) (ix2 (0 : Fin 8) k) = (show FVec Ideal S2048 .f32 from m ((c : Thread nD τ).loc main_arg1)) (ix1 k) := by
  entry_read
  simp only [hostOps0, List.flatten_cons, List.flatten_nil, List.append_nil, List.cons_append, List.nil_append]
  after_results
  pointwise
  refine (show _ = broadcastInDim S1x2048 ![1] bcast_S2048_S1x2048_1 (show FVec Ideal S2048 .f32 from m ((c : Thread nD τ).loc main_arg1)) (ix2 (0 : Fin 1) k) from rfl).trans ?_
  pointwise

/-- the next four are the samples'. -/
theorem high (c : Dev nD) (n : Fin 4) (k : Fin 2048) (N : Fin 8) (hN : N.val = 1 + n.val) :
    (show FVec Ideal S8x2048 .f32 from V m c main_v2) (ix2 N k) = (show FVec Ideal S4x2048 .f32 from m ((c : Thread nD τ).loc main_arg0)) (ix2 n k) := by
  entry_read
  simp only [hostOps0, List.flatten_cons, List.flatten_nil, List.append_nil, List.cons_append, List.nil_append]
  after_results
  pointwise
  rw [dif_neg (by omega), dif_pos (by omega)]
  refine (show _ = (show FVec Ideal S4x2048 .f32 from m ((c : Thread nD τ).loc main_arg0)) (ix2 (⟨N.val - 1, by omega⟩ : Fin 4) k) from rfl).trans ?_
  exact congrArg (fun a : Fin 4 => (show FVec Ideal S4x2048 .f32 from m ((c : Thread nD τ).loc main_arg0)) (ix2 a k)) (Fin.ext (show N.val - 1 = n.val by omega))

/-- The biases are the argument's. -/
theorem bias (c : Dev nD) (l : Fin 4) (d : Fin 12288) :
    (show FVec Ideal S4x1x12288 .f32 from V m c main_v3) (ix3 l (0 : Fin 1) d) = (show FVec Ideal S4x12288 .f32 from m ((c : Thread nD τ).loc main_arg3)) (ix2 l d) := by
  entry_read
  simp only [hostOps0, List.flatten_cons, List.flatten_nil, List.append_nil, List.cons_append, List.nil_append]
  after_results
  pointwise

/-- The first result, cut from the eight rows, -/
theorem prompt (c : Dev nD) (hc : ∀ x, Finite ((show FVec Ideal S2048 .f32 from m ((c : Thread nD τ).loc main_arg1)) x))
    (hw : ∀ x, Finite ((show FVec Ideal S4x2048x12288 .f32 from m ((c : Thread nD τ).loc main_arg2)) x)) :
    Cert.AdalnRefIdeal.Read.val_main_v5 (F := Ideal) (m ((c : Thread nD τ).loc main_arg1)) (m ((c : Thread nD τ).loc main_arg2)) (m ((c : Thread nD τ).loc main_arg3))
      = extractStridedSlice S4x1x12288 ![0, 0, 0] (Cert.AdalnIdeal.Value.reg_main_v4 m c) slices_S4x8x12288_S4x1x12288_0_0_0 := by
  rw [final]
  funext z
  obtain ⟨l, n, d, rfl⟩ : ∃ l n d, z = ix3 l n d := ⟨z 0, z 1, z 2, eq_ix3 z⟩
  obtain rfl : n = (0 : Fin 1) := Fin.ext (by have := n.isLt; omega)
  rw [prompt_at]
  refine Eq.trans ?_ (show rows (V m c main_v2) (m ((c : Thread nD τ).loc main_arg2)) (V m c main_v3) (ix3 l (0 : Fin 8) d) = _ by pointwise)
  refine Eq.trans ?_ (entry_congr (fun k => (low m c k).symm) (fun _ => rfl) (bias m c l d).symm)
  rw [split_eq (fun k => silu_finite (hc _)) (fun k => hw _)]
  rfl

/-- and the second. -/
theorem sample (c : Dev nD) (hc : ∀ x, Finite ((show FVec Ideal S4x2048 .f32 from m ((c : Thread nD τ).loc main_arg0)) x))
    (hw : ∀ x, Finite ((show FVec Ideal S4x2048x12288 .f32 from m ((c : Thread nD τ).loc main_arg2)) x)) :
    Cert.AdalnRefIdeal.Read.val_main_v11 (F := Ideal) (m ((c : Thread nD τ).loc main_arg0)) (m ((c : Thread nD τ).loc main_arg2)) (m ((c : Thread nD τ).loc main_arg3))
      = extractStridedSlice S4x4x12288 ![0, 1, 0] (Cert.AdalnIdeal.Value.reg_main_v4 m c) slices_S4x8x12288_S4x4x12288_0_1_0 := by
  rw [final]
  funext z
  obtain ⟨l, n, d, rfl⟩ : ∃ l n d, z = ix3 l n d := ⟨z 0, z 1, z 2, eq_ix3 z⟩
  rw [sample_at]
  refine Eq.trans ?_ (show rows (V m c main_v2) (m ((c : Thread nD τ).loc main_arg2)) (V m c main_v3) (ix3 l (⟨1 + n.val, by omega⟩ : Fin 8) d) = _ by pointwise)
  refine Eq.trans ?_ (entry_congr (fun k => (high m c n k _ rfl).symm) (fun _ => rfl) (bias m c l d).symm)
  rw [split_eq (fun k => silu_finite (hc _)) (fun k => hw _)]
  rfl

/-- What the precondition says, entry by entry: the conditions and the weights are finite. -/
theorem finite [Cert.Pre_finite.Facts] (x0 : FVec Ideal S4x2048 .f32) (x1 : FVec Ideal S2048 .f32) (x2 : FVec Ideal S4x2048x12288 .f32) (x3 : FVec Ideal S4x12288 .f32)
    (h : Cert.Pre_finite.fn (F := Ideal) x0 x1 x2 x3 = fun _ => 1#1) : (∀ x, Finite (x0 x)) ∧ (∀ x, Finite (x1 x)) ∧ ∀ x, Finite (x2 x) := by
  have e := congrFun h (Shape.Idx.first Cert.Pre_finite.Facts.h_S_)
  haveI : Subsingleton Cert.Pre_finite.S_.Idx := ⟨fun a b => funext fun i => i.elim0⟩
  obtain ⟨e, e2⟩ := IntOp.andi_eq_one.mp e
  obtain ⟨e0, e1⟩ := IntOp.andi_eq_one.mp e
  exact ⟨fun x => finite_of_abs (Host.reduce_andi_all _ _ _ _ _ e0 x), fun x => finite_of_abs (Host.reduce_andi_all _ _ _ _ _ e1 x),
    fun x => finite_of_abs (Host.reduce_andi_all _ _ _ _ _ e2 x)⟩

/-- The kernel's and the reference's runs, from equal finite arguments, end with equal results. -/
theorem algebraic [Cert.Pre_finite.Facts] : Cert.algebraic_AdalnIdeal_AdalnRefIdeal_pre_finite := by
  pair_intro
  · run_from Cert.AdalnIdeal.Value.run m g
  · run_from Cert.AdalnRefIdeal.Value.run m' g'
    · obtain ⟨-, hc, hw⟩ := finite _ _ _ _ (hpre c)
      exact (Cert.AdalnRefIdeal.Read.val_main_v5_eq (F := Ideal) _ _ _).symm.trans (prompt m c hc hw)
    · obtain ⟨hc, -, hw⟩ := finite _ _ _ _ (hpre c)
      exact (Cert.AdalnRefIdeal.Read.val_main_v11_eq (F := Ideal) _ _ _).symm.trans (sample m c hc hw)

end Cert.AdalnIdeal.Val
end
-- ==== Proof.lean ====
/-
The claims on the experts of the mixture-of-experts layer. Their program, its ideal reading and its reference run and leave their arguments
alone, for tables whose experts are below 16; the ideal reading is the program's own text over the extended reals; and the ideal reading's
result is the reference's, where no tile's count of rows is negative and the routing weights of the rows in use are nonnegative and not infinite.
Then the claims, without preconditions, on the final norm of the two streams and on the two attention layers' preparation of queries, keys and values,
on the projections of a mixer's normalised and modulated input, and on the projection of a mixer's output that is added to its input through the gate.
Then the claims on the layers' modulations; of these the values are the reference's for finite conditions and weights. Last those on the context's
attention in the full-attention layer, whose values are the reference's for finite queries and keys.
-/
module

public import proofs.«01_k».proof.Defs
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepW
public import proofs.«01_k».proof.Proof.Gen.PrepW.Skeleton
public import proofs.«01_k».proof.Proof.Gen.PrepW.Launch
public import proofs.«01_k».proof.Proof.Gen.PrepW.Points
public import proofs.«01_k».proof.Proof.Gen.PrepW.Frame
public import proofs.«01_k».proof.Proof.Gen.PrepWIdeal
public import proofs.«01_k».proof.Proof.Gen.PrepWIdeal.Skeleton
public import proofs.«01_k».proof.Proof.Gen.PrepWIdeal.Launch
public import proofs.«01_k».proof.Proof.Gen.PrepWIdeal.Points
public import proofs.«01_k».proof.Proof.Gen.PrepWIdeal.Frame
public import proofs.«01_k».proof.Proof.Gen.PrepWRefIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.HyIn
public import proofs.«01_k».proof.Proof.Gen.HyIn.Skeleton
public import proofs.«01_k».proof.Proof.Gen.HyIn.Launch
public import proofs.«01_k».proof.Proof.Gen.HyIn.Points
public import proofs.«01_k».proof.Proof.Gen.HyIn.Frame
public import proofs.«01_k».proof.Proof.Gen.HyInIdeal
public import proofs.«01_k».proof.Proof.Gen.HyInIdeal.Skeleton
public import proofs.«01_k».proof.Proof.Gen.HyInIdeal.Launch
public import proofs.«01_k».proof.Proof.Gen.HyInIdeal.Points
public import proofs.«01_k».proof.Proof.Gen.HyInIdeal.Frame
public import proofs.«01_k».proof.Proof.Gen.HyInRefIdeal
public import proofs.«01_k».proof.Proof.Gen.HyInRefIdeal.Run
public import proofs.«01_k».proof.Proof.Gen.HyInRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Run
public import proofs.«01_k».proof.Proof.Gen.OutRefIdeal
public import proofs.«01_k».proof.Proof.Gen.OutRefIdeal.Run
public import proofs.«01_k».proof.Proof.Gen.OutRefIdeal.Read
public import proofs.«01_k».proof.Proof.Gen.Adaln
public import proofs.«01_k».proof.Proof.Gen.Adaln.Skeleton
public import proofs.«01_k».proof.Proof.Gen.Adaln.Launch
public import proofs.«01_k».proof.Proof.Gen.Adaln.Points
public import proofs.«01_k».proof.Proof.Gen.Adaln.Frame
public import proofs.«01_k».proof.Proof.Gen.AdalnIdeal
public import proofs.«01_k».proof.Proof.Gen.AdalnIdeal.Skeleton
public import proofs.«01_k».proof.Proof.Gen.AdalnIdeal.Launch
public import proofs.«01_k».proof.Proof.Gen.AdalnIdeal.Points
public import proofs.«01_k».proof.Proof.Gen.AdalnIdeal.Frame
public import proofs.«01_k».proof.Proof.Gen.AdalnIdeal.Run
public import proofs.«01_k».proof.Proof.Gen.AdalnRefIdeal
public import proofs.«01_k».proof.Proof.Gen.AdalnRefIdeal.Run
public import proofs.«01_k».proof.Proof.Gen.AdalnRefIdeal.Read
public import proofs.«01_k».proof.Proof.Gen.AttnC
public import proofs.«01_k».proof.Proof.Gen.AttnC.Skeleton
public import proofs.«01_k».proof.Proof.Gen.AttnC.Launch
public import proofs.«01_k».proof.Proof.Gen.AttnC.Points
public import proofs.«01_k».proof.Proof.Gen.AttnC.Frame
public import proofs.«01_k».proof.Proof.Gen.AttnCIdeal
public import proofs.«01_k».proof.Proof.Gen.AttnCIdeal.Skeleton
public import proofs.«01_k».proof.Proof.Gen.AttnCIdeal.Launch
public import proofs.«01_k».proof.Proof.Gen.AttnCIdeal.Points
public import proofs.«01_k».proof.Proof.Gen.AttnCIdeal.Frame
public import proofs.«01_k».proof.Proof.Gen.AttnCRefIdeal
public import proofs.«01_k».proof.Proof.Gen.AttnCRefIdeal.Run
public import proofs.«01_k».proof.Proof.Gen.AttnCRefIdeal.Read
public import proofs.«01_k».proof.Proof.Gen.Pre_finite
public import proofs.«01_k».proof.Proof.Gen.Pre_finite_attnc
public import proofs.«01_k».proof.Proof.Gen.Pre_tiles_in_range
public import proofs.«01_k».proof.Proof.Gen.Pre_routed
public import proofs.«01_k».proof.Proof.Gen.NormRefIdeal.Run
public import proofs.«01_k».proof.Proof.Gen.NormIdeal.Run
public import proofs.«01_k».proof.Proof.Gen.PrepIdeal.Run
public import proofs.«01_k».proof.Proof.Gen.PrepWIdeal.Run
public import proofs.«01_k».proof.Proof.Gen.NormRefIdeal.Read
public import proofs.«01_k».proof.Proof.Gen.PrepRefIdeal.Run
public import proofs.«01_k».proof.Proof.Gen.PrepRefIdeal.Read
public import proofs.«01_k».proof.Proof.Gen.PrepWRefIdeal.Run
public import proofs.«01_k».proof.Proof.Gen.PrepWRefIdeal.Read
public import proofs.«01_k».proof.Proof.Gen.ExpertsRefIdeal.Run
public import proofs.«01_k».proof.Proof.Gen.ExpertsRefIdeal.Read
public import Idealize.ShloMosaic.Adequacy
public import Idealize.ShloMosaic.Init
public import proofs.«01_k».proof.Proof.Moe.Bits.Frame
public import proofs.«01_k».proof.Proof.Moe.Bits.Ok
public import proofs.«01_k».proof.Proof.Moe.Ideal.Frame
public import proofs.«01_k».proof.Proof.Moe.Ideal.Algebraic
public import proofs.«01_k».proof.Proof.Norm.Value
public import proofs.«01_k».proof.Proof.Prep.Root
public import proofs.«01_k».proof.Proof.Prep.Plain
public import proofs.«01_k».proof.Proof.Prep.Normed
public import proofs.«01_k».proof.Proof.Proj.Qkv
public import proofs.«01_k».proof.Proof.Proj.HyIn
public import proofs.«01_k».proof.Proof.Proj.Out
public import proofs.«01_k».proof.Proof.Attn.Context
public import proofs.«01_k».proof.Proof.Cond.Adaln

@[expose] public section

set_option maxRecDepth 16384

noncomputable section

namespace Cert.Proof

open Idealize.ShloMosaic Idealize.SL.Sem

/-- The experts' program runs, and leaves its arguments and every semaphore as they were. -/
theorem experts_frame : Cert.quiescent_Experts (hExperts := Cert.Experts.Gen.facts) (hPre_tiles_in_range := Cert.Pre_tiles_in_range.Gen.facts) := fun m ρ hpre =>
  letI := Cert.Pre_tiles_in_range.Gen.facts
  Cert.Experts.Moe.frame_run m ρ (Cert.Experts.Moe.ok_of m (Cert.Moe.in_range _ _ _ _ _ _ _ (hpre 0)).1 (Cert.Moe.in_range _ _ _ _ _ _ _ (hpre 0)).2)

/-- So does its ideal reading, -/
theorem ideal_frame : Cert.quiescent_ExpertsIdeal (hExpertsIdeal := Cert.ExpertsIdeal.Gen.facts) (hPre_tiles_in_range := Cert.Pre_tiles_in_range.Gen.facts) := fun m ρ hpre =>
  letI := Cert.Pre_tiles_in_range.Gen.facts
  Cert.ExpertsIdeal.Moe.frame_run m ρ (Cert.ExpertsIdeal.Moe.ok_of m (Cert.Moe.in_range _ _ _ _ _ _ _ (hpre 0)).1 (Cert.Moe.in_range _ _ _ _ _ _ _ (hpre 0)).2)

/-- also under the value claim's precondition; -/
theorem ideal_frame_routed : Cert.quiescent_ExpertsIdeal_pre_routed (hExpertsIdeal := Cert.ExpertsIdeal.Gen.facts) (hPre_routed := Cert.Pre_routed.Gen.facts) := fun m ρ hpre =>
  letI := Cert.Pre_routed.Gen.facts
  Cert.ExpertsIdeal.Moe.frame_run m ρ (Cert.ExpertsIdeal.Moe.ok_of m (Cert.Moe.routed _ _ _ _ _ _ _ (hpre 0)).1 (Cert.Moe.routed _ _ _ _ _ _ _ (hpre 0)).2.1)

/-- and so does the reference, from any memory, -/
theorem ref_frame : Cert.quiescent_ExpertsRefIdeal (hExpertsRefIdeal := Cert.ExpertsRefIdeal.Gen.facts) := fun m ρ _ =>
  (θ_run _ _ _).mono (fun r h => ⟨fun c => (h c).2, sem_eq_zero_of_no_sems (by decide) r.2⟩) (Cert.ExpertsRefIdeal.Value.run m ρ)

/-- and so under the value claim's precondition. -/
theorem ref_frame_routed : Cert.quiescent_ExpertsRefIdeal_pre_routed (hExpertsRefIdeal := Cert.ExpertsRefIdeal.Gen.facts) (hPre_routed := Cert.Pre_routed.Gen.facts) := fun m ρ _ =>
  (θ_run _ _ _).mono (fun r h => ⟨fun c => (h c).2, sem_eq_zero_of_no_sems (by decide) r.2⟩) (Cert.ExpertsRefIdeal.Value.run m ρ)

/-- The final norm's program runs and leaves its arguments alone, -/
theorem norm_frame : Cert.quiescent_Norm (hNorm := Cert.Norm.Gen.facts) := fun m ρ _ => Cert.Norm.Gen.frame m ρ

/-- as do its ideal reading -/
theorem norm_ideal_frame : Cert.quiescent_NormIdeal (hNormIdeal := Cert.NormIdeal.Gen.facts) := fun m ρ _ => Cert.NormIdeal.Gen.frame m ρ

/-- and its reference. -/
theorem norm_ref_frame : Cert.quiescent_NormRefIdeal (hNormRefIdeal := Cert.NormRefIdeal.Gen.facts) := fun m ρ _ =>
  (θ_run _ _ _).mono (fun r h => ⟨fun c => (h c).2.2, sem_eq_zero_of_no_sems (by decide) r.2⟩) (Cert.NormRefIdeal.Value.run m ρ)

/-- The full-attention layer's preparation runs and leaves its arguments alone, -/
theorem prep_frame : Cert.quiescent_Prep (hPrep := Cert.Prep.Gen.facts) := fun m ρ _ => Cert.Prep.Gen.frame m ρ

/-- as do its ideal reading -/
theorem prep_ideal_frame : Cert.quiescent_PrepIdeal (hPrepIdeal := Cert.PrepIdeal.Gen.facts) := fun m ρ _ => Cert.PrepIdeal.Gen.frame m ρ

/-- and its reference; -/
theorem prep_ref_frame : Cert.quiescent_PrepRefIdeal (hPrepRefIdeal := Cert.PrepRefIdeal.Gen.facts) := fun m ρ _ =>
  (θ_run _ _ _).mono (fun r h => ⟨fun c => (h c).2.2.2.2.2, sem_eq_zero_of_no_sems (by decide) r.2⟩) (Cert.PrepRefIdeal.Value.run m ρ)

/-- its named constant is the root's reciprocal. -/
theorem prep_preserves : Cert.preserves_Prep_PrepIdeal :=
  IdealRules.named_const.statement Cert.PrepIdeal.κ "inv_root" .f32 0x3DB504F3#32 (((Real.sqrt 128)⁻¹ : ℝ) : EReal) rfl

/-- The windowed layer's preparation runs and leaves its arguments alone, -/
theorem prepw_frame : Cert.quiescent_PrepW (hPrepW := Cert.PrepW.Gen.facts) := fun m ρ _ => Cert.PrepW.Gen.frame m ρ

/-- as do its ideal reading -/
theorem prepw_ideal_frame : Cert.quiescent_PrepWIdeal (hPrepWIdeal := Cert.PrepWIdeal.Gen.facts) := fun m ρ _ => Cert.PrepWIdeal.Gen.frame m ρ

/-- and its reference; -/
theorem prepw_ref_frame : Cert.quiescent_PrepWRefIdeal (hPrepWRefIdeal := Cert.PrepWRefIdeal.Gen.facts) := fun m ρ _ =>
  (θ_run _ _ _).mono (fun r h => ⟨fun c => (h c).2.2.2.2.2, sem_eq_zero_of_no_sems (by decide) r.2⟩) (Cert.PrepWRefIdeal.Value.run m ρ)

/-- its named constant is the root's reciprocal. -/
theorem prepw_preserves : Cert.preserves_PrepW_PrepWIdeal :=
  IdealRules.named_const.statement Cert.PrepWIdeal.κ "inv_root" .f32 0x3DB504F3#32 (((Real.sqrt 128)⁻¹ : ℝ) : EReal) rfl

/-- The projection without a bias runs and leaves its arguments alone, -/
theorem qkv_frame : Cert.quiescent_Qkv (hQkv := Cert.Qkv.Gen.facts) := fun m ρ _ => Cert.Qkv.Gen.frame m ρ

/-- as do its ideal reading -/
theorem qkv_ideal_frame : Cert.quiescent_QkvIdeal (hQkvIdeal := Cert.QkvIdeal.Gen.facts) := fun m ρ _ => Cert.QkvIdeal.Gen.frame m ρ

/-- and its reference. -/
theorem qkv_ref_frame : Cert.quiescent_QkvRefIdeal (hQkvRefIdeal := Cert.QkvRefIdeal.Gen.facts) := fun m ρ _ =>
  (θ_run _ _ _).mono (fun r h => ⟨fun c => (h c).2, sem_eq_zero_of_no_sems (by decide) r.2⟩) (Cert.QkvRefIdeal.Value.run m ρ)

/-- The projection with a bias runs and leaves its arguments alone, -/
theorem hyin_frame : Cert.quiescent_HyIn (hHyIn := Cert.HyIn.Gen.facts) := fun m ρ _ => Cert.HyIn.Gen.frame m ρ

/-- as do its ideal reading -/
theorem hyin_ideal_frame : Cert.quiescent_HyInIdeal (hHyInIdeal := Cert.HyInIdeal.Gen.facts) := fun m ρ _ => Cert.HyInIdeal.Gen.frame m ρ

/-- and its reference. -/
theorem hyin_ref_frame : Cert.quiescent_HyInRefIdeal (hHyInRefIdeal := Cert.HyInRefIdeal.Gen.facts) := fun m ρ _ =>
  (θ_run _ _ _).mono (fun r h => ⟨fun c => (h c).2, sem_eq_zero_of_no_sems (by decide) r.2⟩) (Cert.HyInRefIdeal.Value.run m ρ)

/-- The projection out of a mixer runs and leaves its arguments alone, -/
theorem out_frame : Cert.quiescent_Out (hOut := Cert.Out.Gen.facts) := fun m ρ _ => Cert.Out.Gen.frame m ρ

/-- as do its ideal reading -/
theorem out_ideal_frame : Cert.quiescent_OutIdeal (hOutIdeal := Cert.OutIdeal.Gen.facts) := fun m ρ _ => Cert.OutIdeal.Gen.frame m ρ

/-- and its reference. -/
theorem out_ref_frame : Cert.quiescent_OutRefIdeal (hOutRefIdeal := Cert.OutRefIdeal.Gen.facts) := fun m ρ _ =>
  (θ_run _ _ _).mono (fun r h => ⟨fun c => (h c).2.2, sem_eq_zero_of_no_sems (by decide) r.2⟩) (Cert.OutRefIdeal.Value.run m ρ)

/-- The modulations' program runs and leaves its arguments alone, -/
theorem adaln_frame : Cert.quiescent_Adaln (hAdaln := Cert.Adaln.Gen.facts) := fun m ρ _ => Cert.Adaln.Gen.frame m ρ

/-- as do its ideal reading, -/
theorem adaln_ideal_frame : Cert.quiescent_AdalnIdeal (hAdalnIdeal := Cert.AdalnIdeal.Gen.facts) := fun m ρ _ => Cert.AdalnIdeal.Gen.frame m ρ

/-- also under the value claim's precondition, -/
theorem adaln_ideal_frame_finite : Cert.quiescent_AdalnIdeal_pre_finite (hAdalnIdeal := Cert.AdalnIdeal.Gen.facts) (hPre_finite := Cert.Pre_finite.Gen.facts) :=
  fun m ρ _ => Cert.AdalnIdeal.Gen.frame m ρ

/-- and its reference, from any memory -/
theorem adaln_ref_frame : Cert.quiescent_AdalnRefIdeal (hAdalnRefIdeal := Cert.AdalnRefIdeal.Gen.facts) := fun m ρ _ =>
  (θ_run _ _ _).mono (fun r h => ⟨fun c => (h c).2.2, sem_eq_zero_of_no_sems (by decide) r.2⟩) (Cert.AdalnRefIdeal.Value.run m ρ)

/-- and so under the value claim's precondition. -/
theorem adaln_ref_frame_finite : Cert.quiescent_AdalnRefIdeal_pre_finite (hAdalnRefIdeal := Cert.AdalnRefIdeal.Gen.facts) (hPre_finite := Cert.Pre_finite.Gen.facts) := fun m ρ _ =>
  (θ_run _ _ _).mono (fun r h => ⟨fun c => (h c).2.2, sem_eq_zero_of_no_sems (by decide) r.2⟩) (Cert.AdalnRefIdeal.Value.run m ρ)

/-- The program of the context's attention runs and leaves its arguments alone, -/
theorem attnc_frame : Cert.quiescent_AttnC (hAttnC := Cert.AttnC.Gen.facts) := fun m ρ _ => Cert.AttnC.Gen.frame m ρ

/-- as do its ideal reading, -/
theorem attnc_ideal_frame : Cert.quiescent_AttnCIdeal (hAttnCIdeal := Cert.AttnCIdeal.Gen.facts) := fun m ρ _ => Cert.AttnCIdeal.Gen.frame m ρ

/-- also under the value claim's precondition, -/
theorem attnc_ideal_frame_finite : Cert.quiescent_AttnCIdeal_pre_finite_attnc (hAttnCIdeal := Cert.AttnCIdeal.Gen.facts) (hPre_finite_attnc := Cert.Pre_finite_attnc.Gen.facts) :=
  fun m ρ _ => Cert.AttnCIdeal.Gen.frame m ρ

/-- and its reference, from any memory -/
theorem attnc_ref_frame : Cert.quiescent_AttnCRefIdeal (hAttnCRefIdeal := Cert.AttnCRefIdeal.Gen.facts) := fun m ρ _ =>
  (θ_run _ _ _).mono (fun r h => ⟨fun c => (h c).2, sem_eq_zero_of_no_sems (by decide) r.2⟩) (Cert.AttnCRefIdeal.Value.run m ρ)

/-- and so under the value claim's precondition. -/
theorem attnc_ref_frame_finite : Cert.quiescent_AttnCRefIdeal_pre_finite_attnc (hAttnCRefIdeal := Cert.AttnCRefIdeal.Gen.facts) (hPre_finite_attnc := Cert.Pre_finite_attnc.Gen.facts) := fun m ρ _ =>
  (θ_run _ _ _).mono (fun r h => ⟨fun c => (h c).2, sem_eq_zero_of_no_sems (by decide) r.2⟩) (Cert.AttnCRefIdeal.Value.run m ρ)

/-- All that is claimed. -/
theorem claim : Cert.Claim := ⟨Cert.Experts.Gen.facts, Cert.ExpertsIdeal.Gen.facts, Cert.ExpertsRefIdeal.Gen.facts, Cert.Norm.Gen.facts, Cert.NormIdeal.Gen.facts, Cert.NormRefIdeal.Gen.facts, Cert.Prep.Gen.facts, Cert.PrepIdeal.Gen.facts, Cert.PrepRefIdeal.Gen.facts, Cert.PrepW.Gen.facts, Cert.PrepWIdeal.Gen.facts, Cert.PrepWRefIdeal.Gen.facts,
  Cert.Qkv.Gen.facts, Cert.QkvIdeal.Gen.facts, Cert.QkvRefIdeal.Gen.facts, Cert.HyIn.Gen.facts, Cert.HyInIdeal.Gen.facts, Cert.HyInRefIdeal.Gen.facts, Cert.Out.Gen.facts, Cert.OutIdeal.Gen.facts, Cert.OutRefIdeal.Gen.facts,
  Cert.Adaln.Gen.facts, Cert.AdalnIdeal.Gen.facts, Cert.AdalnRefIdeal.Gen.facts,
  Cert.AttnC.Gen.facts, Cert.AttnCIdeal.Gen.facts, Cert.AttnCRefIdeal.Gen.facts, Cert.Pre_tiles_in_range.Gen.facts, Cert.Pre_routed.Gen.facts, Cert.Pre_finite.Gen.facts, Cert.Pre_finite_attnc.Gen.facts,
  experts_frame, ideal_frame, ideal_frame_routed, ref_frame, ref_frame_routed, norm_frame, norm_ideal_frame, norm_ref_frame,
  prep_frame, prep_ideal_frame, prep_ref_frame, prepw_frame, prepw_ideal_frame, prepw_ref_frame,
  qkv_frame, qkv_ideal_frame, qkv_ref_frame, hyin_frame, hyin_ideal_frame, hyin_ref_frame, out_frame, out_ideal_frame, out_ref_frame,
  adaln_frame, adaln_ideal_frame, adaln_ideal_frame_finite, adaln_ref_frame, adaln_ref_frame_finite,
  attnc_frame, attnc_ideal_frame, attnc_ideal_frame_finite, attnc_ref_frame, attnc_ref_frame_finite,
  trivial, Cert.ExpertsIdeal.Moe.algebraic, trivial, Cert.NormIdeal.Val.algebraic, prep_preserves, Cert.PrepIdeal.Val.algebraic,
  prepw_preserves, Cert.PrepWIdeal.Val.algebraic,
  trivial, Cert.QkvIdeal.Val.algebraic, trivial, Cert.HyInIdeal.Val.algebraic, trivial, Cert.OutIdeal.Val.algebraic, trivial, Cert.AdalnIdeal.Val.algebraic,
  trivial, Cert.AttnCIdeal.Val.algebraic⟩

end Cert.Proof

end
